-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 128]⟩ ⟨2, ![2048, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048 : Shape := ⟨2, ![128, 2048]⟩
abbrev S2048x128 : Shape := ⟨2, ![2048, 128]⟩
abbrev S32x64x2048 : Shape := ⟨3, ![32, 64, 2048]⟩
abbrev S32 : Shape := ⟨1, ![32]⟩
abbrev S6 : Shape := ⟨1, ![6]⟩
abbrev S4 : Shape := ⟨1, ![4]⟩
abbrev S_ : Shape := ⟨0, ![]⟩
abbrev S2x64x2048 : Shape := ⟨3, ![2, 64, 2048]⟩
abbrev S1 : Shape := ⟨1, ![1]⟩
abbrev S128x128 : Shape := ⟨2, ![128, 128]⟩
abbrev S1x64x2048 : Shape := ⟨3, ![1, 64, 2048]⟩
abbrev S64x2048 : Shape := ⟨2, ![64, 2048]⟩
abbrev S64x128 : Shape := ⟨2, ![64, 128]⟩

abbrev nBuf : Space → Nat
  | .hbm => 3
  | .vmem => 4
  | .smem => 0
  | _ => 0

abbrev bufTy : (tb : Table) → Fin (tcTables nBuf tb) → BufTy
  | .hbm, ⟨0, _⟩ => ⟨S128x2048, .f32⟩
  | .hbm, ⟨1, _⟩ => ⟨S2048x128, .f32⟩
  | .hbm, ⟨2, _⟩ => ⟨S2048x128, .f32⟩
  | .local _ .vmem, ⟨0, _⟩ => ⟨S128x2048, .f32⟩
  | .local _ .vmem, ⟨1, _⟩ => ⟨S2048x128, .f32⟩
  | .local _ .vmem, ⟨2, _⟩ => ⟨S2048x128, .f32⟩
  | .local _ .vmem, ⟨3, _⟩ => ⟨S32x64x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v22 : BitVec 32 := Scalar.addi v20 c3_i32
  let c4_i32_6 : BitVec 32 := 4#32
  let v23 : BitVec 32 := Scalar.remsi v22 c4_i32_6
  let v24 : BitVec 32 := Scalar.addi v21 v23
  let c1_i32_10 : BitVec 32 := 1#32
  let v29 : BitVec 32 := Scalar.muli v24 c1_i32_10
  let v30 : BitVec 32 := Scalar.addi c0_i32_11 v29
  v30.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_7 : BitVec 32 := 1#32
  let v25 : BitVec 32 := Scalar.addi v20 c1_i32_7
  let c4_i32_8 : BitVec 32 := 4#32
  let v26 : BitVec 32 := Scalar.remsi v25 c4_i32_8
  let v27 : BitVec 32 := Scalar.addi v21 v26
  let c1_i32_13 : BitVec 32 := 1#32
  let v31 : BitVec 32 := Scalar.muli v27 c1_i32_13
  let v32 : BitVec 32 := Scalar.addi c0_i32_14 v31
  v32.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_16 : BitVec 32 := 0#32
  let v34 : BitVec 1 := Scalar.cmpi .ne v19 c0_i32_16
  let v35 : BitVec 32 := Scalar.extui v34
  let c0_i32_17 : BitVec 32 := 0#32
  let v36 : BitVec 1 := Scalar.cmpi .ne v35 c0_i32_17
  v36

def k0_dev3 (d0 : Dev nD) : Nat :=
  let c0_i32_741 : BitVec 32 := 0#32
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v33 : BitVec 32 := Scalar.addi c0_i32_15 v20
  let c1_i32_740 : BitVec 32 := 1#32
  let v1000 : BitVec 32 := Scalar.muli v33 c1_i32_740
  let v1001 : BitVec 32 := Scalar.addi c0_i32_741 v1000
  v1001.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_19 : BitVec 32 := 1#32
  let v38 : BitVec 1 := Scalar.cmpi .ne v19 c1_i32_19
  let v39 : BitVec 32 := Scalar.extui v38
  let c0_i32_20 : BitVec 32 := 0#32
  let v40 : BitVec 1 := Scalar.cmpi .ne v39 c0_i32_20
  v40

def k0_dev4 (d0 : Dev nD) : Nat :=
  let c0_i32_741 : BitVec 32 := 0#32
  let c4_i32_18 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v37 : BitVec 32 := Scalar.addi c4_i32_18 v20
  let c1_i32_740 : BitVec 32 := 1#32
  let v1000 : BitVec 32 := Scalar.muli v37 c1_i32_740
  let v1001 : BitVec 32 := Scalar.addi c0_i32_741 v1000
  v1001.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v42 : BitVec 1 := Scalar.cmpi .ne v19 c2_i32
  let v43 : BitVec 32 := Scalar.extui v42
  let c0_i32_21 : BitVec 32 := 0#32
  let v44 : BitVec 1 := Scalar.cmpi .ne v43 c0_i32_21
  v44

def k0_dev5 (d0 : Dev nD) : Nat :=
  let c0_i32_741 : BitVec 32 := 0#32
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v41 : BitVec 32 := Scalar.addi c8_i32 v20
  let c1_i32_740 : BitVec 32 := 1#32
  let v1000 : BitVec 32 := Scalar.muli v41 c1_i32_740
  let v1001 : BitVec 32 := Scalar.addi c0_i32_741 v1000
  v1001.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_22 : BitVec 32 := 3#32
  let v46 : BitVec 1 := Scalar.cmpi .ne v19 c3_i32_22
  let v47 : BitVec 32 := Scalar.extui v46
  let c0_i32_23 : BitVec 32 := 0#32
  let v48 : BitVec 1 := Scalar.cmpi .ne v47 c0_i32_23
  v48

def k0_dev6 (d0 : Dev nD) : Nat :=
  let c0_i32_741 : BitVec 32 := 0#32
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v45 : BitVec 32 := Scalar.addi c12_i32 v20
  let c1_i32_740 : BitVec 32 := 1#32
  let v1000 : BitVec 32 := Scalar.muli v45 c1_i32_740
  let v1001 : BitVec 32 := Scalar.addi c0_i32_741 v1000
  v1001.toNat
def k0_off1 (d0 : Dev nD) : Fin 3 → Nat :=
  let c2_i32_25 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v52 : BitVec 32 := Scalar.muli c2_i32_25 v2
  let v53 : Index := Scalar.indexCast v52
  let c0_26 : Index := 0#32
  let c0_27 : Index := 0#32
  ![v53.toNat, 0, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_28 : BitVec 32 := 1#32
  let v57 : BitVec 32 := Scalar.addi v19 c1_i32_28
  let c3_i32_29 : BitVec 32 := 3#32
  let v58 : BitVec 1 := Scalar.cmpi .sle v57 c3_i32_29
  let v59 : BitVec 32 := Scalar.extui v58
  let c0_i32_30 : BitVec 32 := 0#32
  let v60 : BitVec 1 := Scalar.cmpi .ne v59 c0_i32_30
  v60

def k0_off2 (d0 : Dev nD) : Fin 1 → Nat :=
  let c2_i32_742 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1003 : BitVec 32 := Scalar.muli c2_i32_742 v2
  ![v1003.toNat]
def k0_off3 (d0 : Dev nD) : Fin 3 → Nat :=
  let c2_i32_741 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1002 : BitVec 32 := Scalar.muli c2_i32_741 v2
  let c0_i32_746 : BitVec 32 := 0#32
  let c0_i32_747 : BitVec 32 := 0#32
  ![v1002.toNat, 0, 0]
def k0_dev7 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_739 : BitVec 32 := 4#32
  let v1000 : BitVec 32 := Scalar.addi v2 c4_i32_739
  let c1_i32_744 : BitVec 32 := 1#32
  let v1004 : BitVec 32 := Scalar.muli v1000 c1_i32_744
  let v1005 : BitVec 32 := Scalar.addi c0_i32_745 v1004
  v1005.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_31 : BitVec 32 := 1#32
  let v61 : BitVec 32 := Scalar.subi v19 c1_i32_31
  let c0_i32_32 : BitVec 32 := 0#32
  let v62 : BitVec 1 := Scalar.cmpi .sge v61 c0_i32_32
  let v63 : BitVec 32 := Scalar.extui v62
  let c0_i32_33 : BitVec 32 := 0#32
  let v64 : BitVec 1 := Scalar.cmpi .ne v63 c0_i32_33
  v64

def k0_off4 (d0 : Dev nD) : Fin 1 → Nat :=
  let c2_i32_742 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1003 : BitVec 32 := Scalar.muli c2_i32_742 v2
  ![v1003.toNat]
def k0_off5 (d0 : Dev nD) : Fin 3 → Nat :=
  let c2_i32_741 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1002 : BitVec 32 := Scalar.muli c2_i32_741 v2
  let c0_i32_746 : BitVec 32 := 0#32
  let c0_i32_747 : BitVec 32 := 0#32
  ![v1002.toNat, 0, 0]
def k0_dev8 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_739 : BitVec 32 := 4#32
  let v1000 : BitVec 32 := Scalar.subi v2 c4_i32_739
  let c1_i32_744 : BitVec 32 := 1#32
  let v1004 : BitVec 32 := Scalar.muli v1000 c1_i32_744
  let v1005 : BitVec 32 := Scalar.addi c0_i32_745 v1004
  v1005.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_34 : BitVec 32 := 2#32
  let v65 : BitVec 32 := Scalar.addi v19 c2_i32_34
  let c3_i32_35 : BitVec 32 := 3#32
  let v66 : BitVec 1 := Scalar.cmpi .sle v65 c3_i32_35
  let v67 : BitVec 32 := Scalar.extui v66
  let c0_i32_36 : BitVec 32 := 0#32
  let v68 : BitVec 1 := Scalar.cmpi .ne v67 c0_i32_36
  v68

def k0_off6 (d0 : Dev nD) : Fin 1 → Nat :=
  let c2_i32_742 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1003 : BitVec 32 := Scalar.muli c2_i32_742 v2
  ![v1003.toNat]
def k0_off7 (d0 : Dev nD) : Fin 3 → Nat :=
  let c2_i32_741 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1002 : BitVec 32 := Scalar.muli c2_i32_741 v2
  let c0_i32_746 : BitVec 32 := 0#32
  let c0_i32_747 : BitVec 32 := 0#32
  ![v1002.toNat, 0, 0]
def k0_dev9 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_739 : BitVec 32 := 8#32
  let v1000 : BitVec 32 := Scalar.addi v2 c8_i32_739
  let c1_i32_744 : BitVec 32 := 1#32
  let v1004 : BitVec 32 := Scalar.muli v1000 c1_i32_744
  let v1005 : BitVec 32 := Scalar.addi c0_i32_745 v1004
  v1005.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_37 : BitVec 32 := 2#32
  let v69 : BitVec 32 := Scalar.subi v19 c2_i32_37
  let c0_i32_38 : BitVec 32 := 0#32
  let v70 : BitVec 1 := Scalar.cmpi .sge v69 c0_i32_38
  let v71 : BitVec 32 := Scalar.extui v70
  let c0_i32_39 : BitVec 32 := 0#32
  let v72 : BitVec 1 := Scalar.cmpi .ne v71 c0_i32_39
  v72

def k0_off8 (d0 : Dev nD) : Fin 1 → Nat :=
  let c2_i32_742 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1003 : BitVec 32 := Scalar.muli c2_i32_742 v2
  ![v1003.toNat]
def k0_off9 (d0 : Dev nD) : Fin 3 → Nat :=
  let c2_i32_741 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1002 : BitVec 32 := Scalar.muli c2_i32_741 v2
  let c0_i32_746 : BitVec 32 := 0#32
  let c0_i32_747 : BitVec 32 := 0#32
  ![v1002.toNat, 0, 0]
def k0_dev10 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_739 : BitVec 32 := 8#32
  let v1000 : BitVec 32 := Scalar.subi v2 c8_i32_739
  let c1_i32_744 : BitVec 32 := 1#32
  let v1004 : BitVec 32 := Scalar.muli v1000 c1_i32_744
  let v1005 : BitVec 32 := Scalar.addi c0_i32_745 v1004
  v1005.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_40 : BitVec 32 := 3#32
  let v73 : BitVec 32 := Scalar.addi v19 c3_i32_40
  let c3_i32_41 : BitVec 32 := 3#32
  let v74 : BitVec 1 := Scalar.cmpi .sle v73 c3_i32_41
  let v75 : BitVec 32 := Scalar.extui v74
  let c0_i32_42 : BitVec 32 := 0#32
  let v76 : BitVec 1 := Scalar.cmpi .ne v75 c0_i32_42
  v76

def k0_off10 (d0 : Dev nD) : Fin 1 → Nat :=
  let c2_i32_742 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1003 : BitVec 32 := Scalar.muli c2_i32_742 v2
  ![v1003.toNat]
def k0_off11 (d0 : Dev nD) : Fin 3 → Nat :=
  let c2_i32_741 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1002 : BitVec 32 := Scalar.muli c2_i32_741 v2
  let c0_i32_746 : BitVec 32 := 0#32
  let c0_i32_747 : BitVec 32 := 0#32
  ![v1002.toNat, 0, 0]
def k0_dev11 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_739 : BitVec 32 := 12#32
  let v1000 : BitVec 32 := Scalar.addi v2 c12_i32_739
  let c1_i32_744 : BitVec 32 := 1#32
  let v1004 : BitVec 32 := Scalar.muli v1000 c1_i32_744
  let v1005 : BitVec 32 := Scalar.addi c0_i32_745 v1004
  v1005.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_43 : BitVec 32 := 3#32
  let v77 : BitVec 32 := Scalar.subi v19 c3_i32_43
  let c0_i32_44 : BitVec 32 := 0#32
  let v78 : BitVec 1 := Scalar.cmpi .sge v77 c0_i32_44
  let v79 : BitVec 32 := Scalar.extui v78
  let c0_i32_45 : BitVec 32 := 0#32
  let v80 : BitVec 1 := Scalar.cmpi .ne v79 c0_i32_45
  v80

def k0_off12 (d0 : Dev nD) : Fin 1 → Nat :=
  let c2_i32_742 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1003 : BitVec 32 := Scalar.muli c2_i32_742 v2
  ![v1003.toNat]
def k0_off13 (d0 : Dev nD) : Fin 3 → Nat :=
  let c2_i32_741 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1002 : BitVec 32 := Scalar.muli c2_i32_741 v2
  let c0_i32_746 : BitVec 32 := 0#32
  let c0_i32_747 : BitVec 32 := 0#32
  ![v1002.toNat, 0, 0]
def k0_dev12 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_739 : BitVec 32 := 12#32
  let v1000 : BitVec 32 := Scalar.subi v2 c12_i32_739
  let c1_i32_744 : BitVec 32 := 1#32
  let v1004 : BitVec 32 := Scalar.muli v1000 c1_i32_744
  let v1005 : BitVec 32 := Scalar.addi c0_i32_745 v1004
  v1005.toNat
def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off15 (d0 : Dev nD) : Fin 1 → Nat :=
  let c2_i32_48 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v83 : BitVec 32 := Scalar.muli c2_i32_48 v2
  ![v83.toNat]
def k0_off16 (d0 : Dev nD) : Fin 3 → Nat :=
  let c2_i32_47 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v82 : BitVec 32 := Scalar.muli c2_i32_47 v2
  let c0_i32_51 : BitVec 32 := 0#32
  let c0_i32_52 : BitVec 32 := 0#32
  ![v82.toNat, 0, 0]
def k0_dev13 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_7 : BitVec 32 := 1#32
  let v25 : BitVec 32 := Scalar.addi v20 c1_i32_7
  let c4_i32_8 : BitVec 32 := 4#32
  let v26 : BitVec 32 := Scalar.remsi v25 c4_i32_8
  let v27 : BitVec 32 := Scalar.addi v21 v26
  let c1_i32_49 : BitVec 32 := 1#32
  let v84 : BitVec 32 := Scalar.muli v27 c1_i32_49
  let v85 : BitVec 32 := Scalar.addi c0_i32_50 v84
  v85.toNat
def k0_dev14 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v22 : BitVec 32 := Scalar.addi v20 c3_i32
  let c4_i32_6 : BitVec 32 := 4#32
  let v23 : BitVec 32 := Scalar.remsi v22 c4_i32_6
  let v24 : BitVec 32 := Scalar.addi v21 v23
  let c1_i32_58 : BitVec 32 := 1#32
  let v95 : BitVec 32 := Scalar.muli v24 c1_i32_58
  let v96 : BitVec 32 := Scalar.addi c0_i32_59 v95
  v96.toNat
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v123 : BitVec 32 := Scalar.muli v2 c128_i32
  let v124 : Index := Scalar.indexCast v123
  let c0_73 : Index := 0#32
  ![v124.toNat, 0]
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_76 : BitVec 32 := 1#32
  let v128 : BitVec 32 := Scalar.addi v19 c1_i32_76
  let c0_i32_77 : BitVec 32 := 0#32
  let v129 : BitVec 32 := Scalar.addi v128 c0_i32_77
  let c3_i32_78 : BitVec 32 := 3#32
  let v130 : BitVec 1 := Scalar.cmpi .sle v129 c3_i32_78
  let v136 : BitVec 32 := Scalar.extui v130
  let c0_i32_84 : BitVec 32 := 0#32
  let v137 : BitVec 1 := Scalar.cmpi .ne v136 c0_i32_84
  v137

def k0_off18 (d0 : Dev nD) : Fin 1 → Nat :=
  let c2_i32_742 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_74 : BitVec 32 := 1#32
  let v126 : BitVec 32 := Scalar.addi v19 c1_i32_74
  let c0_i32_75 : BitVec 32 := 0#32
  let v127 : BitVec 32 := Scalar.addi v126 c0_i32_75
  let v1000 : BitVec 32 := Scalar.muli c4_i32_739 v127
  let c4_i32_5 : BitVec 32 := 4#32
  let v20 : BitVec 32 := Scalar.remsi v2 c4_i32_5
  let v1001 : BitVec 32 := Scalar.addi v1000 v20
  let v1004 : BitVec 32 := Scalar.muli c2_i32_742 v1001
  ![v1004.toNat]
def k0_off19 (d0 : Dev nD) : Fin 3 → Nat :=
  let c2_i32_741 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_74 : BitVec 32 := 1#32
  let v126 : BitVec 32 := Scalar.addi v19 c1_i32_74
  let c0_i32_75 : BitVec 32 := 0#32
  let v127 : BitVec 32 := Scalar.addi v126 c0_i32_75
  let v1000 : BitVec 32 := Scalar.muli c4_i32_739 v127
  let c4_i32_5 : BitVec 32 := 4#32
  let v20 : BitVec 32 := Scalar.remsi v2 c4_i32_5
  let v1001 : BitVec 32 := Scalar.addi v1000 v20
  let v1003 : BitVec 32 := Scalar.muli c2_i32_741 v1001
  let c0_i32_746 : BitVec 32 := 0#32
  let c0_i32_747 : BitVec 32 := 0#32
  ![v1003.toNat, 0, 0]
def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_74 : BitVec 32 := 1#32
  let v126 : BitVec 32 := Scalar.addi v19 c1_i32_74
  let c0_i32_75 : BitVec 32 := 0#32
  let v127 : BitVec 32 := Scalar.addi v126 c0_i32_75
  ![v127.toNat]
def k0_dev15 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_7 : BitVec 32 := 1#32
  let v25 : BitVec 32 := Scalar.addi v20 c1_i32_7
  let c4_i32_8 : BitVec 32 := 4#32
  let v26 : BitVec 32 := Scalar.remsi v25 c4_i32_8
  let v27 : BitVec 32 := Scalar.addi v21 v26
  let c1_i32_753 : BitVec 32 := 1#32
  let v1014 : BitVec 32 := Scalar.muli v27 c1_i32_753
  let v1015 : BitVec 32 := Scalar.addi c0_i32_754 v1014
  v1015.toNat
def k0_dev16 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v22 : BitVec 32 := Scalar.addi v20 c3_i32
  let c4_i32_6 : BitVec 32 := 4#32
  let v23 : BitVec 32 := Scalar.remsi v22 c4_i32_6
  let v24 : BitVec 32 := Scalar.addi v21 v23
  let c1_i32_762 : BitVec 32 := 1#32
  let v1025 : BitVec 32 := Scalar.muli v24 c1_i32_762
  let v1026 : BitVec 32 := Scalar.addi c0_i32_763 v1025
  v1026.toNat
def k0_off21 (d0 : Dev nD) : Fin 3 → Nat :=
  let c2_i32_768 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_74 : BitVec 32 := 1#32
  let v126 : BitVec 32 := Scalar.addi v19 c1_i32_74
  let c0_i32_75 : BitVec 32 := 0#32
  let v127 : BitVec 32 := Scalar.addi v126 c0_i32_75
  let v1000 : BitVec 32 := Scalar.muli c4_i32_739 v127
  let c4_i32_5 : BitVec 32 := 4#32
  let v20 : BitVec 32 := Scalar.remsi v2 c4_i32_5
  let v1001 : BitVec 32 := Scalar.addi v1000 v20
  let v1033 : BitVec 32 := Scalar.muli c2_i32_768 v1001
  let v1034 : Index := Scalar.indexCast v1033
  let c0_769 : Index := 0#32
  let c0_770 : Index := 0#32
  ![v1034.toNat, 0, 0]
def k0_off22 (d0 : Dev nD) : Fin 2 → Nat :=
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_74 : BitVec 32 := 1#32
  let v126 : BitVec 32 := Scalar.addi v19 c1_i32_74
  let c0_i32_75 : BitVec 32 := 0#32
  let v127 : BitVec 32 := Scalar.addi v126 c0_i32_75
  let v1000 : BitVec 32 := Scalar.muli c4_i32_739 v127
  let c4_i32_5 : BitVec 32 := 4#32
  let v20 : BitVec 32 := Scalar.remsi v2 c4_i32_5
  let v1001 : BitVec 32 := Scalar.addi v1000 v20
  let c128_i32_778 : BitVec 32 := 128#32
  let v1053 : BitVec 32 := Scalar.muli v1001 c128_i32_778
  let v1054 : Index := Scalar.indexCast v1053
  let c0_779 : Index := 0#32
  ![v1054.toNat, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_81 : BitVec 32 := 1#32
  let v133 : BitVec 32 := Scalar.subi v19 c1_i32_81
  let c0_i32_82 : BitVec 32 := 0#32
  let v134 : BitVec 32 := Scalar.subi v133 c0_i32_82
  let c0_i32_83 : BitVec 32 := 0#32
  let v135 : BitVec 1 := Scalar.cmpi .sge v134 c0_i32_83
  let v138 : BitVec 32 := Scalar.extui v135
  let c0_i32_85 : BitVec 32 := 0#32
  let v139 : BitVec 1 := Scalar.cmpi .ne v138 c0_i32_85
  v139

def k0_off23 (d0 : Dev nD) : Fin 1 → Nat :=
  let c2_i32_742 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_79 : BitVec 32 := 1#32
  let v131 : BitVec 32 := Scalar.subi v19 c1_i32_79
  let c0_i32_80 : BitVec 32 := 0#32
  let v132 : BitVec 32 := Scalar.subi v131 c0_i32_80
  let v1000 : BitVec 32 := Scalar.muli c4_i32_739 v132
  let c4_i32_5 : BitVec 32 := 4#32
  let v20 : BitVec 32 := Scalar.remsi v2 c4_i32_5
  let v1001 : BitVec 32 := Scalar.addi v1000 v20
  let v1004 : BitVec 32 := Scalar.muli c2_i32_742 v1001
  ![v1004.toNat]
def k0_off24 (d0 : Dev nD) : Fin 3 → Nat :=
  let c2_i32_741 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_79 : BitVec 32 := 1#32
  let v131 : BitVec 32 := Scalar.subi v19 c1_i32_79
  let c0_i32_80 : BitVec 32 := 0#32
  let v132 : BitVec 32 := Scalar.subi v131 c0_i32_80
  let v1000 : BitVec 32 := Scalar.muli c4_i32_739 v132
  let c4_i32_5 : BitVec 32 := 4#32
  let v20 : BitVec 32 := Scalar.remsi v2 c4_i32_5
  let v1001 : BitVec 32 := Scalar.addi v1000 v20
  let v1003 : BitVec 32 := Scalar.muli c2_i32_741 v1001
  let c0_i32_746 : BitVec 32 := 0#32
  let c0_i32_747 : BitVec 32 := 0#32
  ![v1003.toNat, 0, 0]
def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_79 : BitVec 32 := 1#32
  let v131 : BitVec 32 := Scalar.subi v19 c1_i32_79
  let c0_i32_80 : BitVec 32 := 0#32
  let v132 : BitVec 32 := Scalar.subi v131 c0_i32_80
  ![v132.toNat]
def k0_dev17 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_7 : BitVec 32 := 1#32
  let v25 : BitVec 32 := Scalar.addi v20 c1_i32_7
  let c4_i32_8 : BitVec 32 := 4#32
  let v26 : BitVec 32 := Scalar.remsi v25 c4_i32_8
  let v27 : BitVec 32 := Scalar.addi v21 v26
  let c1_i32_753 : BitVec 32 := 1#32
  let v1014 : BitVec 32 := Scalar.muli v27 c1_i32_753
  let v1015 : BitVec 32 := Scalar.addi c0_i32_754 v1014
  v1015.toNat
def k0_dev18 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v22 : BitVec 32 := Scalar.addi v20 c3_i32
  let c4_i32_6 : BitVec 32 := 4#32
  let v23 : BitVec 32 := Scalar.remsi v22 c4_i32_6
  let v24 : BitVec 32 := Scalar.addi v21 v23
  let c1_i32_762 : BitVec 32 := 1#32
  let v1025 : BitVec 32 := Scalar.muli v24 c1_i32_762
  let v1026 : BitVec 32 := Scalar.addi c0_i32_763 v1025
  v1026.toNat
def k0_off26 (d0 : Dev nD) : Fin 3 → Nat :=
  let c2_i32_768 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_79 : BitVec 32 := 1#32
  let v131 : BitVec 32 := Scalar.subi v19 c1_i32_79
  let c0_i32_80 : BitVec 32 := 0#32
  let v132 : BitVec 32 := Scalar.subi v131 c0_i32_80
  let v1000 : BitVec 32 := Scalar.muli c4_i32_739 v132
  let c4_i32_5 : BitVec 32 := 4#32
  let v20 : BitVec 32 := Scalar.remsi v2 c4_i32_5
  let v1001 : BitVec 32 := Scalar.addi v1000 v20
  let v1033 : BitVec 32 := Scalar.muli c2_i32_768 v1001
  let v1034 : Index := Scalar.indexCast v1033
  let c0_769 : Index := 0#32
  let c0_770 : Index := 0#32
  ![v1034.toNat, 0, 0]
def k0_off27 (d0 : Dev nD) : Fin 2 → Nat :=
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_79 : BitVec 32 := 1#32
  let v131 : BitVec 32 := Scalar.subi v19 c1_i32_79
  let c0_i32_80 : BitVec 32 := 0#32
  let v132 : BitVec 32 := Scalar.subi v131 c0_i32_80
  let v1000 : BitVec 32 := Scalar.muli c4_i32_739 v132
  let c4_i32_5 : BitVec 32 := 4#32
  let v20 : BitVec 32 := Scalar.remsi v2 c4_i32_5
  let v1001 : BitVec 32 := Scalar.addi v1000 v20
  let c128_i32_778 : BitVec 32 := 128#32
  let v1053 : BitVec 32 := Scalar.muli v1001 c128_i32_778
  let v1054 : Index := Scalar.indexCast v1053
  let c0_779 : Index := 0#32
  ![v1054.toNat, 0]
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_88 : BitVec 32 := 1#32
  let v142 : BitVec 32 := Scalar.addi v19 c1_i32_88
  let c1_i32_89 : BitVec 32 := 1#32
  let v143 : BitVec 32 := Scalar.addi v142 c1_i32_89
  let c3_i32_90 : BitVec 32 := 3#32
  let v144 : BitVec 1 := Scalar.cmpi .sle v143 c3_i32_90
  let v150 : BitVec 32 := Scalar.extui v144
  let c0_i32_96 : BitVec 32 := 0#32
  let v151 : BitVec 1 := Scalar.cmpi .ne v150 c0_i32_96
  v151

def k0_off28 (d0 : Dev nD) : Fin 1 → Nat :=
  let c2_i32_742 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_86 : BitVec 32 := 1#32
  let v140 : BitVec 32 := Scalar.addi v19 c1_i32_86
  let c1_i32_87 : BitVec 32 := 1#32
  let v141 : BitVec 32 := Scalar.addi v140 c1_i32_87
  let v1000 : BitVec 32 := Scalar.muli c4_i32_739 v141
  let c4_i32_5 : BitVec 32 := 4#32
  let v20 : BitVec 32 := Scalar.remsi v2 c4_i32_5
  let v1001 : BitVec 32 := Scalar.addi v1000 v20
  let v1004 : BitVec 32 := Scalar.muli c2_i32_742 v1001
  ![v1004.toNat]
def k0_off29 (d0 : Dev nD) : Fin 3 → Nat :=
  let c2_i32_741 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_86 : BitVec 32 := 1#32
  let v140 : BitVec 32 := Scalar.addi v19 c1_i32_86
  let c1_i32_87 : BitVec 32 := 1#32
  let v141 : BitVec 32 := Scalar.addi v140 c1_i32_87
  let v1000 : BitVec 32 := Scalar.muli c4_i32_739 v141
  let c4_i32_5 : BitVec 32 := 4#32
  let v20 : BitVec 32 := Scalar.remsi v2 c4_i32_5
  let v1001 : BitVec 32 := Scalar.addi v1000 v20
  let v1003 : BitVec 32 := Scalar.muli c2_i32_741 v1001
  let c0_i32_746 : BitVec 32 := 0#32
  let c0_i32_747 : BitVec 32 := 0#32
  ![v1003.toNat, 0, 0]
def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_86 : BitVec 32 := 1#32
  let v140 : BitVec 32 := Scalar.addi v19 c1_i32_86
  let c1_i32_87 : BitVec 32 := 1#32
  let v141 : BitVec 32 := Scalar.addi v140 c1_i32_87
  ![v141.toNat]
def k0_dev19 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_7 : BitVec 32 := 1#32
  let v25 : BitVec 32 := Scalar.addi v20 c1_i32_7
  let c4_i32_8 : BitVec 32 := 4#32
  let v26 : BitVec 32 := Scalar.remsi v25 c4_i32_8
  let v27 : BitVec 32 := Scalar.addi v21 v26
  let c1_i32_753 : BitVec 32 := 1#32
  let v1014 : BitVec 32 := Scalar.muli v27 c1_i32_753
  let v1015 : BitVec 32 := Scalar.addi c0_i32_754 v1014
  v1015.toNat
def k0_dev20 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v22 : BitVec 32 := Scalar.addi v20 c3_i32
  let c4_i32_6 : BitVec 32 := 4#32
  let v23 : BitVec 32 := Scalar.remsi v22 c4_i32_6
  let v24 : BitVec 32 := Scalar.addi v21 v23
  let c1_i32_762 : BitVec 32 := 1#32
  let v1025 : BitVec 32 := Scalar.muli v24 c1_i32_762
  let v1026 : BitVec 32 := Scalar.addi c0_i32_763 v1025
  v1026.toNat
def k0_off31 (d0 : Dev nD) : Fin 3 → Nat :=
  let c2_i32_768 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_86 : BitVec 32 := 1#32
  let v140 : BitVec 32 := Scalar.addi v19 c1_i32_86
  let c1_i32_87 : BitVec 32 := 1#32
  let v141 : BitVec 32 := Scalar.addi v140 c1_i32_87
  let v1000 : BitVec 32 := Scalar.muli c4_i32_739 v141
  let c4_i32_5 : BitVec 32 := 4#32
  let v20 : BitVec 32 := Scalar.remsi v2 c4_i32_5
  let v1001 : BitVec 32 := Scalar.addi v1000 v20
  let v1033 : BitVec 32 := Scalar.muli c2_i32_768 v1001
  let v1034 : Index := Scalar.indexCast v1033
  let c0_769 : Index := 0#32
  let c0_770 : Index := 0#32
  ![v1034.toNat, 0, 0]
def k0_off32 (d0 : Dev nD) : Fin 2 → Nat :=
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_86 : BitVec 32 := 1#32
  let v140 : BitVec 32 := Scalar.addi v19 c1_i32_86
  let c1_i32_87 : BitVec 32 := 1#32
  let v141 : BitVec 32 := Scalar.addi v140 c1_i32_87
  let v1000 : BitVec 32 := Scalar.muli c4_i32_739 v141
  let c4_i32_5 : BitVec 32 := 4#32
  let v20 : BitVec 32 := Scalar.remsi v2 c4_i32_5
  let v1001 : BitVec 32 := Scalar.addi v1000 v20
  let c128_i32_778 : BitVec 32 := 128#32
  let v1053 : BitVec 32 := Scalar.muli v1001 c128_i32_778
  let v1054 : Index := Scalar.indexCast v1053
  let c0_779 : Index := 0#32
  ![v1054.toNat, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_93 : BitVec 32 := 1#32
  let v147 : BitVec 32 := Scalar.subi v19 c1_i32_93
  let c1_i32_94 : BitVec 32 := 1#32
  let v148 : BitVec 32 := Scalar.subi v147 c1_i32_94
  let c0_i32_95 : BitVec 32 := 0#32
  let v149 : BitVec 1 := Scalar.cmpi .sge v148 c0_i32_95
  let v152 : BitVec 32 := Scalar.extui v149
  let c0_i32_97 : BitVec 32 := 0#32
  let v153 : BitVec 1 := Scalar.cmpi .ne v152 c0_i32_97
  v153

def k0_off33 (d0 : Dev nD) : Fin 1 → Nat :=
  let c2_i32_742 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_91 : BitVec 32 := 1#32
  let v145 : BitVec 32 := Scalar.subi v19 c1_i32_91
  let c1_i32_92 : BitVec 32 := 1#32
  let v146 : BitVec 32 := Scalar.subi v145 c1_i32_92
  let v1000 : BitVec 32 := Scalar.muli c4_i32_739 v146
  let c4_i32_5 : BitVec 32 := 4#32
  let v20 : BitVec 32 := Scalar.remsi v2 c4_i32_5
  let v1001 : BitVec 32 := Scalar.addi v1000 v20
  let v1004 : BitVec 32 := Scalar.muli c2_i32_742 v1001
  ![v1004.toNat]
def k0_off34 (d0 : Dev nD) : Fin 3 → Nat :=
  let c2_i32_741 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_91 : BitVec 32 := 1#32
  let v145 : BitVec 32 := Scalar.subi v19 c1_i32_91
  let c1_i32_92 : BitVec 32 := 1#32
  let v146 : BitVec 32 := Scalar.subi v145 c1_i32_92
  let v1000 : BitVec 32 := Scalar.muli c4_i32_739 v146
  let c4_i32_5 : BitVec 32 := 4#32
  let v20 : BitVec 32 := Scalar.remsi v2 c4_i32_5
  let v1001 : BitVec 32 := Scalar.addi v1000 v20
  let v1003 : BitVec 32 := Scalar.muli c2_i32_741 v1001
  let c0_i32_746 : BitVec 32 := 0#32
  let c0_i32_747 : BitVec 32 := 0#32
  ![v1003.toNat, 0, 0]
def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_91 : BitVec 32 := 1#32
  let v145 : BitVec 32 := Scalar.subi v19 c1_i32_91
  let c1_i32_92 : BitVec 32 := 1#32
  let v146 : BitVec 32 := Scalar.subi v145 c1_i32_92
  ![v146.toNat]
def k0_dev21 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_7 : BitVec 32 := 1#32
  let v25 : BitVec 32 := Scalar.addi v20 c1_i32_7
  let c4_i32_8 : BitVec 32 := 4#32
  let v26 : BitVec 32 := Scalar.remsi v25 c4_i32_8
  let v27 : BitVec 32 := Scalar.addi v21 v26
  let c1_i32_753 : BitVec 32 := 1#32
  let v1014 : BitVec 32 := Scalar.muli v27 c1_i32_753
  let v1015 : BitVec 32 := Scalar.addi c0_i32_754 v1014
  v1015.toNat
def k0_dev22 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v22 : BitVec 32 := Scalar.addi v20 c3_i32
  let c4_i32_6 : BitVec 32 := 4#32
  let v23 : BitVec 32 := Scalar.remsi v22 c4_i32_6
  let v24 : BitVec 32 := Scalar.addi v21 v23
  let c1_i32_762 : BitVec 32 := 1#32
  let v1025 : BitVec 32 := Scalar.muli v24 c1_i32_762
  let v1026 : BitVec 32 := Scalar.addi c0_i32_763 v1025
  v1026.toNat
def k0_off36 (d0 : Dev nD) : Fin 3 → Nat :=
  let c2_i32_768 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_91 : BitVec 32 := 1#32
  let v145 : BitVec 32 := Scalar.subi v19 c1_i32_91
  let c1_i32_92 : BitVec 32 := 1#32
  let v146 : BitVec 32 := Scalar.subi v145 c1_i32_92
  let v1000 : BitVec 32 := Scalar.muli c4_i32_739 v146
  let c4_i32_5 : BitVec 32 := 4#32
  let v20 : BitVec 32 := Scalar.remsi v2 c4_i32_5
  let v1001 : BitVec 32 := Scalar.addi v1000 v20
  let v1033 : BitVec 32 := Scalar.muli c2_i32_768 v1001
  let v1034 : Index := Scalar.indexCast v1033
  let c0_769 : Index := 0#32
  let c0_770 : Index := 0#32
  ![v1034.toNat, 0, 0]
def k0_off37 (d0 : Dev nD) : Fin 2 → Nat :=
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_91 : BitVec 32 := 1#32
  let v145 : BitVec 32 := Scalar.subi v19 c1_i32_91
  let c1_i32_92 : BitVec 32 := 1#32
  let v146 : BitVec 32 := Scalar.subi v145 c1_i32_92
  let v1000 : BitVec 32 := Scalar.muli c4_i32_739 v146
  let c4_i32_5 : BitVec 32 := 4#32
  let v20 : BitVec 32 := Scalar.remsi v2 c4_i32_5
  let v1001 : BitVec 32 := Scalar.addi v1000 v20
  let c128_i32_778 : BitVec 32 := 128#32
  let v1053 : BitVec 32 := Scalar.muli v1001 c128_i32_778
  let v1054 : Index := Scalar.indexCast v1053
  let c0_779 : Index := 0#32
  ![v1054.toNat, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_100 : BitVec 32 := 1#32
  let v156 : BitVec 32 := Scalar.addi v19 c1_i32_100
  let c2_i32_101 : BitVec 32 := 2#32
  let v157 : BitVec 32 := Scalar.addi v156 c2_i32_101
  let c3_i32_102 : BitVec 32 := 3#32
  let v158 : BitVec 1 := Scalar.cmpi .sle v157 c3_i32_102
  let v164 : BitVec 32 := Scalar.extui v158
  let c0_i32_108 : BitVec 32 := 0#32
  let v165 : BitVec 1 := Scalar.cmpi .ne v164 c0_i32_108
  v165

def k0_off38 (d0 : Dev nD) : Fin 1 → Nat :=
  let c2_i32_742 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_98 : BitVec 32 := 1#32
  let v154 : BitVec 32 := Scalar.addi v19 c1_i32_98
  let c2_i32_99 : BitVec 32 := 2#32
  let v155 : BitVec 32 := Scalar.addi v154 c2_i32_99
  let v1000 : BitVec 32 := Scalar.muli c4_i32_739 v155
  let c4_i32_5 : BitVec 32 := 4#32
  let v20 : BitVec 32 := Scalar.remsi v2 c4_i32_5
  let v1001 : BitVec 32 := Scalar.addi v1000 v20
  let v1004 : BitVec 32 := Scalar.muli c2_i32_742 v1001
  ![v1004.toNat]
def k0_off39 (d0 : Dev nD) : Fin 3 → Nat :=
  let c2_i32_741 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_98 : BitVec 32 := 1#32
  let v154 : BitVec 32 := Scalar.addi v19 c1_i32_98
  let c2_i32_99 : BitVec 32 := 2#32
  let v155 : BitVec 32 := Scalar.addi v154 c2_i32_99
  let v1000 : BitVec 32 := Scalar.muli c4_i32_739 v155
  let c4_i32_5 : BitVec 32 := 4#32
  let v20 : BitVec 32 := Scalar.remsi v2 c4_i32_5
  let v1001 : BitVec 32 := Scalar.addi v1000 v20
  let v1003 : BitVec 32 := Scalar.muli c2_i32_741 v1001
  let c0_i32_746 : BitVec 32 := 0#32
  let c0_i32_747 : BitVec 32 := 0#32
  ![v1003.toNat, 0, 0]
def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_98 : BitVec 32 := 1#32
  let v154 : BitVec 32 := Scalar.addi v19 c1_i32_98
  let c2_i32_99 : BitVec 32 := 2#32
  let v155 : BitVec 32 := Scalar.addi v154 c2_i32_99
  ![v155.toNat]
def k0_dev23 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_7 : BitVec 32 := 1#32
  let v25 : BitVec 32 := Scalar.addi v20 c1_i32_7
  let c4_i32_8 : BitVec 32 := 4#32
  let v26 : BitVec 32 := Scalar.remsi v25 c4_i32_8
  let v27 : BitVec 32 := Scalar.addi v21 v26
  let c1_i32_753 : BitVec 32 := 1#32
  let v1014 : BitVec 32 := Scalar.muli v27 c1_i32_753
  let v1015 : BitVec 32 := Scalar.addi c0_i32_754 v1014
  v1015.toNat
def k0_dev24 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v22 : BitVec 32 := Scalar.addi v20 c3_i32
  let c4_i32_6 : BitVec 32 := 4#32
  let v23 : BitVec 32 := Scalar.remsi v22 c4_i32_6
  let v24 : BitVec 32 := Scalar.addi v21 v23
  let c1_i32_762 : BitVec 32 := 1#32
  let v1025 : BitVec 32 := Scalar.muli v24 c1_i32_762
  let v1026 : BitVec 32 := Scalar.addi c0_i32_763 v1025
  v1026.toNat
def k0_off41 (d0 : Dev nD) : Fin 3 → Nat :=
  let c2_i32_768 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_98 : BitVec 32 := 1#32
  let v154 : BitVec 32 := Scalar.addi v19 c1_i32_98
  let c2_i32_99 : BitVec 32 := 2#32
  let v155 : BitVec 32 := Scalar.addi v154 c2_i32_99
  let v1000 : BitVec 32 := Scalar.muli c4_i32_739 v155
  let c4_i32_5 : BitVec 32 := 4#32
  let v20 : BitVec 32 := Scalar.remsi v2 c4_i32_5
  let v1001 : BitVec 32 := Scalar.addi v1000 v20
  let v1033 : BitVec 32 := Scalar.muli c2_i32_768 v1001
  let v1034 : Index := Scalar.indexCast v1033
  let c0_769 : Index := 0#32
  let c0_770 : Index := 0#32
  ![v1034.toNat, 0, 0]
def k0_off42 (d0 : Dev nD) : Fin 2 → Nat :=
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_98 : BitVec 32 := 1#32
  let v154 : BitVec 32 := Scalar.addi v19 c1_i32_98
  let c2_i32_99 : BitVec 32 := 2#32
  let v155 : BitVec 32 := Scalar.addi v154 c2_i32_99
  let v1000 : BitVec 32 := Scalar.muli c4_i32_739 v155
  let c4_i32_5 : BitVec 32 := 4#32
  let v20 : BitVec 32 := Scalar.remsi v2 c4_i32_5
  let v1001 : BitVec 32 := Scalar.addi v1000 v20
  let c128_i32_778 : BitVec 32 := 128#32
  let v1053 : BitVec 32 := Scalar.muli v1001 c128_i32_778
  let v1054 : Index := Scalar.indexCast v1053
  let c0_779 : Index := 0#32
  ![v1054.toNat, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_105 : BitVec 32 := 1#32
  let v161 : BitVec 32 := Scalar.subi v19 c1_i32_105
  let c2_i32_106 : BitVec 32 := 2#32
  let v162 : BitVec 32 := Scalar.subi v161 c2_i32_106
  let c0_i32_107 : BitVec 32 := 0#32
  let v163 : BitVec 1 := Scalar.cmpi .sge v162 c0_i32_107
  let v166 : BitVec 32 := Scalar.extui v163
  let c0_i32_109 : BitVec 32 := 0#32
  let v167 : BitVec 1 := Scalar.cmpi .ne v166 c0_i32_109
  v167

def k0_off43 (d0 : Dev nD) : Fin 1 → Nat :=
  let c2_i32_742 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_103 : BitVec 32 := 1#32
  let v159 : BitVec 32 := Scalar.subi v19 c1_i32_103
  let c2_i32_104 : BitVec 32 := 2#32
  let v160 : BitVec 32 := Scalar.subi v159 c2_i32_104
  let v1000 : BitVec 32 := Scalar.muli c4_i32_739 v160
  let c4_i32_5 : BitVec 32 := 4#32
  let v20 : BitVec 32 := Scalar.remsi v2 c4_i32_5
  let v1001 : BitVec 32 := Scalar.addi v1000 v20
  let v1004 : BitVec 32 := Scalar.muli c2_i32_742 v1001
  ![v1004.toNat]
def k0_off44 (d0 : Dev nD) : Fin 3 → Nat :=
  let c2_i32_741 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_103 : BitVec 32 := 1#32
  let v159 : BitVec 32 := Scalar.subi v19 c1_i32_103
  let c2_i32_104 : BitVec 32 := 2#32
  let v160 : BitVec 32 := Scalar.subi v159 c2_i32_104
  let v1000 : BitVec 32 := Scalar.muli c4_i32_739 v160
  let c4_i32_5 : BitVec 32 := 4#32
  let v20 : BitVec 32 := Scalar.remsi v2 c4_i32_5
  let v1001 : BitVec 32 := Scalar.addi v1000 v20
  let v1003 : BitVec 32 := Scalar.muli c2_i32_741 v1001
  let c0_i32_746 : BitVec 32 := 0#32
  let c0_i32_747 : BitVec 32 := 0#32
  ![v1003.toNat, 0, 0]
def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_103 : BitVec 32 := 1#32
  let v159 : BitVec 32 := Scalar.subi v19 c1_i32_103
  let c2_i32_104 : BitVec 32 := 2#32
  let v160 : BitVec 32 := Scalar.subi v159 c2_i32_104
  ![v160.toNat]
def k0_dev25 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_7 : BitVec 32 := 1#32
  let v25 : BitVec 32 := Scalar.addi v20 c1_i32_7
  let c4_i32_8 : BitVec 32 := 4#32
  let v26 : BitVec 32 := Scalar.remsi v25 c4_i32_8
  let v27 : BitVec 32 := Scalar.addi v21 v26
  let c1_i32_753 : BitVec 32 := 1#32
  let v1014 : BitVec 32 := Scalar.muli v27 c1_i32_753
  let v1015 : BitVec 32 := Scalar.addi c0_i32_754 v1014
  v1015.toNat
def k0_dev26 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v22 : BitVec 32 := Scalar.addi v20 c3_i32
  let c4_i32_6 : BitVec 32 := 4#32
  let v23 : BitVec 32 := Scalar.remsi v22 c4_i32_6
  let v24 : BitVec 32 := Scalar.addi v21 v23
  let c1_i32_762 : BitVec 32 := 1#32
  let v1025 : BitVec 32 := Scalar.muli v24 c1_i32_762
  let v1026 : BitVec 32 := Scalar.addi c0_i32_763 v1025
  v1026.toNat
def k0_off46 (d0 : Dev nD) : Fin 3 → Nat :=
  let c2_i32_768 : BitVec 32 := 2#32
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_103 : BitVec 32 := 1#32
  let v159 : BitVec 32 := Scalar.subi v19 c1_i32_103
  let c2_i32_104 : BitVec 32 := 2#32
  let v160 : BitVec 32 := Scalar.subi v159 c2_i32_104
  let v1000 : BitVec 32 := Scalar.muli c4_i32_739 v160
  let c4_i32_5 : BitVec 32 := 4#32
  let v20 : BitVec 32 := Scalar.remsi v2 c4_i32_5
  let v1001 : BitVec 32 := Scalar.addi v1000 v20
  let v1033 : BitVec 32 := Scalar.muli c2_i32_768 v1001
  let v1034 : Index := Scalar.indexCast v1033
  let c0_769 : Index := 0#32
  let c0_770 : Index := 0#32
  ![v1034.toNat, 0, 0]
def k0_off47 (d0 : Dev nD) : Fin 2 → Nat :=
  let c4_i32_739 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_103 : BitVec 32 := 1#32
  let v159 : BitVec 32 := Scalar.subi v19 c1_i32_103
  let c2_i32_104 : BitVec 32 := 2#32
  let v160 : BitVec 32 := Scalar.subi v159 c2_i32_104
  let v1000 : BitVec 32 := Scalar.muli c4_i32_739 v160
  let c4_i32_5 : BitVec 32 := 4#32
  let v20 : BitVec 32 := Scalar.remsi v2 c4_i32_5
  let v1001 : BitVec 32 := Scalar.addi v1000 v20
  let c128_i32_778 : BitVec 32 := 128#32
  let v1053 : BitVec 32 := Scalar.muli v1001 c128_i32_778
  let v1054 : Index := Scalar.indexCast v1053
  let c0_779 : Index := 0#32
  ![v1054.toNat, 0]
def k0_off48 (d0 : Dev nD) (c0_i32_116 : BitVec 32) (c1_i32_114 : BitVec 32) (c2_i32_111 : BitVec 32) (c3_i32_112 : BitVec 32) (c3_i32_118 : BitVec 32) : Fin 1 → Nat :=
  let c2_i32_125 : BitVec 32 := 2#32
  let c4_i32_117 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_115 : BitVec 32 := 0#32
  let v172 : BitVec 1 := Scalar.cmpi .eq v19 c0_i32_115
  let c1_i32_113 : BitVec 32 := 1#32
  let v170 : BitVec 1 := Scalar.cmpi .eq v19 c1_i32_113
  let c2_i32_110 : BitVec 32 := 2#32
  let v168 : BitVec 1 := Scalar.cmpi .eq v19 c2_i32_110
  let v169 : BitVec 32 := Scalar.select v168 c2_i32_111 c3_i32_112
  let v171 : BitVec 32 := Scalar.select v170 c1_i32_114 v169
  let v173 : BitVec 32 := Scalar.select v172 c0_i32_116 v171
  let v174 : BitVec 32 := Scalar.muli c4_i32_117 v173
  let c4_i32_5 : BitVec 32 := 4#32
  let v20 : BitVec 32 := Scalar.remsi v2 c4_i32_5
  let v175 : BitVec 32 := Scalar.addi v20 c3_i32_118
  let c4_i32_119 : BitVec 32 := 4#32
  let v176 : BitVec 32 := Scalar.remsi v175 c4_i32_119
  let v177 : BitVec 32 := Scalar.addi v174 v176
  let v184 : BitVec 32 := Scalar.muli c2_i32_125 v177
  ![v184.toNat]
def k0_off48_at (r : Fin 12) : BitVec 32 × BitVec 32 × BitVec 32 × BitVec 32 × BitVec 32 :=
  if r.val < 6 then
    if r.val < 3 then
      if r.val < 1 then
        (0#32, 1#32, 2#32, 3#32, 3#32)
      else
        if r.val < 2 then
          (0#32, 1#32, 2#32, 3#32, 1#32)
        else
          (1#32, 2#32, 3#32, 2#32, 3#32)
    else
      if r.val < 4 then
        (1#32, 2#32, 3#32, 2#32, 1#32)
      else
        if r.val < 5 then
          (2#32, 0#32, 1#32, 1#32, 3#32)
        else
          (2#32, 0#32, 1#32, 1#32, 1#32)
  else
    if r.val < 9 then
      if r.val < 7 then
        (3#32, 3#32, 0#32, 0#32, 3#32)
      else
        if r.val < 8 then
          (3#32, 3#32, 0#32, 0#32, 1#32)
        else
          (0#32, 1#32, 2#32, 3#32, 2#32)
    else
      if r.val < 10 then
        (1#32, 2#32, 3#32, 2#32, 2#32)
      else
        if r.val < 11 then
          (2#32, 0#32, 1#32, 1#32, 2#32)
        else
          (3#32, 3#32, 0#32, 0#32, 2#32)
def k0_off49 (d0 : Dev nD) (c0_i32_116 : BitVec 32) (c1_i32_114 : BitVec 32) (c2_i32_111 : BitVec 32) (c3_i32_112 : BitVec 32) (c3_i32_118 : BitVec 32) : Fin 3 → Nat :=
  let c2_i32_124 : BitVec 32 := 2#32
  let c4_i32_117 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_115 : BitVec 32 := 0#32
  let v172 : BitVec 1 := Scalar.cmpi .eq v19 c0_i32_115
  let c1_i32_113 : BitVec 32 := 1#32
  let v170 : BitVec 1 := Scalar.cmpi .eq v19 c1_i32_113
  let c2_i32_110 : BitVec 32 := 2#32
  let v168 : BitVec 1 := Scalar.cmpi .eq v19 c2_i32_110
  let v169 : BitVec 32 := Scalar.select v168 c2_i32_111 c3_i32_112
  let v171 : BitVec 32 := Scalar.select v170 c1_i32_114 v169
  let v173 : BitVec 32 := Scalar.select v172 c0_i32_116 v171
  let v174 : BitVec 32 := Scalar.muli c4_i32_117 v173
  let c4_i32_5 : BitVec 32 := 4#32
  let v20 : BitVec 32 := Scalar.remsi v2 c4_i32_5
  let v175 : BitVec 32 := Scalar.addi v20 c3_i32_118
  let c4_i32_119 : BitVec 32 := 4#32
  let v176 : BitVec 32 := Scalar.remsi v175 c4_i32_119
  let v177 : BitVec 32 := Scalar.addi v174 v176
  let v183 : BitVec 32 := Scalar.muli c2_i32_124 v177
  let c0_i32_129 : BitVec 32 := 0#32
  let c0_i32_130 : BitVec 32 := 0#32
  ![v183.toNat, 0, 0]
def k0_off49_at (r : Fin 8) : BitVec 32 × BitVec 32 × BitVec 32 × BitVec 32 × BitVec 32 :=
  if r.val < 4 then
    if r.val < 2 then
      if r.val < 1 then
        (0#32, 1#32, 2#32, 3#32, 3#32)
      else
        (0#32, 1#32, 2#32, 3#32, 1#32)
    else
      if r.val < 3 then
        (1#32, 2#32, 3#32, 2#32, 3#32)
      else
        (1#32, 2#32, 3#32, 2#32, 1#32)
  else
    if r.val < 6 then
      if r.val < 5 then
        (2#32, 0#32, 1#32, 1#32, 3#32)
      else
        (2#32, 0#32, 1#32, 1#32, 1#32)
    else
      if r.val < 7 then
        (3#32, 3#32, 0#32, 0#32, 3#32)
      else
        (3#32, 3#32, 0#32, 0#32, 1#32)
def k0_off50 (d0 : Dev nD) (c0_i32_116 : BitVec 32) (c1_i32_114 : BitVec 32) (c2_i32_111 : BitVec 32) (c3_i32_112 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_115 : BitVec 32 := 0#32
  let v172 : BitVec 1 := Scalar.cmpi .eq v19 c0_i32_115
  let c1_i32_113 : BitVec 32 := 1#32
  let v170 : BitVec 1 := Scalar.cmpi .eq v19 c1_i32_113
  let c2_i32_110 : BitVec 32 := 2#32
  let v168 : BitVec 1 := Scalar.cmpi .eq v19 c2_i32_110
  let v169 : BitVec 32 := Scalar.select v168 c2_i32_111 c3_i32_112
  let v171 : BitVec 32 := Scalar.select v170 c1_i32_114 v169
  let v173 : BitVec 32 := Scalar.select v172 c0_i32_116 v171
  ![v173.toNat]
def k0_off50_at (r : Fin 4) : BitVec 32 × BitVec 32 × BitVec 32 × BitVec 32 :=
  if r.val < 2 then
    if r.val < 1 then
      (0#32, 1#32, 2#32, 3#32)
    else
      (1#32, 2#32, 3#32, 2#32)
  else
    if r.val < 3 then
      (2#32, 0#32, 1#32, 1#32)
    else
      (3#32, 3#32, 0#32, 0#32)
def k0_off51 (d0 : Dev nD) (c0_i32_116 : BitVec 32) (c1_i32_114 : BitVec 32) (c2_i32_111 : BitVec 32) (c3_i32_112 : BitVec 32) (c3_i32_118 : BitVec 32) : Fin 3 → Nat :=
  let c2_i32_133 : BitVec 32 := 2#32
  let c4_i32_117 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_115 : BitVec 32 := 0#32
  let v172 : BitVec 1 := Scalar.cmpi .eq v19 c0_i32_115
  let c1_i32_113 : BitVec 32 := 1#32
  let v170 : BitVec 1 := Scalar.cmpi .eq v19 c1_i32_113
  let c2_i32_110 : BitVec 32 := 2#32
  let v168 : BitVec 1 := Scalar.cmpi .eq v19 c2_i32_110
  let v169 : BitVec 32 := Scalar.select v168 c2_i32_111 c3_i32_112
  let v171 : BitVec 32 := Scalar.select v170 c1_i32_114 v169
  let v173 : BitVec 32 := Scalar.select v172 c0_i32_116 v171
  let v174 : BitVec 32 := Scalar.muli c4_i32_117 v173
  let c4_i32_5 : BitVec 32 := 4#32
  let v20 : BitVec 32 := Scalar.remsi v2 c4_i32_5
  let v175 : BitVec 32 := Scalar.addi v20 c3_i32_118
  let c4_i32_119 : BitVec 32 := 4#32
  let v176 : BitVec 32 := Scalar.remsi v175 c4_i32_119
  let v177 : BitVec 32 := Scalar.addi v174 v176
  let v191 : BitVec 32 := Scalar.muli c2_i32_133 v177
  let c0_i32_136 : BitVec 32 := 0#32
  let c0_i32_137 : BitVec 32 := 0#32
  ![v191.toNat, 0, 0]
def k0_off51_at (r : Fin 8) : BitVec 32 × BitVec 32 × BitVec 32 × BitVec 32 × BitVec 32 :=
  if r.val < 4 then
    if r.val < 2 then
      if r.val < 1 then
        (0#32, 1#32, 2#32, 3#32, 3#32)
      else
        (1#32, 2#32, 3#32, 2#32, 3#32)
    else
      if r.val < 3 then
        (2#32, 0#32, 1#32, 1#32, 3#32)
      else
        (3#32, 3#32, 0#32, 0#32, 3#32)
  else
    if r.val < 6 then
      if r.val < 5 then
        (0#32, 1#32, 2#32, 3#32, 2#32)
      else
        (1#32, 2#32, 3#32, 2#32, 2#32)
    else
      if r.val < 7 then
        (2#32, 0#32, 1#32, 1#32, 2#32)
      else
        (3#32, 3#32, 0#32, 0#32, 2#32)
def k0_dev27 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_7 : BitVec 32 := 1#32
  let v25 : BitVec 32 := Scalar.addi v20 c1_i32_7
  let c4_i32_8 : BitVec 32 := 4#32
  let v26 : BitVec 32 := Scalar.remsi v25 c4_i32_8
  let v27 : BitVec 32 := Scalar.addi v21 v26
  let c1_i32_134 : BitVec 32 := 1#32
  let v192 : BitVec 32 := Scalar.muli v27 c1_i32_134
  let v193 : BitVec 32 := Scalar.addi c0_i32_135 v192
  v193.toNat
def k0_off52 (d0 : Dev nD) (c0_i32_116 : BitVec 32) (c1_i32_114 : BitVec 32) (c2_i32_111 : BitVec 32) (c3_i32_112 : BitVec 32) (c3_i32_118 : BitVec 32) : Fin 3 → Nat :=
  let c2_i32_140 : BitVec 32 := 2#32
  let c4_i32_117 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_115 : BitVec 32 := 0#32
  let v172 : BitVec 1 := Scalar.cmpi .eq v19 c0_i32_115
  let c1_i32_113 : BitVec 32 := 1#32
  let v170 : BitVec 1 := Scalar.cmpi .eq v19 c1_i32_113
  let c2_i32_110 : BitVec 32 := 2#32
  let v168 : BitVec 1 := Scalar.cmpi .eq v19 c2_i32_110
  let v169 : BitVec 32 := Scalar.select v168 c2_i32_111 c3_i32_112
  let v171 : BitVec 32 := Scalar.select v170 c1_i32_114 v169
  let v173 : BitVec 32 := Scalar.select v172 c0_i32_116 v171
  let v174 : BitVec 32 := Scalar.muli c4_i32_117 v173
  let c4_i32_5 : BitVec 32 := 4#32
  let v20 : BitVec 32 := Scalar.remsi v2 c4_i32_5
  let v175 : BitVec 32 := Scalar.addi v20 c3_i32_118
  let c4_i32_119 : BitVec 32 := 4#32
  let v176 : BitVec 32 := Scalar.remsi v175 c4_i32_119
  let v177 : BitVec 32 := Scalar.addi v174 v176
  let v202 : BitVec 32 := Scalar.muli c2_i32_140 v177
  let v203 : Index := Scalar.indexCast v202
  let c0_141 : Index := 0#32
  let c0_142 : Index := 0#32
  ![v203.toNat, 0, 0]
def k0_off52_at (r : Fin 8) : BitVec 32 × BitVec 32 × BitVec 32 × BitVec 32 × BitVec 32 :=
  if r.val < 4 then
    if r.val < 2 then
      if r.val < 1 then
        (0#32, 1#32, 2#32, 3#32, 3#32)
      else
        (0#32, 1#32, 2#32, 3#32, 1#32)
    else
      if r.val < 3 then
        (1#32, 2#32, 3#32, 2#32, 3#32)
      else
        (1#32, 2#32, 3#32, 2#32, 1#32)
  else
    if r.val < 6 then
      if r.val < 5 then
        (2#32, 0#32, 1#32, 1#32, 3#32)
      else
        (2#32, 0#32, 1#32, 1#32, 1#32)
    else
      if r.val < 7 then
        (3#32, 3#32, 0#32, 0#32, 3#32)
      else
        (3#32, 3#32, 0#32, 0#32, 1#32)
def k0_off53 (d0 : Dev nD) (c0_i32_116 : BitVec 32) (c1_i32_114 : BitVec 32) (c2_i32_111 : BitVec 32) (c3_i32_112 : BitVec 32) (c3_i32_118 : BitVec 32) : Fin 2 → Nat :=
  let c4_i32_117 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_115 : BitVec 32 := 0#32
  let v172 : BitVec 1 := Scalar.cmpi .eq v19 c0_i32_115
  let c1_i32_113 : BitVec 32 := 1#32
  let v170 : BitVec 1 := Scalar.cmpi .eq v19 c1_i32_113
  let c2_i32_110 : BitVec 32 := 2#32
  let v168 : BitVec 1 := Scalar.cmpi .eq v19 c2_i32_110
  let v169 : BitVec 32 := Scalar.select v168 c2_i32_111 c3_i32_112
  let v171 : BitVec 32 := Scalar.select v170 c1_i32_114 v169
  let v173 : BitVec 32 := Scalar.select v172 c0_i32_116 v171
  let v174 : BitVec 32 := Scalar.muli c4_i32_117 v173
  let c4_i32_5 : BitVec 32 := 4#32
  let v20 : BitVec 32 := Scalar.remsi v2 c4_i32_5
  let v175 : BitVec 32 := Scalar.addi v20 c3_i32_118
  let c4_i32_119 : BitVec 32 := 4#32
  let v176 : BitVec 32 := Scalar.remsi v175 c4_i32_119
  let v177 : BitVec 32 := Scalar.addi v174 v176
  let c128_i32_150 : BitVec 32 := 128#32
  let v222 : BitVec 32 := Scalar.muli v177 c128_i32_150
  let v223 : Index := Scalar.indexCast v222
  let c0_151 : Index := 0#32
  ![v223.toNat, 0]
def k0_off53_at (r : Fin 8) : BitVec 32 × BitVec 32 × BitVec 32 × BitVec 32 × BitVec 32 :=
  if r.val < 4 then
    if r.val < 2 then
      if r.val < 1 then
        (0#32, 1#32, 2#32, 3#32, 3#32)
      else
        (0#32, 1#32, 2#32, 3#32, 1#32)
    else
      if r.val < 3 then
        (1#32, 2#32, 3#32, 2#32, 3#32)
      else
        (1#32, 2#32, 3#32, 2#32, 1#32)
  else
    if r.val < 6 then
      if r.val < 5 then
        (2#32, 0#32, 1#32, 1#32, 3#32)
      else
        (2#32, 0#32, 1#32, 1#32, 1#32)
    else
      if r.val < 7 then
        (3#32, 3#32, 0#32, 0#32, 3#32)
      else
        (3#32, 3#32, 0#32, 0#32, 1#32)
def k0_off54 (d0 : Dev nD) (c0_i32_116 : BitVec 32) (c1_i32_114 : BitVec 32) (c2_i32_111 : BitVec 32) (c3_i32_112 : BitVec 32) (c1_i32_121 : BitVec 32) : Fin 1 → Nat :=
  let c2_i32_162 : BitVec 32 := 2#32
  let c4_i32_120 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_115 : BitVec 32 := 0#32
  let v172 : BitVec 1 := Scalar.cmpi .eq v19 c0_i32_115
  let c1_i32_113 : BitVec 32 := 1#32
  let v170 : BitVec 1 := Scalar.cmpi .eq v19 c1_i32_113
  let c2_i32_110 : BitVec 32 := 2#32
  let v168 : BitVec 1 := Scalar.cmpi .eq v19 c2_i32_110
  let v169 : BitVec 32 := Scalar.select v168 c2_i32_111 c3_i32_112
  let v171 : BitVec 32 := Scalar.select v170 c1_i32_114 v169
  let v173 : BitVec 32 := Scalar.select v172 c0_i32_116 v171
  let v178 : BitVec 32 := Scalar.muli c4_i32_120 v173
  let c4_i32_5 : BitVec 32 := 4#32
  let v20 : BitVec 32 := Scalar.remsi v2 c4_i32_5
  let v179 : BitVec 32 := Scalar.addi v20 c1_i32_121
  let c4_i32_122 : BitVec 32 := 4#32
  let v180 : BitVec 32 := Scalar.remsi v179 c4_i32_122
  let v181 : BitVec 32 := Scalar.addi v178 v180
  let v234 : BitVec 32 := Scalar.muli c2_i32_162 v181
  let c1_i32_163 : BitVec 32 := 1#32
  let v235 : BitVec 32 := Scalar.addi v234 c1_i32_163
  ![v235.toNat]
def k0_off54_at (r : Fin 8) : BitVec 32 × BitVec 32 × BitVec 32 × BitVec 32 × BitVec 32 :=
  if r.val < 4 then
    if r.val < 2 then
      if r.val < 1 then
        (0#32, 1#32, 2#32, 3#32, 1#32)
      else
        (1#32, 2#32, 3#32, 2#32, 1#32)
    else
      if r.val < 3 then
        (2#32, 0#32, 1#32, 1#32, 1#32)
      else
        (3#32, 3#32, 0#32, 0#32, 1#32)
  else
    if r.val < 6 then
      if r.val < 5 then
        (0#32, 1#32, 2#32, 3#32, 2#32)
      else
        (1#32, 2#32, 3#32, 2#32, 2#32)
    else
      if r.val < 7 then
        (2#32, 0#32, 1#32, 1#32, 2#32)
      else
        (3#32, 3#32, 0#32, 0#32, 2#32)
def k0_off55 (d0 : Dev nD) (c0_i32_116 : BitVec 32) (c1_i32_114 : BitVec 32) (c2_i32_111 : BitVec 32) (c3_i32_112 : BitVec 32) (c1_i32_121 : BitVec 32) : Fin 3 → Nat :=
  let c2_i32_162 : BitVec 32 := 2#32
  let c4_i32_120 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_115 : BitVec 32 := 0#32
  let v172 : BitVec 1 := Scalar.cmpi .eq v19 c0_i32_115
  let c1_i32_113 : BitVec 32 := 1#32
  let v170 : BitVec 1 := Scalar.cmpi .eq v19 c1_i32_113
  let c2_i32_110 : BitVec 32 := 2#32
  let v168 : BitVec 1 := Scalar.cmpi .eq v19 c2_i32_110
  let v169 : BitVec 32 := Scalar.select v168 c2_i32_111 c3_i32_112
  let v171 : BitVec 32 := Scalar.select v170 c1_i32_114 v169
  let v173 : BitVec 32 := Scalar.select v172 c0_i32_116 v171
  let v178 : BitVec 32 := Scalar.muli c4_i32_120 v173
  let c4_i32_5 : BitVec 32 := 4#32
  let v20 : BitVec 32 := Scalar.remsi v2 c4_i32_5
  let v179 : BitVec 32 := Scalar.addi v20 c1_i32_121
  let c4_i32_122 : BitVec 32 := 4#32
  let v180 : BitVec 32 := Scalar.remsi v179 c4_i32_122
  let v181 : BitVec 32 := Scalar.addi v178 v180
  let v234 : BitVec 32 := Scalar.muli c2_i32_162 v181
  let c1_i32_163 : BitVec 32 := 1#32
  let v235 : BitVec 32 := Scalar.addi v234 c1_i32_163
  let c0_i32_166 : BitVec 32 := 0#32
  let c0_i32_167 : BitVec 32 := 0#32
  ![v235.toNat, 0, 0]
def k0_off55_at (r : Fin 8) : BitVec 32 × BitVec 32 × BitVec 32 × BitVec 32 × BitVec 32 :=
  if r.val < 4 then
    if r.val < 2 then
      if r.val < 1 then
        (0#32, 1#32, 2#32, 3#32, 1#32)
      else
        (1#32, 2#32, 3#32, 2#32, 1#32)
    else
      if r.val < 3 then
        (2#32, 0#32, 1#32, 1#32, 1#32)
      else
        (3#32, 3#32, 0#32, 0#32, 1#32)
  else
    if r.val < 6 then
      if r.val < 5 then
        (0#32, 1#32, 2#32, 3#32, 2#32)
      else
        (1#32, 2#32, 3#32, 2#32, 2#32)
    else
      if r.val < 7 then
        (2#32, 0#32, 1#32, 1#32, 2#32)
      else
        (3#32, 3#32, 0#32, 0#32, 2#32)
def k0_dev28 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v22 : BitVec 32 := Scalar.addi v20 c3_i32
  let c4_i32_6 : BitVec 32 := 4#32
  let v23 : BitVec 32 := Scalar.remsi v22 c4_i32_6
  let v24 : BitVec 32 := Scalar.addi v21 v23
  let c1_i32_164 : BitVec 32 := 1#32
  let v236 : BitVec 32 := Scalar.muli v24 c1_i32_164
  let v237 : BitVec 32 := Scalar.addi c0_i32_165 v236
  v237.toNat
def k0_dev29 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_7 : BitVec 32 := 1#32
  let v25 : BitVec 32 := Scalar.addi v20 c1_i32_7
  let c4_i32_8 : BitVec 32 := 4#32
  let v26 : BitVec 32 := Scalar.remsi v25 c4_i32_8
  let v27 : BitVec 32 := Scalar.addi v21 v26
  let c1_i32_206 : BitVec 32 := 1#32
  let v293 : BitVec 32 := Scalar.muli v27 c1_i32_206
  let v294 : BitVec 32 := Scalar.addi c0_i32_207 v293
  v294.toNat
def k0_dev30 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v22 : BitVec 32 := Scalar.addi v20 c3_i32
  let c4_i32_6 : BitVec 32 := 4#32
  let v23 : BitVec 32 := Scalar.remsi v22 c4_i32_6
  let v24 : BitVec 32 := Scalar.addi v21 v23
  let c1_i32_236 : BitVec 32 := 1#32
  let v337 : BitVec 32 := Scalar.muli v24 c1_i32_236
  let v338 : BitVec 32 := Scalar.addi c0_i32_237 v337
  v338.toNat
def k0_dev31 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_7 : BitVec 32 := 1#32
  let v25 : BitVec 32 := Scalar.addi v20 c1_i32_7
  let c4_i32_8 : BitVec 32 := 4#32
  let v26 : BitVec 32 := Scalar.remsi v25 c4_i32_8
  let v27 : BitVec 32 := Scalar.addi v21 v26
  let c1_i32_278 : BitVec 32 := 1#32
  let v394 : BitVec 32 := Scalar.muli v27 c1_i32_278
  let v395 : BitVec 32 := Scalar.addi c0_i32_279 v394
  v395.toNat
def k0_dev32 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v22 : BitVec 32 := Scalar.addi v20 c3_i32
  let c4_i32_6 : BitVec 32 := 4#32
  let v23 : BitVec 32 := Scalar.remsi v22 c4_i32_6
  let v24 : BitVec 32 := Scalar.addi v21 v23
  let c1_i32_308 : BitVec 32 := 1#32
  let v438 : BitVec 32 := Scalar.muli v24 c1_i32_308
  let v439 : BitVec 32 := Scalar.addi c0_i32_309 v438
  v439.toNat
def k0_dev33 (d0 : Dev nD) : Nat :=
  let c0_i32_351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c1_i32_7 : BitVec 32 := 1#32
  let v25 : BitVec 32 := Scalar.addi v20 c1_i32_7
  let c4_i32_8 : BitVec 32 := 4#32
  let v26 : BitVec 32 := Scalar.remsi v25 c4_i32_8
  let v27 : BitVec 32 := Scalar.addi v21 v26
  let c1_i32_350 : BitVec 32 := 1#32
  let v495 : BitVec 32 := Scalar.muli v27 c1_i32_350
  let v496 : BitVec 32 := Scalar.addi c0_i32_351 v495
  v496.toNat
def k0_dev34 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v21 : BitVec 32 := Scalar.subi v2 v20
  let c3_i32 : BitVec 32 := 3#32
  let v22 : BitVec 32 := Scalar.addi v20 c3_i32
  let c4_i32_6 : BitVec 32 := 4#32
  let v23 : BitVec 32 := Scalar.remsi v22 c4_i32_6
  let v24 : BitVec 32 := Scalar.addi v21 v23
  let c1_i32_380 : BitVec 32 := 1#32
  let v539 : BitVec 32 := Scalar.muli v24 c1_i32_380
  let v540 : BitVec 32 := Scalar.addi c0_i32_381 v539
  v540.toNat
def k0_off56 (d0 : Dev nD) (c0_i32_404 : BitVec 32) (c1_i32_402 : BitVec 32) (c2_i32_399 : BitVec 32) (c3_i32_400 : BitVec 32) : Fin 3 → Nat :=
  let c2_i32_408 : BitVec 32 := 2#32
  let c4_i32_405 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_403 : BitVec 32 := 0#32
  let v576 : BitVec 1 := Scalar.cmpi .eq v19 c0_i32_403
  let c1_i32_401 : BitVec 32 := 1#32
  let v574 : BitVec 1 := Scalar.cmpi .eq v19 c1_i32_401
  let c2_i32_398 : BitVec 32 := 2#32
  let v572 : BitVec 1 := Scalar.cmpi .eq v19 c2_i32_398
  let v573 : BitVec 32 := Scalar.select v572 c2_i32_399 c3_i32_400
  let v575 : BitVec 32 := Scalar.select v574 c1_i32_402 v573
  let v577 : BitVec 32 := Scalar.select v576 c0_i32_404 v575
  let v578 : BitVec 32 := Scalar.muli c4_i32_405 v577
  let c4_i32_5 : BitVec 32 := 4#32
  let v20 : BitVec 32 := Scalar.remsi v2 c4_i32_5
  let c2_i32_406 : BitVec 32 := 2#32
  let v579 : BitVec 32 := Scalar.addi v20 c2_i32_406
  let c4_i32_407 : BitVec 32 := 4#32
  let v580 : BitVec 32 := Scalar.remsi v579 c4_i32_407
  let v581 : BitVec 32 := Scalar.addi v578 v580
  let v582 : BitVec 32 := Scalar.muli c2_i32_408 v581
  let v591 : Index := Scalar.indexCast v582
  let c0_416 : Index := 0#32
  let c0_417 : Index := 0#32
  ![v591.toNat, 0, 0]
def k0_off56_at (r : Fin 4) : BitVec 32 × BitVec 32 × BitVec 32 × BitVec 32 :=
  if r.val < 2 then
    if r.val < 1 then
      (0#32, 1#32, 2#32, 3#32)
    else
      (1#32, 2#32, 3#32, 2#32)
  else
    if r.val < 3 then
      (2#32, 0#32, 1#32, 1#32)
    else
      (3#32, 3#32, 0#32, 0#32)
def k0_off57 (d0 : Dev nD) (c0_i32_404 : BitVec 32) (c1_i32_402 : BitVec 32) (c2_i32_399 : BitVec 32) (c3_i32_400 : BitVec 32) : Fin 2 → Nat :=
  let c2_i32_408 : BitVec 32 := 2#32
  let c4_i32_405 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_403 : BitVec 32 := 0#32
  let v576 : BitVec 1 := Scalar.cmpi .eq v19 c0_i32_403
  let c1_i32_401 : BitVec 32 := 1#32
  let v574 : BitVec 1 := Scalar.cmpi .eq v19 c1_i32_401
  let c2_i32_398 : BitVec 32 := 2#32
  let v572 : BitVec 1 := Scalar.cmpi .eq v19 c2_i32_398
  let v573 : BitVec 32 := Scalar.select v572 c2_i32_399 c3_i32_400
  let v575 : BitVec 32 := Scalar.select v574 c1_i32_402 v573
  let v577 : BitVec 32 := Scalar.select v576 c0_i32_404 v575
  let v578 : BitVec 32 := Scalar.muli c4_i32_405 v577
  let c4_i32_5 : BitVec 32 := 4#32
  let v20 : BitVec 32 := Scalar.remsi v2 c4_i32_5
  let c2_i32_406 : BitVec 32 := 2#32
  let v579 : BitVec 32 := Scalar.addi v20 c2_i32_406
  let c4_i32_407 : BitVec 32 := 4#32
  let v580 : BitVec 32 := Scalar.remsi v579 c4_i32_407
  let v581 : BitVec 32 := Scalar.addi v578 v580
  let v582 : BitVec 32 := Scalar.muli c2_i32_408 v581
  let c64_i32 : BitVec 32 := 64#32
  let v610 : BitVec 32 := Scalar.muli v582 c64_i32
  let v611 : Index := Scalar.indexCast v610
  let c0_425 : Index := 0#32
  ![v611.toNat, 0]
def k0_off57_at (r : Fin 4) : BitVec 32 × BitVec 32 × BitVec 32 × BitVec 32 :=
  if r.val < 2 then
    if r.val < 1 then
      (0#32, 1#32, 2#32, 3#32)
    else
      (1#32, 2#32, 3#32, 2#32)
  else
    if r.val < 3 then
      (2#32, 0#32, 1#32, 1#32)
    else
      (3#32, 3#32, 0#32, 0#32)
def k0_off58 (d0 : Dev nD) (c0_i32_404 : BitVec 32) (c1_i32_402 : BitVec 32) (c2_i32_399 : BitVec 32) (c3_i32_400 : BitVec 32) : Fin 3 → Nat :=
  let c2_i32_408 : BitVec 32 := 2#32
  let c4_i32_405 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_403 : BitVec 32 := 0#32
  let v576 : BitVec 1 := Scalar.cmpi .eq v19 c0_i32_403
  let c1_i32_401 : BitVec 32 := 1#32
  let v574 : BitVec 1 := Scalar.cmpi .eq v19 c1_i32_401
  let c2_i32_398 : BitVec 32 := 2#32
  let v572 : BitVec 1 := Scalar.cmpi .eq v19 c2_i32_398
  let v573 : BitVec 32 := Scalar.select v572 c2_i32_399 c3_i32_400
  let v575 : BitVec 32 := Scalar.select v574 c1_i32_402 v573
  let v577 : BitVec 32 := Scalar.select v576 c0_i32_404 v575
  let v578 : BitVec 32 := Scalar.muli c4_i32_405 v577
  let c4_i32_5 : BitVec 32 := 4#32
  let v20 : BitVec 32 := Scalar.remsi v2 c4_i32_5
  let c2_i32_406 : BitVec 32 := 2#32
  let v579 : BitVec 32 := Scalar.addi v20 c2_i32_406
  let c4_i32_407 : BitVec 32 := 4#32
  let v580 : BitVec 32 := Scalar.remsi v579 c4_i32_407
  let v581 : BitVec 32 := Scalar.addi v578 v580
  let v582 : BitVec 32 := Scalar.muli c2_i32_408 v581
  let c1_i32_434 : BitVec 32 := 1#32
  let v622 : BitVec 32 := Scalar.addi v582 c1_i32_434
  let v623 : Index := Scalar.indexCast v622
  let c0_435 : Index := 0#32
  let c0_436 : Index := 0#32
  ![v623.toNat, 0, 0]
def k0_off58_at (r : Fin 4) : BitVec 32 × BitVec 32 × BitVec 32 × BitVec 32 :=
  if r.val < 2 then
    if r.val < 1 then
      (0#32, 1#32, 2#32, 3#32)
    else
      (1#32, 2#32, 3#32, 2#32)
  else
    if r.val < 3 then
      (2#32, 0#32, 1#32, 1#32)
    else
      (3#32, 3#32, 0#32, 0#32)
def k0_off59 (d0 : Dev nD) (c0_i32_404 : BitVec 32) (c1_i32_402 : BitVec 32) (c2_i32_399 : BitVec 32) (c3_i32_400 : BitVec 32) : Fin 2 → Nat :=
  let c2_i32_408 : BitVec 32 := 2#32
  let c4_i32_405 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_403 : BitVec 32 := 0#32
  let v576 : BitVec 1 := Scalar.cmpi .eq v19 c0_i32_403
  let c1_i32_401 : BitVec 32 := 1#32
  let v574 : BitVec 1 := Scalar.cmpi .eq v19 c1_i32_401
  let c2_i32_398 : BitVec 32 := 2#32
  let v572 : BitVec 1 := Scalar.cmpi .eq v19 c2_i32_398
  let v573 : BitVec 32 := Scalar.select v572 c2_i32_399 c3_i32_400
  let v575 : BitVec 32 := Scalar.select v574 c1_i32_402 v573
  let v577 : BitVec 32 := Scalar.select v576 c0_i32_404 v575
  let v578 : BitVec 32 := Scalar.muli c4_i32_405 v577
  let c4_i32_5 : BitVec 32 := 4#32
  let v20 : BitVec 32 := Scalar.remsi v2 c4_i32_5
  let c2_i32_406 : BitVec 32 := 2#32
  let v579 : BitVec 32 := Scalar.addi v20 c2_i32_406
  let c4_i32_407 : BitVec 32 := 4#32
  let v580 : BitVec 32 := Scalar.remsi v579 c4_i32_407
  let v581 : BitVec 32 := Scalar.addi v578 v580
  let v582 : BitVec 32 := Scalar.muli c2_i32_408 v581
  let c1_i32_434 : BitVec 32 := 1#32
  let v622 : BitVec 32 := Scalar.addi v582 c1_i32_434
  let c64_i32_444 : BitVec 32 := 64#32
  let v642 : BitVec 32 := Scalar.muli v622 c64_i32_444
  let v643 : Index := Scalar.indexCast v642
  let c0_445 : Index := 0#32
  ![v643.toNat, 0]
def k0_off59_at (r : Fin 4) : BitVec 32 × BitVec 32 × BitVec 32 × BitVec 32 :=
  if r.val < 2 then
    if r.val < 1 then
      (0#32, 1#32, 2#32, 3#32)
    else
      (1#32, 2#32, 3#32, 2#32)
  else
    if r.val < 3 then
      (2#32, 0#32, 1#32, 1#32)
    else
      (3#32, 3#32, 0#32, 0#32)
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_593 : BitVec 32 := 1#32
  let v864 : BitVec 32 := Scalar.addi v19 c1_i32_593
  let c3_i32_594 : BitVec 32 := 3#32
  let v865 : BitVec 1 := Scalar.cmpi .sle v864 c3_i32_594
  let v866 : BitVec 32 := Scalar.extui v865
  let c0_i32_595 : BitVec 32 := 0#32
  let v867 : BitVec 1 := Scalar.cmpi .ne v866 c0_i32_595
  v867

def k0_off60 (d0 : Dev nD) : Fin 3 → Nat :=
  let c2_i32_739 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1000 : BitVec 32 := Scalar.muli c2_i32_739 v2
  let c0_i32_744 : BitVec 32 := 0#32
  let c0_i32_745 : BitVec 32 := 0#32
  ![v1000.toNat, 0, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_596 : BitVec 32 := 1#32
  let v868 : BitVec 32 := Scalar.subi v19 c1_i32_596
  let c0_i32_597 : BitVec 32 := 0#32
  let v869 : BitVec 1 := Scalar.cmpi .sge v868 c0_i32_597
  let v870 : BitVec 32 := Scalar.extui v869
  let c0_i32_598 : BitVec 32 := 0#32
  let v871 : BitVec 1 := Scalar.cmpi .ne v870 c0_i32_598
  v871

def k0_off61 (d0 : Dev nD) : Fin 3 → Nat :=
  let c2_i32_739 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1000 : BitVec 32 := Scalar.muli c2_i32_739 v2
  let c0_i32_744 : BitVec 32 := 0#32
  let c0_i32_745 : BitVec 32 := 0#32
  ![v1000.toNat, 0, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_599 : BitVec 32 := 2#32
  let v872 : BitVec 32 := Scalar.addi v19 c2_i32_599
  let c3_i32_600 : BitVec 32 := 3#32
  let v873 : BitVec 1 := Scalar.cmpi .sle v872 c3_i32_600
  let v874 : BitVec 32 := Scalar.extui v873
  let c0_i32_601 : BitVec 32 := 0#32
  let v875 : BitVec 1 := Scalar.cmpi .ne v874 c0_i32_601
  v875

def k0_off62 (d0 : Dev nD) : Fin 3 → Nat :=
  let c2_i32_739 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1000 : BitVec 32 := Scalar.muli c2_i32_739 v2
  let c0_i32_744 : BitVec 32 := 0#32
  let c0_i32_745 : BitVec 32 := 0#32
  ![v1000.toNat, 0, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_602 : BitVec 32 := 2#32
  let v876 : BitVec 32 := Scalar.subi v19 c2_i32_602
  let c0_i32_603 : BitVec 32 := 0#32
  let v877 : BitVec 1 := Scalar.cmpi .sge v876 c0_i32_603
  let v878 : BitVec 32 := Scalar.extui v877
  let c0_i32_604 : BitVec 32 := 0#32
  let v879 : BitVec 1 := Scalar.cmpi .ne v878 c0_i32_604
  v879

def k0_off63 (d0 : Dev nD) : Fin 3 → Nat :=
  let c2_i32_739 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1000 : BitVec 32 := Scalar.muli c2_i32_739 v2
  let c0_i32_744 : BitVec 32 := 0#32
  let c0_i32_745 : BitVec 32 := 0#32
  ![v1000.toNat, 0, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_605 : BitVec 32 := 3#32
  let v880 : BitVec 32 := Scalar.addi v19 c3_i32_605
  let c3_i32_606 : BitVec 32 := 3#32
  let v881 : BitVec 1 := Scalar.cmpi .sle v880 c3_i32_606
  let v882 : BitVec 32 := Scalar.extui v881
  let c0_i32_607 : BitVec 32 := 0#32
  let v883 : BitVec 1 := Scalar.cmpi .ne v882 c0_i32_607
  v883

def k0_off64 (d0 : Dev nD) : Fin 3 → Nat :=
  let c2_i32_739 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1000 : BitVec 32 := Scalar.muli c2_i32_739 v2
  let c0_i32_744 : BitVec 32 := 0#32
  let c0_i32_745 : BitVec 32 := 0#32
  ![v1000.toNat, 0, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_608 : BitVec 32 := 3#32
  let v884 : BitVec 32 := Scalar.subi v19 c3_i32_608
  let c0_i32_609 : BitVec 32 := 0#32
  let v885 : BitVec 1 := Scalar.cmpi .sge v884 c0_i32_609
  let v886 : BitVec 32 := Scalar.extui v885
  let c0_i32_610 : BitVec 32 := 0#32
  let v887 : BitVec 1 := Scalar.cmpi .ne v886 c0_i32_610
  v887

def k0_off65 (d0 : Dev nD) : Fin 3 → Nat :=
  let c2_i32_739 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1000 : BitVec 32 := Scalar.muli c2_i32_739 v2
  let c0_i32_744 : BitVec 32 := 0#32
  let c0_i32_745 : BitVec 32 := 0#32
  ![v1000.toNat, 0, 0]
def k0_off66 (d0 : Dev nD) : Fin 3 → Nat :=
  let c2_i32_629 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v902 : BitVec 32 := Scalar.muli c2_i32_629 v2
  let c0_i32_632 : BitVec 32 := 0#32
  let c0_i32_633 : BitVec 32 := 0#32
  ![v902.toNat, 0, 0]
abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ring.lean ====
module

public import Mathlib.Data.Fintype.Basic
public import Mathlib.Data.Fintype.Pi
public import Mathlib.Data.Finset.Image
public import Mathlib.Data.Finset.Union
public import Mathlib.Tactic.FinCases

@[expose] public section

/-!
# Who sends what to whom

The sixteen devices form a 4 × 4 grid: device `4 z + q` has four devices above and below it (same
`q`) and stands on a ring of four with the same `z`.  This file is plain arithmetic on small numbers: the
22 sends a device may make, what each carries and where it lands, the arrivals a device waits for, and the
order in which the body does all this.  Every fact is decided by going through the cases.

The gathered array is kept in 32 half slots: half slot `2 p + b` holds rows `64 b … 64 b + 63` of the 128 rows of
device `p`.  A send carries either a whole chunk (both half slots of one device) or one half slot.
-/

namespace AllGather

/-- The number of columns' height of a device. -/
def zOf (c : Fin 16) : ℕ := c.val / 4

/-- The place of a device on its ring. -/
def qOf (c : Fin 16) : ℕ := c.val % 4

/-- The device at given height and ring place (the place is taken modulo four). -/
def at' (z q : ℕ) : Fin 16 := ⟨(4 * z + q % 4) % 16, Nat.mod_lt _ (by decide)⟩

/-- The two halves of device `p`'s chunk: the first. -/
def lo (p : Fin 16) : Fin 32 := ⟨2 * p.val, by omega⟩

/-- The two halves of device `p`'s chunk: the second. -/
def hi (p : Fin 16) : Fin 32 := ⟨2 * p.val + 1, by omega⟩

/-- The send number of the chunk of column member `o` to the right. -/
def jPr (o : Fin 4) : Fin 22 := ⟨6 + o.val, by omega⟩
/-- The send number of the chunk of column member `o` to the left. -/
def jPl (o : Fin 4) : Fin 22 := ⟨10 + o.val, by omega⟩
/-- The send number of the first half of the left neighbour's chunk at height `o`, passed on to the right. -/
def jDr (o : Fin 4) : Fin 22 := ⟨14 + o.val, by omega⟩
/-- The send number of the second half of the right neighbour's chunk at height `o`, passed on to the left. -/
def jDl (o : Fin 4) : Fin 22 := ⟨18 + o.val, by omega⟩

/-- Whether device `c` makes send `j`: the six column sends need a device at that height, the others are always made. -/
def sends (c : Fin 16) (j : Fin 22) : Bool :=
  if j.val < 3 then zOf c + (j.val + 1) ≤ 3 else if j.val < 6 then j.val - 2 ≤ zOf c else true

/-- The device a send goes to. -/
def tgt (c : Fin 16) (j : Fin 22) : Fin 16 :=
  if j.val < 3 then at' (zOf c + (j.val + 1)) (qOf c)
  else if j.val < 6 then at' (zOf c + 6 - j.val) (qOf c)
  else if j.val < 10 then at' (zOf c) (qOf c + 1)
  else if j.val < 14 then at' (zOf c) (qOf c + 3)
  else if j.val < 18 then at' (zOf c) (qOf c + 1)
  else at' (zOf c) (qOf c + 3)

/-- The first half slot a send carries. -/
def slot (c : Fin 16) (j : Fin 22) : Fin 32 :=
  if j.val < 6 then lo c
  else if j.val < 10 then lo (at' (j.val - 6) (qOf c))
  else if j.val < 14 then lo (at' (j.val - 10) (qOf c))
  else if j.val < 18 then lo (at' (j.val - 14) (qOf c + 3))
  else hi (at' (j.val - 18) (qOf c + 1))

/-- The half slot naming the region (an arrival, or the device's own chunk) a send reads from. -/
def srcR (c : Fin 16) (j : Fin 22) : Fin 32 :=
  if j.val < 18 then slot c j else lo (at' (j.val - 18) (qOf c + 1))

/-- Whether a send carries one half slot only. -/
def isHalf (j : Fin 22) : Bool := 14 ≤ j.val

/-- One half slot, or it and the next one. -/
def reg (b : Bool) (h : Fin 32) : Finset (Fin 32) := if b then {h} else {h, h + 1}

/-- The half slots a send carries. -/
def cargo (c : Fin 16) (j : Fin 22) : Finset (Fin 32) := reg (isHalf j) (slot c j)

/-- Ring distance from a device to the column holding half slot `h`. -/
def dist (c : Fin 16) (h : Fin 32) : ℕ := (h.val / 2 + 4 - qOf c) % 4

/-- Whether device `c` waits for an arrival named by half slot `h`. -/
def gets (c : Fin 16) (h : Fin 32) : Bool :=
  if dist c h = 2 then true else h.val % 2 = 0 && h.val / 2 ≠ c.val

/-- Whether the arrival named `h` is one half slot only: those from the opposite column. -/
def halfR (c : Fin 16) (h : Fin 32) : Bool := dist c h = 2

/-- The half slots of the region named `h` on device `c`. -/
def part (c : Fin 16) (h : Fin 32) : Finset (Fin 32) := reg (halfR c h) h

/-- The names of the regions on device `c`: its own chunk and the arrivals. -/
def regions (c : Fin 16) : Finset (Fin 32) := insert (lo c) (Finset.univ.filter fun h => gets c h)

/-- The devices that tell `c` they are ready, and that `c` tells. -/
def near (c d : Fin 16) : Bool :=
  (qOf c = qOf d && zOf c ≠ zOf d) || (zOf c = zOf d && (qOf c + qOf d) % 2 = 1)

/-- What device `c` hands to `d` with its ready signal: the half slots `d` is going to fill on `c`. -/
def handed (d c : Fin 16) : Finset (Fin 32) :=
  (Finset.univ.filter fun j => sends d j && tgt d j = c).biUnion fun j => cargo d j

/-- The sender and the number of the send that arrives as `h` on device `c`. -/
def sender (c : Fin 16) (h : Fin 32) : Fin 16 × Fin 22 :=
  let o := h.val / 8
  if dist c h = 0 then
    (at' o (qOf c), if o < zOf c then ⟨(zOf c - o - 1) % 3, by omega⟩ else ⟨(o - zOf c + 2) % 6, by omega⟩)
  else if dist c h = 3 then (at' (zOf c) (qOf c + 3), ⟨(6 + o) % 10, by omega⟩)
  else if dist c h = 1 then (at' (zOf c) (qOf c + 1), ⟨(10 + o) % 14, by omega⟩)
  else if h.val % 2 = 0 then (at' (zOf c) (qOf c + 3), ⟨(14 + o) % 18, by omega⟩)
  else (at' (zOf c) (qOf c + 1), ⟨(18 + o) % 22, by omega⟩)

/-! ## The order of the body -/

/-- The `i`-th of the six column places visited: one up, one down, two up, … . -/
def colZ (c : Fin 16) (i : ℕ) : Fin 4 :=
  ⟨(if i % 2 = 0 then zOf c + (i / 2 + 1) else zOf c + 3 - i / 2) % 4, Nat.mod_lt _ (by decide)⟩

/-- The `r`-th height visited in the ring steps. -/
def ordZ (c : Fin 16) (r : ℕ) : Fin 4 :=
  match zOf c, r with
  | 0, 0 => 0 | 0, 1 => 1 | 0, 2 => 2 | 0, _ => 3
  | 1, 0 => 1 | 1, 1 => 2 | 1, 2 => 0 | 1, _ => 3
  | 2, 0 => 2 | 2, 1 => 3 | 2, 2 => 1 | 2, _ => 0
  | _, 0 => 3 | _, 1 => 2 | _, 2 => 1 | _, _ => 0

/-- When height `o` is visited in the column steps. -/
def colT (c : Fin 16) (o : ℕ) : ℕ := if zOf c < o then 2 * (o - zOf c - 1) else 2 * (zOf c - o - 1) + 1

/-- When height `o` is visited in the ring steps. -/
def ordT (c : Fin 16) (o : ℕ) : ℕ :=
  if (ordZ c 0).val = o then 0 else if (ordZ c 1).val = o then 1 else if (ordZ c 2).val = o then 2 else 3

/-- When a send is started. One clock counts the sends, the waits and the written rows of the whole body: the column
sends at 0–5, the device's own chunk at 6–8, the six column places at 9–32 (four events each), the ring steps at 33–56 (six
each), the opposite column at 57–72 (four each), and the waits for one's own sends at 73–94. -/
def eS (c : Fin 16) (j : Fin 22) : ℕ :=
  if j.val < 3 then 2 * j.val
  else if j.val < 6 then 2 * (j.val - 3) + 1
  else if j.val < 10 then (if j.val - 6 = zOf c then 6 else 10 + 4 * colT c (j.val - 6))
  else if j.val < 14 then (if j.val - 10 = zOf c then 7 else 11 + 4 * colT c (j.val - 10))
  else if j.val < 18 then 34 + 6 * ordT c (j.val - 14)
  else 37 + 6 * ordT c (j.val - 18)

/-- When an arrival is waited for. -/
def eR (c : Fin 16) (h : Fin 32) : ℕ :=
  if dist c h = 0 then 9 + 4 * colT c (h.val / 8)
  else if dist c h = 3 then 33 + 6 * ordT c (h.val / 8)
  else if dist c h = 1 then 36 + 6 * ordT c (h.val / 8)
  else 57 + 4 * ordT c (h.val / 8) + 2 * (h.val % 2)

/-- When the rows of the result belonging to half slot `h` are written. -/
def eO (c : Fin 16) (h : Fin 32) : ℕ :=
  if dist c h = 0 then (if h.val / 2 = c.val then 8 else 12 + 4 * colT c (h.val / 8))
  else if dist c h = 3 then 35 + 6 * ordT c (h.val / 8)
  else if dist c h = 1 then 38 + 6 * ordT c (h.val / 8)
  else 58 + 4 * ordT c (h.val / 8) + 2 * (h.val % 2)

/-- When a send of one's own is waited for. -/
def eW (j : Fin 22) : ℕ :=
  if j.val < 3 then 73 + 2 * j.val
  else if j.val < 6 then 74 + 2 * (j.val - 3)
  else if j.val < 10 then 79 + 4 * (j.val - 6)
  else if j.val < 14 then 80 + 4 * (j.val - 10)
  else if j.val < 18 then 81 + 4 * (j.val - 14)
  else 82 + 4 * (j.val - 18)

/-- The time of a ready signal among the six. -/
def tB (c d : Fin 16) : ℕ :=
  if zOf c = zOf d then (if (qOf c + 3) % 4 = qOf d then 0 else 1) else 2 + zOf d

/-- The share of its source a send reads with. -/
def tok (j : Fin 22) : Fin 8 :=
  if h : j.val < 6 then ⟨j.val, by omega⟩ else if (j.val - 6) / 4 % 2 = 0 then 6 else 7

/-- The height at which an arrival stands in the order of waits: columns, then neighbours, then the opposite column. -/
def rank (c : Fin 16) (h : Fin 32) : ℕ := if dist c h = 0 then 2 else if dist c h = 2 then 4 else 3

/-! ## Where things stand at a time -/

/-- The sends a device makes. -/
def mine (c : Fin 16) : Finset (Fin 22) := Finset.univ.filter fun j => sends c j
/-- The arrivals a device waits for. -/
def inbox (c : Fin 16) : Finset (Fin 32) := Finset.univ.filter fun h => gets c h
/-- The sends not yet made. -/
def toSend (c : Fin 16) (t : ℕ) : Finset (Fin 22) := (mine c).filter fun j => t ≤ eS c j
/-- The sends made and not yet waited for. -/
def inFlight (c : Fin 16) (t : ℕ) : Finset (Fin 22) := (mine c).filter fun j => eS c j < t ∧ t ≤ eW j
/-- The sends waited for. -/
def gone (c : Fin 16) (t : ℕ) : Finset (Fin 22) := (mine c).filter fun j => eS c j < t ∧ eW j < t
/-- The sends whose source piece is at hand: the region they read has arrived and the transfer is not reading it. -/
def atHand (c : Fin 16) (t : ℕ) : Finset (Fin 22) :=
  (mine c).filter fun j => (srcR c j = lo c ∨ eR c (srcR c j) < t) ∧ ¬ (eS c j < t ∧ t ≤ eW j)
/-- The arrivals still to be waited for. -/
def awaited (c : Fin 16) (t : ℕ) : Finset (Fin 32) := (inbox c).filter fun h => t ≤ eR c h
/-- The arrivals that were waited for. -/
def arrived (c : Fin 16) (t : ℕ) : Finset (Fin 32) := (inbox c).filter fun h => eR c h < t
/-- The half slots whose rows of the result are written. -/
def written (c : Fin 16) (t : ℕ) : Finset (Fin 32) := Finset.univ.filter fun h => eO c h < t
/-- The sends that read from a region. -/
def readers (c : Fin 16) (g : Fin 32) : Finset (Fin 22) := (mine c).filter fun j => srcR c j = g
/-- The devices a device tells it is ready, and hears from. -/
def nears (c : Fin 16) : Finset (Fin 16) := Finset.univ.filter fun d => near c d
/-- Those still to be told. -/
def toTell (c : Fin 16) (t : ℕ) : Finset (Fin 16) := (nears c).filter fun d => t ≤ tB c d

/-! ## Facts -/

/-- A send arrives as an arrival its target waits for, of the same size, and nobody else makes it. -/
theorem arrives : ∀ c j, sends c j → gets (tgt c j) (slot c j) ∧ halfR (tgt c j) (slot c j) = isHalf j
    ∧ sender (tgt c j) (slot c j) = (c, j) ∧ near c (tgt c j) := by decide +kernel

/-- Every arrival waited for is sent by its sender. -/
theorem departs : ∀ c h, gets c h → sends (sender c h).1 (sender c h).2 ∧ tgt (sender c h).1 (sender c h).2 = c
    ∧ slot (sender c h).1 (sender c h).2 = h := by decide +kernel

/-- Readiness is told both ways. -/
theorem near_symm : ∀ c d, near c d = near d c := by decide +kernel

/-- A device is near to five others. -/
theorem near_card : ∀ c, (nears c).card = 5 := by decide +kernel

/-- A send reads from a region its device has. -/
theorem srcR_mem : ∀ c j, sends c j → srcR c j ∈ regions c ∧ cargo c j ⊆ part c (srcR c j) := by decide +kernel

/-- Two sends from one region read with different shares. -/
theorem tok_inj : ∀ c i j, sends c i → sends c j → srcR c i = srcR c j → tok i = tok j → i = j := by decide +kernel

/-- The regions of a device are disjoint. -/
theorem part_disj : ∀ c, ∀ g ∈ regions c, ∀ h ∈ regions c, g ≠ h → Disjoint (part c g) (part c h) := by decide +kernel

/-- The regions of a device are all of the buffer. -/
theorem part_cover : ∀ c, (regions c).biUnion (part c) = Finset.univ := by decide +kernel

/-- The sends of one device to another do not overlap. -/
theorem cargo_disj : ∀ d, ∀ i j, sends d i → sends d j → tgt d i = tgt d j → i ≠ j → Disjoint (cargo d i) (cargo d j) := by
  decide +kernel

/-- What a device hands to its near ones is, with its own chunk, the whole buffer, in disjoint pieces. -/
theorem handed_cover : ∀ c, (nears c).biUnion (fun d => handed d c) ∪ {lo c, lo c + 1} = Finset.univ := by
  decide +kernel

/-- Two near devices are handed disjoint half slots. -/
theorem handed_disj : ∀ c d e, near c d → near c e → d ≠ e → Disjoint (handed d c) (handed e c) := by decide +kernel

/-- No half slot of a device's own chunk is handed out. -/
theorem handed_own : ∀ c d, near c d → Disjoint (handed d c) {lo c, lo c + 1} := by decide +kernel

/-! ## Steps of the clock -/

/-- Everything the clock decides, at one time. -/
structure Standing where
  toSend : Finset (Fin 22)
  inFlight : Finset (Fin 22)
  gone : Finset (Fin 22)
  atHand : Finset (Fin 22)
  awaited : Finset (Fin 32)
  arrived : Finset (Fin 32)
  written : Finset (Fin 32)

instance : DecidableEq Standing := fun a b =>
  decidable_of_iff (a.toSend = b.toSend ∧ a.inFlight = b.inFlight ∧ a.gone = b.gone ∧ a.atHand = b.atHand ∧ a.awaited = b.awaited
      ∧ a.arrived = b.arrived ∧ a.written = b.written)
    ⟨fun ⟨h1, h2, h3, h4, h5, h6, h7⟩ => by cases a; cases b; simp_all, fun h => by subst h; exact ⟨rfl, rfl, rfl, rfl, rfl, rfl, rfl⟩⟩

/-- Where device `c` stands at time `t`. -/
def stand (c : Fin 16) (t : ℕ) : Standing :=
  ⟨toSend c t, inFlight c t, gone c t, atHand c t, awaited c t, arrived c t, written c t⟩

/-- Starting a send. -/
theorem step_send : ∀ c j, sends c j → ∀ t, t = eS c j → j ∈ (stand c t).toSend ∧ j ∈ (stand c t).atHand
    ∧ j ∉ (stand c t).inFlight
    ∧ stand c (t + 1) = { stand c t with
        toSend := (stand c t).toSend.erase j, inFlight := insert j (stand c t).inFlight, atHand := (stand c t).atHand.erase j } := by
  intro c j hj t ht; subst ht; revert c j; decide +kernel

/-- Waiting for an arrival. -/
theorem step_recv : ∀ c h, gets c h → ∀ t, t = eR c h → h ∈ (stand c t).awaited ∧ h ∉ (stand c t).arrived
    ∧ Disjoint (readers c h) (stand c t).atHand
    ∧ stand c (t + 1) = { stand c t with
        awaited := (stand c t).awaited.erase h, arrived := insert h (stand c t).arrived, atHand := readers c h ∪ (stand c t).atHand } := by
  intro c h hh t ht; subst ht; revert c h; decide +kernel

/-- Waiting for a send to have left. -/
theorem step_gone : ∀ c j, sends c j → ∀ t, t = eW j → j ∈ (stand c t).inFlight ∧ j ∉ (stand c t).gone ∧ j ∉ (stand c t).atHand
    ∧ stand c (t + 1) = { stand c t with
        inFlight := (stand c t).inFlight.erase j, gone := insert j (stand c t).gone, atHand := insert j (stand c t).atHand } := by
  intro c j hj t ht; subst ht; revert c j; decide +kernel

/-- Writing the rows of a chunk. -/
theorem step_rows : ∀ c p, dist c (lo p) ≠ 2 → ∀ t, t = eO c (lo p) →
    stand c (t + 1) = { stand c t with written := reg false (lo p) ∪ (stand c t).written } := by
  intro c p hp t ht; subst ht; revert c p; decide +kernel

/-- Writing the rows of a half slot. -/
theorem step_half : ∀ c h, dist c h = 2 → ∀ t, t = eO c h →
    stand c (t + 1) = { stand c t with written := reg true h ∪ (stand c t).written } := by
  intro c h hp t ht; subst ht; revert c h; decide +kernel

/-- At the start: everything is to be sent, everything is awaited, the pieces of the device's own chunk are at hand. -/
theorem stand_start : ∀ c, stand c 0 = ⟨mine c, ∅, ∅, readers c (lo c), inbox c, ∅, ∅⟩ := by decide +kernel

/-- At the end: everything has been sent, waited for and written. -/
theorem stand_end : ∀ c, stand c 95 = ⟨∅, ∅, mine c, mine c, ∅, inbox c, Finset.univ⟩ := by decide +kernel

end AllGather
-- ==== Proof.Clock.lean ====
module

public import proofs.«01_k».proof.Proof.Ring

@[expose] public section

/-!
# The order of waits

Facts of the clock beside its steps: an arrival is waited for only when every send still to be made arrives higher up.
-/

namespace AllGather

/-- The arrivals are higher up than the barrier. -/
theorem rank_pos : ∀ c h, 1 < rank c h := by decide +kernel

/-- When an arrival is waited for, the sends still to be made arrive higher up. -/
theorem recv_order : ∀ c h, gets c h → ∀ t, t = eR c h → ∀ j ∈ (stand c t).toSend, rank c h < rank (tgt c j) (slot c j) := by
  intro c h hh t ht; subst ht; revert c h; decide +kernel

/-- Telling device `d` at its time. -/
theorem step_tell : ∀ c d, near c d → ∀ t, t = tB c d → d ∈ toTell c t ∧ (toTell c t).erase d = toTell c (t + 1) := by
  intro c d hd t ht; subst ht; revert c d; decide +kernel

/-- All near devices are to be told at first. -/
theorem tell_start : ∀ c, toTell c 0 = nears c := by decide +kernel
/-- None is left after the six times. -/
theorem tell_end : ∀ c, toTell c 6 = ∅ := by decide +kernel

/-- A device's own region is its whole chunk. -/
theorem part_own : ∀ c, part c (lo c) = reg false (lo c) := by decide +kernel

/-- Chunks from outside the opposite column are whole. -/
theorem part_chunk : ∀ c p, dist c (lo p) ≠ 2 → part c (lo p) = reg false (lo p) := by decide +kernel

/-- Those of the opposite column come in halves. -/
theorem part_half : ∀ c h, dist c h = 2 → part c h = reg true h := by decide +kernel

/-- What is written is written as the whole chunk of a device, or as one half slot. -/
theorem dist_half : ∀ c (h : Fin 32) (p : Fin 16), h.val / 2 = p.val → dist c h = dist c (lo p) := by decide +kernel

/-! ## The places visited -/

/-- Whether the `i`-th column place exists: one up, one down, two up, … . -/
def here (c : Fin 16) (i : Fin 6) : Bool := if i.val % 2 = 0 then zOf c + (i.val / 2 + 1) ≤ 3 else i.val / 2 + 1 ≤ zOf c

/-- The device at the `i`-th column place. -/
def kP (c : Fin 16) (i : Fin 6) : Fin 16 := at' (colZ c i) (qOf c)
/-- The left neighbour's column at the `r`-th height. -/
def lP (c : Fin 16) (r : Fin 4) : Fin 16 := at' (ordZ c r) (qOf c + 3)
/-- The right neighbour's column at the `r`-th height. -/
def rP (c : Fin 16) (r : Fin 4) : Fin 16 := at' (ordZ c r) (qOf c + 1)
/-- The opposite column at the `r`-th height. -/
def dP (c : Fin 16) (r : Fin 4) : Fin 16 := at' (ordZ c r) (qOf c + 2)
/-- The send of the `i`-th column place's chunk to the right. -/
def kR (c : Fin 16) (i : Fin 6) : Fin 22 := jPr (colZ c i)
/-- The send of the `i`-th column place's chunk to the left. -/
def kL (c : Fin 16) (i : Fin 6) : Fin 22 := jPl (colZ c i)
/-- The height of a device as a number below four. -/
def zF (c : Fin 16) : Fin 4 := ⟨c.val / 4, by omega⟩
/-- The column sends in the order they are made: one up, one down, two up, … . -/
def zJ (i : Fin 6) : Fin 22 := ⟨if i.val % 2 = 0 then i.val / 2 else 3 + i.val / 2, by split <;> omega⟩

/-- The column sends. -/
theorem up_facts : ∀ c i, here c i → sends c (zJ i) ∧ eS c (zJ i) = i ∧ isHalf (zJ i) = false ∧ slot c (zJ i) = lo c
    ∧ eW (zJ i) = 73 + i := by decide +kernel
/-- A column place that does not exist changes nothing, neither when its send would start nor when it would be waited for. -/
theorem up_skip : ∀ c i, here c i = false → stand c (i.val + 1) = stand c i ∧ stand c (73 + i.val + 1) = stand c (73 + i.val) := by
  decide +kernel

/-- The sends of the device's own chunk. -/
theorem own_facts : ∀ c, sends c (jPr (zF c)) ∧ eS c (jPr (zF c)) = 6 ∧ isHalf (jPr (zF c)) = false ∧ slot c (jPr (zF c)) = lo c
    ∧ sends c (jPl (zF c)) ∧ eS c (jPl (zF c)) = 7 ∧ isHalf (jPl (zF c)) = false ∧ slot c (jPl (zF c)) = lo c
    ∧ dist c (lo c) ≠ 2 ∧ eO c (lo c) = 8 := by decide +kernel

/-- The arrival of a column place. -/
theorem col_facts : ∀ c i, here c i → gets c (lo (kP c i)) ∧ eR c (lo (kP c i)) = 9 + 4 * i ∧ halfR c (lo (kP c i)) = false
    ∧ dist c (lo (kP c i)) ≠ 2 ∧ eO c (lo (kP c i)) = 12 + 4 * i ∧ lo (kP c i) ∈ (stand c (12 + 4 * i)).arrived := by decide +kernel
/-- The sends of a column place's chunk to both sides. -/
theorem col_sends : ∀ c i, here c i → sends c (kR c i) ∧ eS c (kR c i) = 10 + 4 * i ∧ isHalf (kR c i) = false
    ∧ slot c (kR c i) = lo (kP c i) ∧ sends c (kL c i) ∧ eS c (kL c i) = 11 + 4 * i ∧ isHalf (kL c i) = false
    ∧ slot c (kL c i) = lo (kP c i) := by decide +kernel
/-- A column place that does not exist changes nothing in the column steps. -/
theorem col_skip : ∀ c (i : Fin 6), here c i = false → stand c (13 + 4 * i) = stand c (9 + 4 * i) := by decide +kernel

/-- The ring step at the left. -/
theorem left_facts : ∀ c (r : Fin 4), gets c (lo (lP c r)) ∧ eR c (lo (lP c r)) = 33 + 6 * r ∧ halfR c (lo (lP c r)) = false
    ∧ dist c (lo (lP c r)) ≠ 2 ∧ eO c (lo (lP c r)) = 35 + 6 * r ∧ lo (lP c r) ∈ (stand c (35 + 6 * r)).arrived := by decide +kernel
/-- The send that passes the left neighbour's first half on to the right. -/
theorem left_sends : ∀ c (r : Fin 4), sends c (jDr (ordZ c r)) ∧ eS c (jDr (ordZ c r)) = 34 + 6 * r ∧ isHalf (jDr (ordZ c r)) = true
    ∧ slot c (jDr (ordZ c r)) = lo (lP c r) := by decide +kernel
/-- The ring step at the right. -/
theorem right_facts : ∀ c (r : Fin 4), gets c (lo (rP c r)) ∧ eR c (lo (rP c r)) = 36 + 6 * r ∧ halfR c (lo (rP c r)) = false
    ∧ dist c (lo (rP c r)) ≠ 2 ∧ eO c (lo (rP c r)) = 38 + 6 * r ∧ lo (rP c r) ∈ (stand c (38 + 6 * r)).arrived := by decide +kernel
/-- The send that passes the right neighbour's second half on to the left. -/
theorem right_sends : ∀ c (r : Fin 4), sends c (jDl (ordZ c r)) ∧ eS c (jDl (ordZ c r)) = 37 + 6 * r ∧ isHalf (jDl (ordZ c r)) = true
    ∧ slot c (jDl (ordZ c r)) = hi (rP c r) := by decide +kernel

/-- The two halves from the opposite column. -/
theorem even_facts : ∀ c (r : Fin 4), gets c (lo (dP c r)) ∧ eR c (lo (dP c r)) = 57 + 4 * r ∧ halfR c (lo (dP c r)) = true
    ∧ dist c (lo (dP c r)) = 2 ∧ eO c (lo (dP c r)) = 58 + 4 * r ∧ lo (dP c r) ∈ (stand c (58 + 4 * r)).arrived := by decide +kernel
/-- The second half from the opposite column. -/
theorem odd_facts : ∀ c (r : Fin 4), gets c (hi (dP c r)) ∧ eR c (hi (dP c r)) = 59 + 4 * r ∧ halfR c (hi (dP c r)) = true
    ∧ dist c (hi (dP c r)) = 2 ∧ eO c (hi (dP c r)) = 60 + 4 * r ∧ hi (dP c r) ∈ (stand c (60 + 4 * r)).arrived := by decide +kernel

/-- The waits for the sends to have left. -/
theorem gone_facts : ∀ c (o : Fin 4), sends c (jPr o) ∧ sends c (jPl o) ∧ sends c (jDr o) ∧ sends c (jDl o) ∧ eW (jPr o) = 79 + 4 * o
    ∧ eW (jPl o) = 80 + 4 * o ∧ eW (jDr o) = 81 + 4 * o ∧ eW (jDl o) = 82 + 4 * o ∧ isHalf (jPr o) = false ∧ isHalf (jPl o) = false
    ∧ isHalf (jDr o) = true ∧ isHalf (jDl o) = true := by decide +kernel

/-- Times of the ready signals. -/
theorem near_left : ∀ c, near c (at' (zOf c) (qOf c + 3)) ∧ tB c (at' (zOf c) (qOf c + 3)) = 0 := by decide +kernel
/-- The right neighbour is told second. -/
theorem near_right : ∀ c, near c (at' (zOf c) (qOf c + 1)) ∧ tB c (at' (zOf c) (qOf c + 1)) = 1 := by decide +kernel
/-- The devices of the column are told in the order of their heights, after the two ring neighbours. -/
theorem near_col : ∀ c (z : Fin 4), z ≠ zF c → near c (at' z (qOf c)) ∧ tB c (at' z (qOf c)) = 2 + z := by decide +kernel
/-- At its own height a device tells nobody. -/
theorem near_skip : ∀ c, toTell c (2 + (zF c).val + 1) = toTell c (2 + (zF c).val) := by decide +kernel

/-- A device does not wait for its own chunk. -/
theorem own_not_inbox : ∀ c, lo c ∉ inbox c := by decide +kernel

/-- Ready signals come from the devices they go to. -/
theorem nears_symm (c d : Fin 16) : d ∈ nears c ↔ c ∈ nears d := by
  unfold nears
  rw [Finset.mem_filter, Finset.mem_filter, near_symm c d]
  exact and_congr_left' (iff_of_true (Finset.mem_univ _) (Finset.mem_univ _))

end AllGather
-- ==== Proof.KernelIdeal.Slots.lean ====
module

public import proofs.«01_k».proof.Proof.Ring
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ViewIndex

@[expose] public section

noncomputable section

/-!
# The gathered buffer by half slots

The elements of the gathered buffer in a set of half slots, the windows the kernel reads, writes and sends through
(a chunk of two half slots, or one), what the buffer holds once a half slot has arrived, the rows of the result, and which
semaphore each slice of a semaphore array names.
-/

namespace Cert.KernelIdeal.AG

open Cert.KernelIdeal Cert.KernelIdeal.Gen AllGather

open Idealize.ShloMosaic
open Idealize.ShloMosaic.TcCoe

variable {F : FTy → Type} [FloatOps F]

/-! ## The memrefs -/

abbrev xM : Memref sig .tc .vmem S128x2048 .f32 := Memref.whole cc0_stg0_0
abbrev wM : Memref sig .tc .vmem S2048x128 .f32 := Memref.whole cc0_stg1_0
abbrev oM : Memref sig .tc .vmem S2048x128 .f32 := Memref.whole cc0_stg2_0
abbrev rM : Memref sig .tc .vmem S32x64x2048 .f32 := Memref.whole cc0_scratch0

/-- The window of a chunk at an offset. -/
abbrev chunkV (off : Fin 3 → ℕ) (inb : ∀ a, off a + S2x64x2048.size a ≤ S32x64x2048.size a) : Memref sig .tc .vmem S2x64x2048 .f32 :=
  rM.slice (Rect.unit (s := S32x64x2048) off S2x64x2048.size inb) (fun _ => rfl)

/-- The window of a half slot at an offset, without its axis of size one. -/
abbrev halfV (off : Fin 3 → ℕ) (inb : ∀ a, off a + S1x64x2048.size a ≤ S32x64x2048.size a) : Memref sig .tc .vmem S64x2048 .f32 :=
  (rM.slice (Rect.unit (s := S32x64x2048) off S1x64x2048.size inb) (fun _ => rfl)).squeeze S64x2048 squeezes_S1x64x2048_S64x2048

/-- The credit of a chunk. -/
abbrev NC : ℕ := (rM.slice (Rect.unit (s := S32x64x2048) ![0, 0, 0] S2x64x2048.size (by decide)) (fun _ => rfl)).view.dmaCredit
/-- The credit of a half slot. -/
abbrev NH : ℕ := ((rM.slice (Rect.unit (s := S32x64x2048) ![0, 0, 0] S1x64x2048.size (by decide)) (fun _ => rfl)).squeeze S64x2048 squeezes_S1x64x2048_S64x2048).view.dmaCredit

/-- The credit of a chunk is positive. -/
theorem NC_pos : 0 < NC := View.dmaCredit_pos _ (by decide)
/-- The credit of a half slot is positive. -/
theorem NH_pos : 0 < NH := View.dmaCredit_pos _ (by decide)

/-- The credit of what is one half slot, or two. -/
def credit (b : Bool) : ℕ := if b then NH else NC
/-- Either credit is positive. -/
theorem credit_pos (b : Bool) : 0 < credit b := by cases b; exacts [NC_pos, NH_pos]

/-! ## Elements by half slot -/

/-- The elements of the buffer in a set of half slots. -/
def slotSet (H : Finset (Fin 32)) : Finset S32x64x2048.Idx := Finset.univ.filter fun i => (⟨(i 0).val, (i 0).isLt⟩ : Fin 32) ∈ H

/-- An element is in a set of half slots when its first coordinate is. -/
theorem mem_slotSet {H : Finset (Fin 32)} {i : S32x64x2048.Idx} : i ∈ slotSet H ↔ (⟨(i 0).val, (i 0).isLt⟩ : Fin 32) ∈ H := by
  unfold slotSet; rw [Finset.mem_filter]; exact and_iff_right (Finset.mem_univ _)

/-- All half slots hold all elements. -/
theorem slotSet_univ : slotSet Finset.univ = Finset.univ := Finset.ext fun i => by rw [mem_slotSet]; simp only [Finset.mem_univ]
/-- The elements of a union are the union of the elements. -/
theorem slotSet_union (A B : Finset (Fin 32)) : slotSet (A ∪ B) = slotSet A ∪ slotSet B :=
  Finset.ext fun i => by rw [Finset.mem_union, mem_slotSet, mem_slotSet, mem_slotSet, Finset.mem_union]
/-- Fewer half slots hold fewer elements. -/
theorem slotSet_subset {A B : Finset (Fin 32)} (h : A ⊆ B) : slotSet A ⊆ slotSet B := fun i hi => mem_slotSet.mpr (h (mem_slotSet.mp hi))
/-- Disjoint half slots hold disjoint elements. -/
theorem slotSet_disj {A B : Finset (Fin 32)} (h : Disjoint A B) : Disjoint (slotSet A) (slotSet B) :=
  Finset.disjoint_left.mpr fun i hi hj => Finset.disjoint_left.mp h (mem_slotSet.mp hi) (mem_slotSet.mp hj)
/-- The elements of a family of half slots are the union over the family. -/
theorem slotSet_biUnion {ι : Type} [DecidableEq ι] (S : Finset ι) (K : ι → Finset (Fin 32)) : slotSet (S.biUnion K) = S.biUnion fun j => slotSet (K j) :=
  Finset.ext fun i => by
    rw [mem_slotSet, Finset.mem_biUnion, Finset.mem_biUnion]
    exact exists_congr fun j => and_congr_right fun _ => mem_slotSet.symm

/-- The elements of a rectangle that spans whole half slots. -/
theorem rect_set {h n : ℕ} {sz : Fin 3 → ℕ} (hsz : sz = ![n, 64, 2048]) (inb : ∀ a, (![h, 0, 0] : Fin 3 → ℕ) a + sz a ≤ S32x64x2048.size a) :
    (Rect.unit (s := S32x64x2048) ![h, 0, 0] sz inb).set = slotSet (Finset.univ.filter fun k => h ≤ k.val ∧ k.val < h + n) := by
  subst hsz
  ext i
  rw [Rect.mem_set_unit, mem_slotSet, Finset.mem_filter]
  constructor
  · intro hi; exact ⟨Finset.mem_univ _, hi 0⟩
  · rintro ⟨-, hi⟩ a
    fin_cases a
    · exact hi
    · exact ⟨Nat.zero_le _, by have := (i 1).isLt; exact lt_of_lt_of_eq this (by rfl)⟩
    · exact ⟨Nat.zero_le _, by have := (i 2).isLt; exact lt_of_lt_of_eq this (by rfl)⟩

/-- Two consecutive half slots, from an even one on, are the region of a chunk. -/
theorem two_slots : ∀ s : Fin 32, s.val % 2 = 0 → (Finset.univ.filter fun k : Fin 32 => s.val ≤ k.val ∧ k.val < s.val + 2) = reg false s := by
  decide +kernel
/-- One half slot is the region of a half. -/
theorem one_slot : ∀ s : Fin 32, (Finset.univ.filter fun k : Fin 32 => s.val ≤ k.val ∧ k.val < s.val + 1) = reg true s := by
  decide +kernel

/-- The window of a chunk covers the two half slots of the chunk. -/
theorem chunkV_set {off : Fin 3 → ℕ} {inb} {s : Fin 32} (hoff : off = ![s.val, 0, 0]) (hs : s.val % 2 = 0) :
    (chunkV off inb).view.set = slotSet (reg false s) := by
  subst hoff
  exact (View.set_slice_whole cc0_scratch0 _).trans
    ((rect_set (n := 2) (funext fun a => by fin_cases a <;> rfl) inb).trans (congrArg slotSet (two_slots s hs)))

/-- The window of a half slot covers that half slot. -/
theorem halfV_set {off : Fin 3 → ℕ} {inb} {s : Fin 32} (hoff : off = ![s.val, 0, 0]) :
    (halfV off inb).view.set = slotSet (reg true s) := by
  subst hoff
  exact (View.set_reshape _ _).trans ((View.set_slice_whole cc0_scratch0 _).trans
    ((rect_set (n := 1) (funext fun a => by fin_cases a <;> rfl) inb).trans (congrArg slotSet (one_slot s))))

/-- Reading a window's contents and writing them through the same window of another copy leaves the same elements there. -/
theorem write_read {sp : Space} {s : Shape} {e : EltTy} (v : View sig .tc sp s e) (f g : v.ty.Contents (Elt F)) :
    ∀ i ∈ v.set, v.write (Elt F) f (v.read (Elt F) g) Finset.univ i = g i := by
  intro i hi
  obtain ⟨x, -, rfl⟩ := Finset.mem_map.mp hi
  exact View.eq_of_read_eq (congrFun (View.read_write_univ f (v.read (Elt F) g)) x)

/-! ## What a load of a chunk or of a half slot sees -/

/-- The rectangle of a chunk. -/
abbrev chunkR (p : Fin 16) : Rect S32x64x2048 :=
  Rect.unit (s := S32x64x2048) ![(lo p).val, 0, 0] S2x64x2048.size
    (fun a => by have := p.isLt; fin_cases a; exacts [(by show 2 * p.val + 2 ≤ 32; omega), le_refl _, le_refl _])
/-- The rectangle of a half slot. -/
abbrev halfRect (h : Fin 32) : Rect S32x64x2048 :=
  Rect.unit (s := S32x64x2048) ![h.val, 0, 0] S1x64x2048.size
    (fun a => by have := h.isLt; fin_cases a; exacts [(by show h.val + 1 ≤ 32; omega), le_refl _, le_refl _])

/-- The chunk of device `p` in the buffer. -/
def chunkOf (g : S32x64x2048.Idx → Elt F .f32) (p : Fin 16) : Vec F S2x64x2048 .f32 := fun j => g ((chunkR p).emb j)
/-- A half slot of the buffer. -/
def halfOf (g : S32x64x2048.Idx → Elt F .f32) (h : Fin 32) : Vec F S1x64x2048 .f32 := fun j => g ((halfRect h).emb j)

/-- A load at a chunk's offset reads the chunk. -/
theorem load_chunk_eq {off : Fin 3 → ℕ} {inb} {p : Fin 16} (hoff : off = ![(lo p).val, 0, 0]) (g : S32x64x2048.Idx → Elt F .f32) :
    rM.view.readAt (Elt F) (Rect.unit (s := S32x64x2048) off S2x64x2048.size inb).toLoadRect g = chunkOf g p := by
  subst hoff; rfl
/-- A load at a half slot's offset reads the half slot. -/
theorem load_half_eq {off : Fin 3 → ℕ} {inb} {h : Fin 32} (hoff : off = ![h.val, 0, 0]) (g : S32x64x2048.Idx → Elt F .f32) :
    rM.view.readAt (Elt F) (Rect.unit (s := S32x64x2048) off S1x64x2048.size inb).toLoadRect g = halfOf g h := by
  subst hoff; rfl

/-- The first half slot of a chunk has an even number. -/
theorem lo_even : ∀ p : Fin 16, (lo p).val % 2 = 0 := by decide

/-- A load of a chunk touches only the two half slots of the chunk. -/
theorem load_chunk_set {off : Fin 3 → ℕ} {inb} {p : Fin 16} (hoff : off = ![(lo p).val, 0, 0]) :
    rM.view.setOn (Rect.unit (s := S32x64x2048) off S2x64x2048.size inb).toLoadRect.set = slotSet (reg false (lo p)) :=
  (chunkV_set (inb := inb) hoff (lo_even p)).symm ▸ (by
    show (Finset.map (Function.Embedding.refl _) _) = _
    rw [Finset.map_refl]; exact (View.set_slice_whole cc0_scratch0 _).symm)
/-- A load of a half slot touches only that half slot. -/
theorem load_half_set {off : Fin 3 → ℕ} {inb} {h : Fin 32} (hoff : off = ![h.val, 0, 0]) :
    rM.view.setOn (Rect.unit (s := S32x64x2048) off S1x64x2048.size inb).toLoadRect.set = slotSet (reg true h) :=
  (halfV_set (inb := inb) hoff).symm ▸ (by
    show (Finset.map (Function.Embedding.refl _) _) = _
    rw [Finset.map_refl]; exact ((View.set_reshape _ _).trans (View.set_slice_whole cc0_scratch0 _)).symm)

/-- The place of an element inside its chunk. -/
def inChunk (i : S32x64x2048.Idx) : S2x64x2048.Idx :=
  fun a => ⟨(![(i 0).val % 2, (i 1).val, (i 2).val] : Fin 3 → ℕ) a, by
    fin_cases a
    · exact Nat.mod_lt _ (by decide)
    · exact lt_of_lt_of_eq (i 1).isLt rfl
    · exact lt_of_lt_of_eq (i 2).isLt rfl⟩

/-- The device whose rows an element of the buffer belongs to. -/
def devOf (i : S32x64x2048.Idx) : Fin 16 := ⟨(i 0).val / 2, by have : (i 0).val < 32 := (i 0).isLt; omega⟩

/-- An element of the buffer is the element at its own place in the chunk of its own device. -/
theorem emb_inChunk (i : S32x64x2048.Idx) : (chunkR (devOf i)).emb (inChunk i) = i := by
  funext a
  apply Fin.ext
  rw [Rect.emb_apply]
  fin_cases a
  · show 2 * ((i 0).val / 2) + 1 * ((i 0).val % 2) = (i 0).val
    omega
  · show 0 + 1 * (i 1).val = (i 1).val
    omega
  · show 0 + 1 * (i 2).val = (i 2).val
    omega

/-- The elements of device `p`'s chunk belong to device `p`. -/
theorem devOf_emb (p : Fin 16) (j : S2x64x2048.Idx) : devOf ((chunkR p).emb j) = p := by
  have : (j 0).val < 2 := (j 0).isLt
  apply Fin.ext
  show (2 * p.val + 1 * (j 0).val) / 2 = p.val
  omega

/-- The place in the chunk of the element at place `j` is `j`. -/
theorem inChunk_emb (p : Fin 16) (j : S2x64x2048.Idx) : inChunk ((chunkR p).emb j) = j := by
  have h0 : (j 0).val < 2 := (j 0).isLt
  funext a
  apply Fin.ext
  fin_cases a
  · show (2 * p.val + 1 * (j 0).val) % 2 = (j 0).val
    omega
  · show 0 + 1 * (j 1).val = (j 1).val
    omega
  · show 0 + 1 * (j 2).val = (j 2).val
    omega

/-- The region of device `p`'s chunk is the half slots whose number halved is `p`. -/
theorem mem_reg_lo : ∀ (p : Fin 16) (h : Fin 32), h ∈ reg false (lo p) ↔ h.val / 2 = p.val := by decide +kernel

/-- What a store of a whole chunk leaves in its half slots. -/
theorem store_chunk {off : Fin 3 → ℕ} {inb} {p : Fin 16} (hoff : off = ![(lo p).val, 0, 0]) (f : S32x64x2048.Idx → Elt F .f32)
    (w : S2x64x2048.Idx → Elt F .f32) :
    ∀ i ∈ slotSet (reg false (lo p)),
      (rM.access (Rect.unit (s := S32x64x2048) off S2x64x2048.size inb) : View sig .tc _ _ _).write (Elt F) f w Finset.univ i = w (inChunk i) := by
  subst hoff
  intro i hi
  have hp : devOf i = p := Fin.ext ((mem_reg_lo p _).mp (mem_slotSet.mp hi))
  conv_lhs => rw [← emb_inChunk i, hp]
  exact View.write_emb_of_mem (v := rM.access _) _ _ (Finset.mem_univ _)

/-- A store of a chunk touches the two half slots of the chunk. -/
theorem store_chunk_set {off : Fin 3 → ℕ} {inb} {p : Fin 16} (hoff : off = ![(lo p).val, 0, 0]) :
    (rM.access (Rect.unit (s := S32x64x2048) off S2x64x2048.size inb) : View sig .tc _ _ _).setOn Finset.univ = slotSet (reg false (lo p)) :=
  (View.setOn_univ _).trans (chunkV_set (inb := inb) hoff (lo_even p))

/-! ## Rows of the result -/

/-- The place of an element inside its block of `n` rows. -/
def inBlock (n : ℕ) [NeZero n] (i : S2048x128.Idx) : (⟨2, ![n, 128]⟩ : Shape).Idx :=
  fun a => ⟨(![(i 0).val % n, (i 1).val] : Fin 2 → ℕ) a, by
    fin_cases a
    · exact Nat.mod_lt _ (Nat.pos_of_ne_zero (NeZero.ne n))
    · exact lt_of_lt_of_eq (i 1).isLt rfl⟩

/-- What a store of one block of `n` rows leaves. -/
theorem store_rows (n b : ℕ) [NeZero n] {off : Fin 2 → ℕ} {inb : ∀ a, off a + (⟨2, ![n, 128]⟩ : Shape).size a ≤ S2048x128.size a}
    (hoff : off = ![n * b, 0]) (f : S2048x128.Idx → Elt F .f32) (w : (⟨2, ![n, 128]⟩ : Shape).Idx → Elt F .f32) (i : S2048x128.Idx) :
    (oM.access (Rect.unit (s := S2048x128) off (⟨2, ![n, 128]⟩ : Shape).size inb) : View sig .tc _ _ _).write (Elt F) f w Finset.univ i
      = if (i 0).val / n = b then w (inBlock n i) else f i := by
  subst hoff
  have hn : 0 < n := Nat.pos_of_ne_zero (NeZero.ne n)
  by_cases h : (i 0).val / n = b
  · rw [if_pos h]
    have hi : (Rect.unit (s := S2048x128) ![n * b, 0] (⟨2, ![n, 128]⟩ : Shape).size inb).emb (inBlock n i) = i := by
      funext a
      apply Fin.ext
      rw [Rect.emb_apply]
      fin_cases a
      · show n * b + 1 * ((i 0).val % n) = (i 0).val
        rw [Nat.one_mul, ← h]; exact Nat.div_add_mod _ _
      · show 0 + 1 * (i 1).val = (i 1).val
        omega
    conv_lhs => rw [← hi]
    exact View.write_emb_of_mem (v := oM.access _) _ _ (Finset.mem_univ _)
  · rw [if_neg h]
    refine View.write_of_not_mem (v := oM.access _) _ _ _ fun hm => h ?_
    rw [View.setOn_univ] at hm
    have hm' := (View.set_slice_whole cc0_stg2_0 _) ▸ hm
    have := (Rect.mem_set_unit.mp hm') 0
    have h1 : n * b ≤ (i 0).val := this.1
    have h2 : (i 0).val < n * b + n := this.2
    exact (Nat.div_eq_iff hn).mpr ⟨by rw [Nat.mul_comm]; exact h1, by rw [Nat.mul_comm b n]; omega⟩

/-! ## Semaphores -/

/-- The DMA semaphore number `3 + k`: the three first stage the windows. -/
def dsem (k : Fin 54) : DmaSem sig := ⟨3 + k.val, by have := k.isLt; show 3 + k.val < 57; omega⟩
/-- The semaphore of the arrival named `h`. -/
def rsem (h : Fin 32) : DmaSem sig := ⟨3 + h.val, by have := h.isLt; show 3 + h.val < 57; omega⟩
/-- The semaphore of send `j`. -/
def ssem (j : Fin 22) : DmaSem sig := ⟨35 + j.val, by have := j.isLt; show 35 + j.val < 57; omega⟩
/-- The barrier semaphore. -/
abbrev bsem : SemLoc sig := .reg (SemArray.scalar (d := ![]) (sig.barrier 0 rfl)).sem

/-- The semaphore at an offset of an array laid on consecutive semaphores. -/
theorem pick_sem {n N base k : ℕ} (h : base + (⟨1, ![n]⟩ : Shape).numel ≤ N) (off : Fin 1 → ℕ) (hoff : off = ![k])
    (inb : ∀ a, off a + S1.size a ≤ (⟨1, ![n]⟩ : Shape).size a) :
    (((SemArray.consecutive base ⟨1, ![n]⟩ h).slice (Rect.unit off S1.size inb)).squeeze S_ squeezes_S1_S_).sem.val = base + k := by
  subst hoff
  show base + ((⟨1, ![n]⟩ : Shape).rowMajor _).val = base + k
  rw [Shape.rowMajor_val_one]
  refine congrArg (base + ·) ?_
  show k + 1 * (_ : ℕ) = k
  rw [Nat.one_mul, Nat.add_eq_left]
  exact Nat.lt_one_iff.mp (Fin.isLt _)

/-- The receive semaphore at an offset is that of the arrival named by the offset. -/
theorem arg4_sem {h : Fin 32} {off : Fin 1 → ℕ} {inb} (hoff : off = ![h.val]) :
    ((cc0_scratch1.slice (Rect.unit (s := S32) off S1.size inb)).squeeze S_ squeezes_S1_S_).sem = rsem h :=
  Fin.ext (pick_sem (n := 32) _ off hoff inb)
/-- The column send semaphore at an offset is that of the send with this number. -/
theorem arg5_sem {j : Fin 22} {k : ℕ} {off : Fin 1 → ℕ} {inb} (hj : j.val = k) (hoff : off = ![k]) :
    ((cc0_scratch2.slice (Rect.unit (s := S6) off S1.size inb)).squeeze S_ squeezes_S1_S_).sem = ssem j :=
  Fin.ext ((pick_sem (n := 6) _ off hoff inb).trans (by rw [← hj]; rfl))
/-- The semaphores of the chunks sent to the right. -/
theorem arg6_sem {o : Fin 4} {off : Fin 1 → ℕ} {inb} (hoff : off = ![o.val]) :
    ((cc0_scratch3.slice (Rect.unit (s := S4) off S1.size inb)).squeeze S_ squeezes_S1_S_).sem = ssem (jPr o) :=
  Fin.ext ((pick_sem (n := 4) _ off hoff inb).trans (by show 41 + o.val = 35 + (6 + o.val); omega))
/-- The semaphores of the chunks sent to the left. -/
theorem arg7_sem {o : Fin 4} {off : Fin 1 → ℕ} {inb} (hoff : off = ![o.val]) :
    ((cc0_scratch4.slice (Rect.unit (s := S4) off S1.size inb)).squeeze S_ squeezes_S1_S_).sem = ssem (jPl o) :=
  Fin.ext ((pick_sem (n := 4) _ off hoff inb).trans (by show 45 + o.val = 35 + (10 + o.val); omega))
/-- The semaphores of the halves passed on to the right. -/
theorem arg8_sem {o : Fin 4} {off : Fin 1 → ℕ} {inb} (hoff : off = ![o.val]) :
    ((cc0_scratch5.slice (Rect.unit (s := S4) off S1.size inb)).squeeze S_ squeezes_S1_S_).sem = ssem (jDr o) :=
  Fin.ext ((pick_sem (n := 4) _ off hoff inb).trans (by show 49 + o.val = 35 + (14 + o.val); omega))
/-- The semaphores of the halves passed on to the left. -/
theorem arg9_sem {o : Fin 4} {off : Fin 1 → ℕ} {inb} (hoff : off = ![o.val]) :
    ((cc0_scratch6.slice (Rect.unit (s := S4) off S1.size inb)).squeeze S_ squeezes_S1_S_).sem = ssem (jDl o) :=
  Fin.ext ((pick_sem (n := 4) _ off hoff inb).trans (by show 53 + o.val = 35 + (18 + o.val); omega))

end Cert.KernelIdeal.AG

end
-- ==== Proof.KernelIdeal.Protocol.lean ====
module

public import proofs.«01_k».proof.Proof.KernelIdeal.Slots

@[expose] public section

noncomputable section

/-!
# The protocol

Each device has a cell per arrival, a cell per send and the barrier cell.  A barrier cell is paid by the five devices
near it, each with one unit and the half slots it lets the owner fill on it.  An arrival's cell is paid once, by the transfer
that fills the half slots, which then hold the rows of the device they are named after; a send's cell is paid once, when
the transfer has read its source, and gives the share of the source back.
-/

namespace Cert.KernelIdeal.AG

open Cert.KernelIdeal Cert.KernelIdeal.Gen AllGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareTokN shareDrop)

variable {F : FTy → Type} [FloatOps F]

/-- Round bookkeeping of the kernel's own cells: a duty is named by the device that pays it on the barrier. -/
abbrev UG : Type := URounds (GSem nD τ sig) (Dev nD)
abbrev UU : Type := UR sig nD τ × UG

local notation "𝕄" => MT nD τ sig Unit (Elt F) ℕ UU ℕ

abbrev EP : Emb (UR sig nD τ) (MT nD τ sig Unit (Elt F) ℕ UU ℕ) := embL
abbrev ER : Emb UG (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- Device `c`'s rows of `x`, as staged. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s columns of `w`, as staged. -/
def wstg (c : Dev nD) : (cc0_stg1_0 : Ref sig .tc).ty.Contents (Elt F) :=
  (win0_1.blk (0 : Fin 1)).view.read (Elt F) ((s₀ m ρ).mem ((c : Thread nD τ).loc main_arg1))

/-- The gathered rows: half slot `2 p + b` holds the half `b` of device `p`'s rows. -/
def gath : S32x64x2048.Idx → Elt F .f32 := fun i => k0_pay1 (xstg m ρ (devOf i)) (inChunk i)

/-- The half slot an element of the result belongs to. -/
def slotOf (i : S2048x128.Idx) : Fin 32 := ⟨(i 0).val / 64, by have : (i 0).val < 2048 := (i 0).isLt; omega⟩
/-- The device whose rows of `x` an element of the result is computed from. -/
def ownerOf (i : S2048x128.Idx) : Fin 16 := ⟨(i 0).val / 128, by have : (i 0).val < 2048 := (i 0).isLt; omega⟩

/-- The rows of the result computed from a whole chunk. -/
abbrev rows128 (v : Vec F S2x64x2048 .f32) (w : Vec F S2048x128 .f32) : FVec F S128x128 .f32 := k0_pay2 v w
/-- The rows of the result computed from one half slot. -/
abbrev rows64 (v : Vec F S1x64x2048 .f32) (w : Vec F S2048x128 .f32) : FVec F S64x128 .f32 := k0_pay43 v w

/-- The result on device `c`: by half slot for the opposite column, by chunk for the others. -/
def outAt (c : Dev nD) : (cc0_stg2_0 : Ref sig .tc).ty.Contents (Elt F) := fun i : S2048x128.Idx =>
  if dist c (slotOf i) = 2 then rows64 (halfOf (gath m ρ) (slotOf i)) (wstg m ρ c) (inBlock 64 i)
  else rows128 (chunkOf (gath m ρ) (ownerOf i)) (wstg m ρ c) (inBlock 128 i)

/-! ## Holdings of the gathered buffer -/

/-- Half slots of device `c`'s gathered buffer at a share. -/
def comm (c : Dev nD) (H : Finset (Fin 32)) (q : PosShare TreeShare) (f : S32x64x2048.Idx → Elt F .f32) : sProp 𝕄 :=
  ((c : Thread nD τ).loc cc0_scratch0) ↦[slotSet H]{q} (f : Buf (Elt F) ((c : Thread nD τ).loc cc0_scratch0))

omit [FloatOps F] in
instance comm_storable (c : Dev nD) (H q f) : BI.Storable (upEmb : UEmb _ 𝕄) (comm (F := F) c H q f) := by unfold comm; infer_instance

/-- The share a send reads with. -/
abbrev rd (j : Fin 22) : PosShare TreeShare := shareTok fullShare 8 (tok j)
/-- The share left for loads. -/
abbrev keep : PosShare TreeShare := shareDrop fullShare 8

/-! ## Cells -/

abbrev rcell (c : Dev nD) (h : Fin 32) : GSem nD τ sig := ((c : Thread nD τ), .dma (rsem h))
abbrev scell (c : Dev nD) (j : Fin 22) : GSem nD τ sig := ((c : Thread nD τ), .dma (ssem j))
abbrev bcell (c : Dev nD) : GSem nD τ sig := ((c : Thread nD τ), bsem)

/-- What a DMA semaphore is for: an arrival, a send, or the staging of a window. -/
def cls (k : DmaSem sig) : Option (Fin 32 ⊕ Fin 22) :=
  if k.val < 3 then none
  else if h : k.val < 35 then some (.inl ⟨k.val - 3, by omega⟩)
  else some (.inr ⟨k.val - 35, by have : k.val < 57 := k.isLt; omega⟩)

/-- A receive semaphore is told as the one of its arrival. -/
theorem cls_rsem : ∀ h, cls (rsem h) = some (.inl h) := by decide
/-- A send semaphore is told as the one of its send. -/
theorem cls_ssem : ∀ j, cls (ssem j) = some (.inr j) := by decide

/-! ## The schedule -/

/-- What device `d`'s ready signal hands device `c`: the half slots of `d` that `c` fills. -/
def barPay (c d : Dev nD) : sProp 𝕄 := iprop(∃ f, comm d (handed c d) fullShare f)
/-- What an arrival brings. -/
def recvPay (c : Dev nD) (h : Fin 32) : sProp 𝕄 := comm c (part c h) fullShare (gath m ρ)
/-- What a finished send gives back. -/
def sendPay (c : Dev nD) (j : Fin 22) : sProp 𝕄 := comm c (cargo c j) (rd j) (gath m ρ)

/-- Whether a DMA semaphore of a device is used. -/
def used (c : Dev nD) (k : DmaSem sig) : Bool := match cls k with
  | none => false
  | some (.inl h) => gets c h
  | some (.inr j) => sends c j

def sched : Rounds.Schedule (GSem nD τ sig) (Dev nD) 𝕄 where
  duties g r := if r = 0 ∧ g.1.2 = .tc then (match g.2 with
    | .reg _ => nears g.1.1
    | .dma k => if used g.1.1 k then {0} else ∅) else ∅
  unitless _ := False
  amount g _ _ := match g.2 with
    | .reg _ => 1
    | .dma k => match cls k with
      | none => 1
      | some (.inl h) => credit (halfR g.1.1 h)
      | some (.inr j) => credit (isHalf j)
  payload g _ d := match g.2 with
    | .reg _ => barPay g.1.1 d
    | .dma k => match cls k with
      | none => iprop(emp)
      | some (.inl h) => recvPay m ρ g.1.1 h
      | some (.inr j) => sendPay m ρ g.1.1 j
  amount_pos g _ _ _ := by
    split
    · exact Nat.one_pos
    · split
      · exact Nat.one_pos
      · exact credit_pos _
      · exact credit_pos _

instance sched_storable (g : GSem nD τ sig) (r : ℕ) (d : Dev nD) : BI.Storable (upEmb : UEmb _ 𝕄) ((sched (F := F) m ρ).payload g r d) := by
  dsimp only [sched]
  unfold barPay recvPay sendPay
  split
  · infer_instance
  · split <;> infer_instance

/-- The barrier is paid by the near devices. -/
theorem duties_bar (c : Dev nD) : (sched (F := F) m ρ).duties (bcell c) 0 = nears c := by dsimp only [sched]; exact if_pos ⟨rfl, rfl⟩
/-- The semaphore of an arrival that is waited for is paid once. -/
theorem duties_recv {c : Dev nD} {h : Fin 32} (hh : gets c h) : (sched (F := F) m ρ).duties (rcell c h) 0 = {0} := by
  dsimp only [sched]; rw [if_pos ⟨rfl, rfl⟩]; exact if_pos (by unfold used; rw [cls_rsem]; exact hh)
/-- The semaphore of a send that is made is paid once. -/
theorem duties_send {c : Dev nD} {j : Fin 22} (hj : sends c j) : (sched (F := F) m ρ).duties (scell c j) 0 = {0} := by
  dsimp only [sched]; rw [if_pos ⟨rfl, rfl⟩]; exact if_pos (by unfold used; rw [cls_ssem]; exact hj)
/-- The semaphore of an arrival that does not come is never paid. -/
theorem duties_recv_none {c : Dev nD} {h : Fin 32} (hh : gets c h = false) (r : ℕ) : (sched (F := F) m ρ).duties (rcell c h) r = ∅ := by
  dsimp only [sched]
  by_cases h0 : r = 0 ∧ ((c : Thread nD τ)).2 = .tc
  · rw [if_pos h0]; exact if_neg (by unfold used; rw [cls_rsem]; exact Bool.not_eq_true _ ▸ hh)
  · exact if_neg h0
/-- The semaphore of a send that is not made is never paid. -/
theorem duties_send_none {c : Dev nD} {j : Fin 22} (hj : sends c j = false) (r : ℕ) : (sched (F := F) m ρ).duties (scell c j) r = ∅ := by
  dsimp only [sched]
  by_cases h0 : r = 0 ∧ ((c : Thread nD τ)).2 = .tc
  · rw [if_pos h0]; exact if_neg (by unfold used; rw [cls_ssem]; exact Bool.not_eq_true _ ▸ hj)
  · exact if_neg h0
/-- Nothing is paid after the first round. -/
theorem duties_later (g : GSem nD τ sig) : ∀ r, 1 ≤ r → (sched (F := F) m ρ).duties g r = ∅ :=
  fun r hr => by dsimp only [sched]; exact if_neg fun h => by omega

/-- A payment of the barrier is one. -/
theorem amount_bar (c d : Dev nD) : (sched (F := F) m ρ).amount (bcell c) 0 d = 1 := rfl
/-- A payment of a receive semaphore is the credit of what arrives. -/
theorem amount_recv (c d : Dev nD) (h : Fin 32) : (sched (F := F) m ρ).amount (rcell c h) 0 d = credit (halfR c h) := by
  dsimp only [sched]; rw [cls_rsem]
/-- A payment of a send semaphore is the credit of what was sent. -/
theorem amount_send (c d : Dev nD) (j : Fin 22) : (sched (F := F) m ρ).amount (scell c j) 0 d = credit (isHalf j) := by
  dsimp only [sched]; rw [cls_ssem]

/-- A payment of the barrier hands over the payer's empty half slots. -/
theorem payload_bar (c d : Dev nD) : (sched (F := F) m ρ).payload (bcell c) 0 d = barPay c d := rfl
/-- A payment of a receive semaphore hands over what arrived. -/
theorem payload_recv (c d : Dev nD) (h : Fin 32) : (sched (F := F) m ρ).payload (rcell c h) 0 d = recvPay m ρ c h := by
  dsimp only [sched]; rw [cls_rsem]
/-- A payment of a send semaphore gives back what was read. -/
theorem payload_send (c d : Dev nD) (j : Fin 22) : (sched (F := F) m ρ).payload (scell c j) 0 d = sendPay m ρ c j := by
  dsimp only [sched]; rw [cls_ssem]

/-- The barrier is paid five in all. -/
theorem expect_bar (c : Dev nD) : (sched (F := F) m ρ).expect (bcell c) 0 = 5 := by
  unfold Schedule.expect Schedule.amountOf
  rw [duties_bar, Finset.sum_congr rfl fun d _ => amount_bar m ρ c d, Finset.sum_const, near_card c]; rfl
/-- A receive semaphore is paid the credit of its arrival in all. -/
theorem expect_recv {c : Dev nD} {h : Fin 32} (hh : gets c h) : (sched (F := F) m ρ).expect (rcell c h) 0 = credit (halfR c h) := by
  unfold Schedule.expect Schedule.amountOf; rw [duties_recv m ρ hh, Finset.sum_singleton, amount_recv]
/-- A send semaphore is paid the credit of its send in all. -/
theorem expect_send {c : Dev nD} {j : Fin 22} (hj : sends c j) : (sched (F := F) m ρ).expect (scell c j) 0 = credit (isHalf j) := by
  unfold Schedule.expect Schedule.amountOf; rw [duties_send m ρ hj, Finset.sum_singleton, amount_send]

/-- All that the barrier hands over. -/
theorem rest_bar (c : Dev nD) : bigSep ((sched (F := F) m ρ).duties (bcell c) 0 \ ∅) (fun d => (sched (F := F) m ρ).payload (bcell c) 0 d)
    = bigSep (nears c) fun d => barPay c d := by
  rw [Finset.sdiff_empty, duties_bar]; exact bigSep_congr fun d _ => payload_bar m ρ c d
/-- All that a receive semaphore hands over. -/
theorem rest_recv {c : Dev nD} {h : Fin 32} (hh : gets c h) :
    bigSep ((sched (F := F) m ρ).duties (rcell c h) 0 \ ∅) (fun d => (sched (F := F) m ρ).payload (rcell c h) 0 d) = recvPay m ρ c h := by
  rw [Finset.sdiff_empty, duties_recv m ρ hh, bigSep_singleton, payload_recv]
/-- All that a send semaphore gives back. -/
theorem rest_send {c : Dev nD} {j : Fin 22} (hj : sends c j) :
    bigSep ((sched (F := F) m ρ).duties (scell c j) 0 \ ∅) (fun d => (sched (F := F) m ρ).payload (scell c j) 0 d) = sendPay m ρ c j := by
  rw [Finset.sdiff_empty, duties_send m ρ hj, bigSep_singleton, payload_send]

/-! ## What each device owes, and the order of waiting -/

/-- The credits a set of sends puts on their targets. -/
def oweSends (c : Dev nD) (J : Finset (Fin 22)) : CellTallies nD τ sig Unit :=
  ∑ j ∈ J, tallyAt (rcell (tgt c j) (slot c j)) () (credit (isHalf j))
/-- The units ready signals put on a set of devices. -/
def oweTells (D : Finset (Dev nD)) : CellTallies nD τ sig Unit := ∑ d ∈ D, tallyAt (bcell d) () 1
/-- What device `c` owes at launch. -/
def O₀ (c : Dev nD) : CellTallies nD τ sig Unit := oweSends c (mine c) + oweTells (nears c)

/-- What is owed for some sends is what is owed for one of them and for the others. -/
theorem oweSends_erase {c : Dev nD} {J : Finset (Fin 22)} {j : Fin 22} (h : j ∈ J) :
    oweSends c J = oweSends c (J.erase j) + tallyAt (rcell (tgt c j) (slot c j)) () (credit (isHalf j)) := by
  unfold oweSends; rw [add_comm]; exact (Finset.add_sum_erase J _ h).symm
/-- What is owed for some ready signals is one for one of them and what is owed for the others. -/
theorem oweTells_erase {D : Finset (Dev nD)} {d : Dev nD} (h : d ∈ D) : oweTells D = oweTells (D.erase d) + tallyAt (bcell d) () 1 := by
  unfold oweTells; rw [add_comm]; exact (Finset.add_sum_erase D _ h).symm

def L (g : GSem nD τ sig) : Finset Unit := if g.1.2 = .tc then {()} else ∅
def lv (g : GSem nD τ sig) (_ : Unit) : ℕ := match g.2 with
  | .reg _ => 1
  | .dma k => match cls k with
    | none => 0
    | some (.inl h) => rank g.1.1 h
    | some (.inr _) => 0
/-- Only the threads that run the body have tallies. -/
theorem L_of_ne (g : GSem nD τ sig) (h : g.1.2 ≠ .tc) : L g = ∅ := if_neg h
/-- Every semaphore of such a thread has one tally. -/
theorem L_tc (c : Dev nD) (sm : SemLoc sig) : L ((c : Thread nD τ), sm) = {()} := if_pos rfl
/-- The barrier is at level one. -/
theorem lv_bar (c : Dev nD) : lv (bcell c) () = 1 := rfl
/-- A receive semaphore is at the level of its arrival. -/
theorem lv_recv (c : Dev nD) (h : Fin 32) : lv (rcell c h) () = rank c h := by dsimp only [lv]; rw [cls_rsem]
/-- A send semaphore is at level zero. -/
theorem lv_send (c : Dev nD) (j : Fin 22) : lv (scell c j) () = 0 := by dsimp only [lv]; rw [cls_ssem]

/-- A positive sum has a positive member. -/
theorem sum_pos {ι : Type} [DecidableEq ι] {S : Finset ι} {t : ι → CellTallies nD τ sig Unit} {g : GSem nD τ sig} {u : Unit}
    (h : 0 < (∑ j ∈ S, t j) g u) : ∃ j ∈ S, 0 < t j g u := by
  induction S using Finset.induction_on with
  | empty => exact absurd h (Nat.lt_irrefl 0)
  | insert a S ha ih =>
    rw [Finset.sum_insert ha, Pi.add_apply, Finsupp.add_apply] at h
    rcases Nat.eq_zero_or_pos (t a g u) with h0 | h0
    · rw [h0, Nat.zero_add] at h
      obtain ⟨j, hj, hp⟩ := ih h
      exact ⟨j, Finset.mem_insert_of_mem hj, hp⟩
    · exact ⟨a, Finset.mem_insert_self _ _, h0⟩

/-- A tally is positive only at its own cell. -/
theorem tally_pos {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

/-- What is owed for sends is owed to their receive semaphores. -/
theorem oweSends_pos {c : Dev nD} {J : Finset (Fin 22)} {g : GSem nD τ sig} {u : Unit} (h : 0 < oweSends c J g u) :
    ∃ j ∈ J, g = rcell (tgt c j) (slot c j) := by
  obtain ⟨j, hj, hp⟩ := sum_pos h; exact ⟨j, hj, tally_pos hp⟩
/-- What is owed for ready signals is owed to barriers. -/
theorem oweTells_pos {D : Finset (Dev nD)} {g : GSem nD τ sig} {u : Unit} (h : 0 < oweTells D g u) : ∃ d ∈ D, g = bcell d := by
  obtain ⟨j, hj, hp⟩ := sum_pos h; exact ⟨j, hj, tally_pos hp⟩

/-- A device may wait on a cell below everything it still owes. -/
theorem mayWait_of (c : Dev nD) (sm : SemLoc sig) (n : ℕ) (J : Finset (Fin 22)) (D : Finset (Dev nD))
    (hn : lv ((c : Thread nD τ), sm) () ≤ n) (hJ : ∀ j ∈ J, n < rank (tgt c j) (slot c j)) (hD : ∀ d ∈ D, n < 1) :
    (levAts L lv : sProp 𝕄) ⊢ MayWait (c : Thread nD τ) sm () (oweSends c J + oweTells D) := by
  have key : ∀ (g : GSem nD τ sig) (u : Unit), 0 < (oweSends c J + oweTells D) g u →
      (∃ j ∈ J, g = rcell (tgt c j) (slot c j)) ∨ ∃ d ∈ D, g = bcell d := by
    intro g u hg
    rw [Pi.add_apply, Finsupp.add_apply] at hg
    rcases Nat.eq_zero_or_pos (oweSends c J g u) with h0 | h0
    · rw [h0, Nat.zero_add] at hg; exact .inr (oweTells_pos hg)
    · exact .inl (oweSends_pos h0)
  refine MayOwe.of_cut (L := L) (lev := lv) n (fun p hp => by rw [Finset.mem_singleton.mp hp, L_tc]; exact Finset.mem_singleton_self _)
    (fun g u hg => ?_) (fun p hp => by rw [Finset.mem_singleton.mp hp]; exact hn) (fun g u hg => ?_)
  · rcases key g u hg with ⟨j, _, rfl⟩ | ⟨d, _, rfl⟩ <;> exact Finset.mem_singleton_self _
  · rcases key g u hg with ⟨j, hj, rfl⟩ | ⟨d, hd, rfl⟩
    · rw [lv_recv]; exact hJ j hj
    · rw [lv_bar]; exact hD d hd

end Cert.KernelIdeal.AG

end
-- ==== Proof.KernelIdeal.State.lean ====
module

public import proofs.«01_k».proof.Proof.KernelIdeal.Protocol

@[expose] public section

noncomputable section

/-!
# What a device holds at a time

The holdings of a device while its body runs, as one assertion read off the clock: what it owes, the tokens of the sends to
be made, the credits of those under way, the pieces of the gathered rows no transfer is reading, the arrivals awaited and those
that came, and the rows of the result written so far.
-/

namespace Cert.KernelIdeal.AG

open Cert.KernelIdeal Cert.KernelIdeal.Gen AllGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## Separating conjunctions over finite sets -/

section Sep
variable {M : Type*} [URA M] {I : Type*}

/-- Two assertions each entailing the other are the same. -/
theorem both {P Q : sProp M} (h : P ⊢ Q) (h' : Q ⊢ P) : P = Q := BI.Entails.antisymm h h'
/-- One member apart. -/
theorem sep_erase [DecidableEq I] {S : Finset I} {Φ : I → sProp M} {i : I} (h : i ∈ S) : bigSep S Φ = iprop(Φ i ∗ bigSep (S.erase i) Φ) := bigSep_erase h
/-- One member more. -/
theorem sep_insert [DecidableEq I] {S : Finset I} {Φ : I → sProp M} {i : I} (h : i ∉ S) : bigSep (insert i S) Φ = iprop(Φ i ∗ bigSep S Φ) := bigSep_insert h
/-- Two disjoint sets. -/
theorem sep_union [DecidableEq I] {S T : Finset I} {Φ : I → sProp M} (h : Disjoint S T) : bigSep (S ∪ T) Φ = iprop(bigSep S Φ ∗ bigSep T Φ) := bigSep_union h
/-- A subset and the others. -/
theorem sep_part [DecidableEq I] {S T : Finset I} {Φ : I → sProp M} (h : T ⊆ S) : bigSep S Φ = iprop(bigSep T Φ ∗ bigSep (S \ T) Φ) := bigSep_sdiff_split h
/-- Member by member. -/
theorem sep_mono {S : Finset I} {Φ Ψ : I → sProp M} (h : ∀ i ∈ S, (Φ i ⊢ Ψ i : Prop)) : bigSep S Φ ⊢ bigSep S Ψ := bigSep_mono h
/-- Two assertions for every member. -/
theorem sep_pair {S : Finset I} {Φ Ψ : I → sProp M} : bigSep S (fun i => iprop(Φ i ∗ Ψ i)) = iprop(bigSep S Φ ∗ bigSep S Ψ) := bigSep_sep' ..

end Sep

/-! ## Splitting the gathered buffer -/

omit [FloatOps F] in
/-- Half slots held are some of them and the others. -/
theorem comm_split {H K : Finset (Fin 32)} (h : H ⊆ K) (c : Dev nD) (q : PosShare TreeShare) (f : S32x64x2048.Idx → Elt F .f32) :
    comm (F := F) c K q f = iprop(comm c H q f ∗ comm c (K \ H) q f) := by
  have hd : Disjoint (slotSet H) (slotSet (K \ H)) := slotSet_disj Finset.disjoint_sdiff
  have e : slotSet K = slotSet H ∪ slotSet (K \ H) := by rw [← slotSet_union, Finset.union_sdiff_of_subset h]
  unfold comm
  rw [e]
  exact BI.Entails.antisymm (pointsTo_union hd).1 (pointsTo_union hd).2

omit [FloatOps F] in
/-- Half slots held in disjoint groups. -/
theorem comm_groups {ι : Type} [DecidableEq ι] (S : Finset ι) (K : ι → Finset (Fin 32))
    (h : ∀ i ∈ S, ∀ j ∈ S, i ≠ j → Disjoint (K i) (K j)) (c : Dev nD) (q : PosShare TreeShare) (f : S32x64x2048.Idx → Elt F .f32) :
    comm (F := F) c (S.biUnion K) q f = bigSep S fun i => comm c (K i) q f := by
  unfold comm
  rw [slotSet_biUnion]
  exact pointsTo_biUnion (ℓ := (c : Thread nD τ).loc cc0_scratch0) S (fun i => slotSet (K i)) fun i hi j hj hne => slotSet_disj (h i hi j hj hne)

/-- The piece of the gathered rows that a send reads. -/
def piece (c : Dev nD) (j : Fin 22) : sProp 𝕄 := comm c (cargo c j) (rd j) (gath m ρ)

/-- A region without the pieces its readers take. -/
def Rest (c : Dev nD) (g : Fin 32) : sProp 𝕄 :=
  iprop(comm c (part c g) keep (gath m ρ)
    ∗ bigSep (Finset.univ \ (readers c g).image tok) (fun i : Fin 8 => comm c (part c g) (shareTok fullShare 8 i) (gath m ρ))
    ∗ bigSep (readers c g) fun j => comm c (part c g \ cargo c j) (rd j) (gath m ρ))

/-- A region at full share is the pieces its readers take, and the rest. -/
theorem full_split (c : Dev nD) (g : Fin 32) :
    comm c (part c g) fullShare (gath m ρ) = iprop(bigSep (readers c g) (piece m ρ c) ∗ Rest m ρ c g) := by
  have hr : ∀ {j}, j ∈ readers c g → sends c j ∧ srcR c j = g := fun {j} hj => by
    have h1 := Finset.mem_filter.mp hj
    exact ⟨(Finset.mem_filter.mp h1.1).2, h1.2⟩
  have e1 : comm c (part c g) fullShare (gath m ρ)
      = iprop(comm c (part c g) keep (gath m ρ)
        ∗ bigSep Finset.univ fun i : Fin 8 => comm c (part c g) (shareTok fullShare 8 i) (gath m ρ)) := by
    unfold comm
    exact BI.Entails.antisymm (Transfers.pointsTo_toks fullShare 8).1 (Transfers.pointsTo_toks fullShare 8).2
  have e2 : bigSep ((readers c g).image tok) (fun i : Fin 8 => comm c (part c g) (shareTok fullShare 8 i) (gath m ρ))
      = iprop(bigSep (readers c g) (piece m ρ c) ∗ bigSep (readers c g) fun j => comm c (part c g \ cargo c j) (rd j) (gath m ρ)) := by
    rw [bigSep_image_of_injOn (fun i hi j hj hij => tok_inj c i j (hr hi).1 (hr hj).1 ((hr hi).2.trans (hr hj).2.symm) hij),
      ← bigSep_sep']
    refine bigSep_congr fun j hj => ?_
    exact comm_split ((hr hj).2 ▸ (srcR_mem c j (hr hj).1).2) c (rd j) (gath m ρ)
  rw [e1, sep_part (Finset.subset_univ ((readers c g).image tok)), e2]
  unfold Rest
  refine both ?_ ?_
  · iintro ⟨Hk, ⟨Hp, Hr⟩, Hu⟩
    isplitl [Hp]; · iexact Hp
    isplitl [Hk]; · iexact Hk
    isplitl [Hu]; · iexact Hu
    iexact Hr
  · iintro ⟨Hp, Hk, Hu, Hr⟩
    isplitl [Hk]; · iexact Hk
    isplitr [Hu]
    · isplitl [Hp]; · iexact Hp
      iexact Hr
    iexact Hu

/-! ## The cells -/

/-- The semaphores the kernel allocates: those of the arrivals and those of the sends. -/
abbrev Own : Type := Fin 32 ⊕ Fin 22
/-- The kernel's own semaphores. -/
def osem : Own → SemLoc sig
  | .inl h => .dma (rsem h)
  | .inr j => .dma (ssem j)
/-- The semaphores the protocol is about: the kernel's own and the barrier. -/
def csem : Own ⊕ Unit → SemLoc sig
  | .inl k => osem k
  | .inr _ => bsem
/-- The cells of the kernel. -/
def kcell (ck : Dev nD × (Own ⊕ Unit)) : GSem nD τ sig := ((ck.1 : Thread nD τ), csem ck.2)

/-- Every cell follows the schedule and is at its first round or past it. -/
def Rec : sProp 𝕄 :=
  bigSep (Finset.univ : Finset (Dev nD × (Own ⊕ Unit))) fun ck =>
    iprop((∃ κ, cellInv ER (sched (F := F) m ρ) κ (kcell ck)) ∗ reached ER (kcell ck) 0)

instance Rec_persistent : Persistent (Rec (F := F) m ρ) := by unfold Rec; infer_instance

/-- The records contain the invariant of every cell. -/
theorem rec_of (ck : Dev nD × (Own ⊕ Unit)) :
    Rec (F := F) m ρ ⊢ iprop((∃ κ, cellInv ER (sched (F := F) m ρ) κ (kcell ck)) ∗ reached ER (kcell ck) 0) :=
  bigSep_elim (Finset.mem_univ ck)

/-- They contain that of every barrier. -/
theorem rec_bar (c : Dev nD) : Rec (F := F) m ρ ⊢ iprop((∃ κ, cellInv ER (sched (F := F) m ρ) κ (bcell c)) ∗ reached ER (bcell c) 0) :=
  rec_of m ρ (c, .inr ())
/-- They contain that of every receive semaphore. -/
theorem rec_recv (c : Dev nD) (h : Fin 32) :
    Rec (F := F) m ρ ⊢ iprop((∃ κ, cellInv ER (sched (F := F) m ρ) κ (rcell c h)) ∗ reached ER (rcell c h) 0) :=
  rec_of m ρ (c, .inl (.inl h))
/-- They contain that of every send semaphore. -/
theorem rec_send (c : Dev nD) (j : Fin 22) :
    Rec (F := F) m ρ ⊢ iprop((∃ κ, cellInv ER (sched (F := F) m ρ) κ (scell c j)) ∗ reached ER (scell c j) 0) :=
  rec_of m ρ (c, .inl (.inr j))

/-! ## Holdings -/

/-- A send to be made: the tokens of its two cells, the half slots it fills, the place of its own cell. -/
def pend (c : Dev nD) (j : Fin 22) : sProp 𝕄 :=
  iprop(dutyTok ER (scell c j) 0 0 ∗ dutyTok ER (rcell (tgt c j) (slot c j)) 0 0
    ∗ (∃ f, comm (tgt c j) (cargo c j) fullShare f) ∗ atPos ER (scell c j) 0 ∅ 0)
/-- A send under way. -/
def flying (c : Dev nD) (j : Fin 22) : sProp 𝕄 :=
  iprop(cred (tallyAt (scell c j) () (credit (isHalf j))) ∗ atPos ER (scell c j) 0 ∅ 0)
/-- A send waited for. -/
def done (c : Dev nD) (j : Fin 22) : sProp 𝕄 := atPos ER (scell c j) 1 ∅ 0
/-- An arrival awaited. -/
def coming (c : Dev nD) (h : Fin 32) : sProp 𝕄 :=
  iprop(cred (tallyAt (rcell c h) () (credit (halfR c h))) ∗ atPos ER (rcell c h) 0 ∅ 0)
/-- An arrival that came. -/
def came (c : Dev nD) (h : Fin 32) : sProp 𝕄 := iprop(atPos ER (rcell c h) 1 ∅ 0 ∗ Rest m ρ c h)

/-- A device's rows of `x`. -/
def xAt (c : Dev nD) : sProp 𝕄 := ((c : Thread nD τ).loc cc0_stg0_0) ↦{fullShare} (xstg m ρ c : Buf (Elt F) ((c : Thread nD τ).loc cc0_stg0_0))
/-- A device's columns of `w`. -/
def wAt (c : Dev nD) : sProp 𝕄 := ((c : Thread nD τ).loc cc0_stg1_0) ↦{fullShare} (wstg m ρ c : Buf (Elt F) ((c : Thread nD τ).loc cc0_stg1_0))
/-- The result, right in the rows of some half slots. -/
def Out (c : Dev nD) (H : Finset (Fin 32)) : sProp 𝕄 :=
  iprop(∃ f : S2048x128.Idx → Elt F .f32, ⌜∀ i, slotOf i ∈ H → f i = outAt m ρ c i⌝
    ∗ ((c : Thread nD τ).loc cc0_stg2_0) ↦{fullShare} (f : Buf (Elt F) ((c : Thread nD τ).loc cc0_stg2_0)))

/-- What a device holds where the clock stands at `S`. -/
def Held (c : Dev nD) (S : Standing) : sProp 𝕄 :=
  iprop(Rec m ρ ∗ levAts L lv ∗ (∃ W, owes (c : Thread nD τ) (oweSends c S.toSend + oweTells ∅) W)
    ∗ bigSep S.toSend (pend c) ∗ bigSep S.inFlight (flying c) ∗ bigSep S.gone (done c) ∗ bigSep S.atHand (piece m ρ c)
    ∗ bigSep S.awaited (coming c) ∗ bigSep S.arrived (came m ρ c) ∗ Rest m ρ c (lo c)
    ∗ Out m ρ c S.written ∗ xAt m ρ c ∗ wAt m ρ c)
/-- What a device holds at time `t`. -/
def St (c : Dev nD) (t : ℕ) : sProp 𝕄 := Held m ρ c (stand c t)

/-- A device holds the same at two times at which it stands the same. -/
theorem St_congr {c : Dev nD} {t t' : ℕ} (h : stand c t = stand c t') : St m ρ c t = St m ρ c t' := congrArg (Held m ρ c) h

/-! ## Before the barrier -/

/-- The part of the holdings that does not change until the device's own chunk is in place. -/
def Kept (c : Dev nD) : sProp 𝕄 :=
  iprop(Rec m ρ ∗ levAts L lv ∗ (∃ f, comm c (reg false (lo c)) fullShare f)
    ∗ bigSep (mine c) (fun j => iprop(dutyTok ER (scell c j) 0 0 ∗ dutyTok ER (rcell (tgt c j) (slot c j)) 0 0 ∗ atPos ER (scell c j) 0 ∅ 0))
    ∗ bigSep (inbox c) (coming c)
    ∗ (∃ f : S2048x128.Idx → Elt F .f32, ((c : Thread nD τ).loc cc0_stg2_0) ↦{fullShare} (f : Buf (Elt F) ((c : Thread nD τ).loc cc0_stg2_0)))
    ∗ xAt m ρ c ∗ wAt m ρ c)

/-- What a device holds after `n` of the six ready signals. -/
def Pre (c : Dev nD) (n : ℕ) : sProp 𝕄 :=
  iprop(Kept m ρ c ∗ (∃ W, owes (c : Thread nD τ) (oweSends c (mine c) + oweTells (toTell c n)) W)
    ∗ bigSep (toTell c n) (fun d => iprop(dutyTok ER (bcell d) 0 c ∗ ∃ f, comm c (handed d c) fullShare f))
    ∗ cred (tallyAt (bcell c) () 5) ∗ atPos ER (bcell c) 0 ∅ 0)

/-- What a device holds once it has heard from the devices near it. -/
def Open (c : Dev nD) : sProp 𝕄 :=
  iprop(Kept m ρ c ∗ (∃ W, owes (c : Thread nD τ) (oweSends c (mine c) + oweTells ∅) W) ∗ atPos ER (bcell c) 1 ∅ 0
    ∗ bigSep (mine c) (fun j => iprop(∃ f, comm (tgt c j) (cargo c j) fullShare f)))

/-- The half slots the near devices hand over are those the sends fill. -/
theorem handed_sends (c : Dev nD) :
    bigSep (nears c) (fun d => barPay (F := F) c d) ⊢ bigSep (mine c) (fun j => iprop(∃ f, comm (F := F) (tgt c j) (cargo c j) fullShare f)) := by
  have hm : ∀ {j}, j ∈ mine c → sends c j := fun hj => (Finset.mem_filter.mp hj).2
  rw [bigSep_fiberwise (mine c) (tgt c)]
  have hsub : (mine c).image (tgt c) ⊆ nears c := fun d hd => by
    obtain ⟨j, hj, rfl⟩ := Finset.mem_image.mp hd
    exact Finset.mem_filter.mpr ⟨Finset.mem_univ _, (arrives c j (hm hj)).2.2.2⟩
  refine (bigSep_subset hsub).trans (bigSep_mono fun d _ => ?_)
  have hset : handed c d = ((mine c).filter fun j => tgt c j = d).biUnion fun j => cargo c j := by
    unfold handed mine; rw [Finset.filter_filter]; simp only [Bool.and_eq_true, decide_eq_true_eq]
  show barPay (F := F) c d ⊢ bigSep ((mine c).filter fun j => tgt c j = d) fun j => iprop(∃ f, comm (F := F) (tgt c j) (cargo c j) fullShare f)
  unfold barPay
  iintro ⟨%f, H⟩
  ihave H' := (Entails.of_eq ((congrArg (fun H => comm (F := F) d H fullShare f) hset).trans
    (comm_groups (F := F) _ _ (fun i hi j hj hne => cargo_disj c i j (hm (Finset.mem_filter.mp hi).1) (hm (Finset.mem_filter.mp hj).1)
      ((Finset.mem_filter.mp hi).2.trans (Finset.mem_filter.mp hj).2.symm) hne) d fullShare f))) $$ H
  have e : bigSep ((mine c).filter fun j => tgt c j = d) (fun j => comm (F := F) d (cargo c j) fullShare f)
      ⊢ bigSep ((mine c).filter fun j => tgt c j = d) fun j => iprop(∃ f, comm (F := F) (tgt c j) (cargo c j) fullShare f) :=
    sep_mono fun j hj => by
      rw [(Finset.mem_filter.mp hj).2]
      iintro H; iexists f; iexact H
  iapply e $$ H'

end Cert.KernelIdeal.AG

end
-- ==== Proof.KernelIdeal.Steps.lean ====
module

public import proofs.«01_k».proof.Proof.Clock
public import proofs.«01_k».proof.Proof.KernelIdeal.State

@[expose] public section

noncomputable section

/-!
# One operation at a time

For each operation of the body, what it does to the holdings of the device that runs it: the clock moves on by one, or the
holdings stay as they are.
-/

namespace Cert.KernelIdeal.AG

open Cert.KernelIdeal Cert.KernelIdeal.Gen AllGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A program of device `c` run to a postcondition. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {c : Dev nD} {t : ℕ} {α : Type}
variable {R : sProp (MT nD τ sig Unit (Elt F) ℕ UU ℕ)} {Q : α → sProp (MT nD τ sig Unit (Elt F) ℕ UU ℕ)}

/-! ## Sends -/

omit [FloatOps F] in
/-- The elements behind a chunk window. -/
theorem comm_chunk {off : Fin 3 → ℕ} {inb} {s : Fin 32} (hoff : off = ![s.val, 0, 0]) (hs : s.val % 2 = 0) (d : Dev nD)
    (q : PosShare TreeShare) (f : S32x64x2048.Idx → Elt F .f32) :
    comm (F := F) d (reg false s) q f = (((chunkV off inb).view.loc (d : Thread nD τ)) ↦[(chunkV off inb).view.set]{q} f : sProp 𝕄) := by
  unfold comm; rw [chunkV_set hoff hs]
omit [FloatOps F] in
/-- The elements behind a half window. -/
theorem comm_half {off : Fin 3 → ℕ} {inb} {s : Fin 32} (hoff : off = ![s.val, 0, 0]) (d : Dev nD)
    (q : PosShare TreeShare) (f : S32x64x2048.Idx → Elt F .f32) :
    comm (F := F) d (reg true s) q f = (((halfV off inb).view.loc (d : Thread nD τ)) ↦[(halfV off inb).view.set]{q} f : sProp 𝕄) := by
  unfold comm; rw [halfV_set hoff]

/-- Making a send, through windows of any kind that stand for the half slots it carries. -/
theorem send_core {s : Shape} {src dst : Memref sig .tc .vmem s .f32} {j : Fin 22} {d : Dev nD} (hd : d = tgt c j)
    {hsc : dst.view.ref.isScScratch = false} {hsrc : src.view.WordExact} {hdst : dst.view.WordExact}
    {hsem : DmaTarget.Typed .vmem (.dma (rsem (slot c j))) (.remote (Dev.tc d : Thread nD τ) dst (.dma (ssem j)) hsc)}
    {k : PUnit → Prog (TpuEff nD τ sig (Elt F) Λ₀ .tc) α} (hj : sends c j) (ht : t = eS c j)
    (hN : dst.view.amount (.dma (rsem (slot c j)) : SemLoc sig) = credit (isHalf j))
    (fs : Buf (Elt F) (src.view.loc (c : Thread nD τ)))
    (h1 : piece m ρ c j = (src.view.loc (c : Thread nD τ) ↦[src.view.set]{rd j} fs : sProp 𝕄))
    (h2 : ∀ f, comm (F := F) (tgt c j) (cargo c j) fullShare f
      ⊢ iprop(∃ fd, (dst.view.loc (Dev.tc d : Thread nD τ) ↦[dst.view.set]{fullShare} fd : sProp 𝕄)))
    (h3 : ∀ fd, (dst.view.loc (Dev.tc d : Thread nD τ) ↦[dst.view.set]{fullShare}
        (dst.view.write (Elt F) fd (src.view.read (Elt F) fs) Finset.univ) : sProp 𝕄) ⊢ recvPay m ρ (tgt c j) (slot c j))
    (h : iprop(St m ρ c (t + 1) ∗ R) ⊢ Runs c (k ⟨⟩) Q) :
    iprop(St m ρ c t ∗ R) ⊢ Runs c
      (.op (.enqueueDma src (.remote (Dev.tc d : Thread nD τ) dst (.dma (ssem j)) hsc) (.dma (rsem (slot c j))) hsrc hdst hsem) k) Q := by
  subst hd
  obtain ⟨i1, i2, i3, i4⟩ := step_send c j hj t ht
  have ha := arrives c j hj
  unfold St at h ⊢
  rw [i4] at h
  unfold Held at h ⊢
  dsimp only at h
  rw [sep_insert i3] at h
  rw [sep_erase i1, sep_erase i2, oweSends_erase i1]
  iintro ⟨⟨#Hrec, #Hlev, ⟨%W, HO⟩, ⟨Hpend, Hsend⟩, Hfly, Hgone, ⟨Hp, Hhand⟩, Haw, Harr, Hown, Hout, Hx, Hw⟩, HR⟩
  unfold pend
  icases Hpend with ⟨Ht1, Ht2, ⟨%f, Hd⟩, Hat⟩
  ihave Hs := (Entails.of_eq h1) $$ Hp
  ihave Hd := (h2 f) $$ Hd
  icases Hd with ⟨%fd, Hd⟩
  ihave Hc1 := (rec_send m ρ c j) $$ Hrec
  icases Hc1 with ⟨⟨%κ₁, #HI1⟩, #Hr1⟩
  ihave Hc2 := (rec_recv m ρ (tgt c j) (slot c j)) $$ Hrec
  icases Hc2 with ⟨⟨%κ₂, #HI2⟩, #Hr2⟩
  iapply (Rounds.wp_send_pointsTo 𝒱₀ ER (sched m ρ) (c : Thread nD τ) none (κ₁ := κ₁) (κ₂ := κ₂) (r₁ := 0) (r₂ := 0) (d₁ := 0) (d₂ := 0)
      (by rw [duties_send m ρ hj]; exact Finset.mem_singleton_self _) (by rw [duties_recv m ρ ha.1]; exact Finset.mem_singleton_self _)
      () () (credit (isHalf j)) hN (amount_send m ρ c 0 j) ((amount_recv m ρ (tgt c j) 0 (slot c j)).trans (congrArg credit ha.2.1))
      (oweSends c ((stand c t).toSend.erase j) + oweTells ∅) (add_right_comm _ _ _) (W := W)
      (by rw [payload_send, ← h1]; exact BI.Entails.refl _)
      (by rw [payload_recv]; exact h3 fd)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply h
  isplitr [HR]
  · isplitr; · iexact Hrec
    isplitr; · iexact Hlev
    isplitl [HO]; · iexists W; iexact HO
    isplitl [Hsend]; · iexact Hsend
    isplitl [Hcr Hat Hfly]
    · isplitl [Hcr Hat]
      · unfold flying
        isplitl [Hcr]; · iexact Hcr
        iexact Hat
      iexact Hfly
    isplitl [Hgone]; · iexact Hgone
    isplitl [Hhand]; · iexact Hhand
    isplitl [Haw]; · iexact Haw
    isplitl [Harr]; · iexact Harr
    isplitl [Hown]; · iexact Hown
    isplitl [Hout]; · iexact Hout
    isplitl [Hx]; · iexact Hx
    iexact Hw
  · iexact HR

/-- Sending a whole chunk. -/
theorem send_chunk {off : Fin 3 → ℕ} {inb inb'} {j : Fin 22} {d : Dev nD} {ss sr : DmaSem sig}
    {hsc : (chunkV off inb').view.ref.isScScratch = false} {hsrc : (chunkV off inb).view.WordExact} {hdst : (chunkV off inb').view.WordExact}
    {hsem : DmaTarget.Typed .vmem (.dma sr) (.remote (Dev.tc d : Thread nD τ) (chunkV off inb') (.dma ss) hsc)}
    {k : PUnit → Prog (TpuEff nD τ sig (Elt F) Λ₀ .tc) α}
    (hj : sends c j) (ht : t = eS c j) (hd : d = tgt c j) (hoff : off = ![(slot c j).val, 0, 0])
    (hss : ss = ssem j) (hsr : sr = rsem (slot c j)) (hb : isHalf j = false ∧ (slot c j).val % 2 = 0)
    (h : iprop(St m ρ c (t + 1) ∗ R) ⊢ Runs c (k ⟨⟩) Q) :
    iprop(St m ρ c t ∗ R) ⊢ Runs c
      (.op (.enqueueDma (chunkV off inb) (.remote (Dev.tc d : Thread nD τ) (chunkV off inb') (.dma ss) hsc) (.dma sr) hsrc hdst hsem) k) Q := by
  subst hss hsr
  have ec : cargo c j = reg false (slot c j) := by unfold cargo; rw [hb.1]
  have ep : part (tgt c j) (slot c j) = reg false (slot c j) := by unfold part; rw [(arrives c j hj).2.1, hb.1]
  refine send_core m ρ hd hj ht (by rw [hb.1]; rfl) (gath m ρ) ?_ ?_ ?_ h
  · unfold piece; rw [ec]; exact comm_chunk hoff hb.2 c (rd j) (gath m ρ)
  · intro f
    subst hd
    rw [ec, comm_chunk (inb := inb') hoff hb.2]
    iintro H; iexists f; iexact H
  · intro fd
    subst hd
    unfold recvPay
    rw [ep, comm_chunk (inb := inb') hoff hb.2]
    exact Entails.of_eq (pointsTo_congr (write_read (chunkV off inb').view fd (gath m ρ)))

/-- Sending one half slot. -/
theorem send_half {off : Fin 3 → ℕ} {inb inb'} {j : Fin 22} {d : Dev nD} {ss sr : DmaSem sig}
    {hsc : (halfV off inb').view.ref.isScScratch = false} {hsrc : (halfV off inb).view.WordExact} {hdst : (halfV off inb').view.WordExact}
    {hsem : DmaTarget.Typed .vmem (.dma sr) (.remote (Dev.tc d : Thread nD τ) (halfV off inb') (.dma ss) hsc)}
    {k : PUnit → Prog (TpuEff nD τ sig (Elt F) Λ₀ .tc) α}
    (hj : sends c j) (ht : t = eS c j) (hd : d = tgt c j) (hoff : off = ![(slot c j).val, 0, 0])
    (hss : ss = ssem j) (hsr : sr = rsem (slot c j)) (hb : isHalf j = true)
    (h : iprop(St m ρ c (t + 1) ∗ R) ⊢ Runs c (k ⟨⟩) Q) :
    iprop(St m ρ c t ∗ R) ⊢ Runs c
      (.op (.enqueueDma (halfV off inb) (.remote (Dev.tc d : Thread nD τ) (halfV off inb') (.dma ss) hsc) (.dma sr) hsrc hdst hsem) k) Q := by
  subst hss hsr
  have ec : cargo c j = reg true (slot c j) := by unfold cargo; rw [hb]
  have ep : part (tgt c j) (slot c j) = reg true (slot c j) := by unfold part; rw [(arrives c j hj).2.1, hb]
  refine send_core m ρ hd hj ht (by rw [hb]; rfl) (gath m ρ) ?_ ?_ ?_ h
  · unfold piece; rw [ec]; exact comm_half hoff c (rd j) (gath m ρ)
  · intro f
    subst hd
    rw [ec, comm_half (inb := inb') hoff]
    iintro H; iexists f; iexact H
  · intro fd
    subst hd
    unfold recvPay
    rw [ep, comm_half (inb := inb') hoff]
    exact Entails.of_eq (pointsTo_congr (write_read (halfV off inb').view fd (gath m ρ)))

/-! ## Waits -/

/-- Waiting for an arrival. -/
theorem wait_recv {s s' : Shape} {src : Memref sig .tc .vmem s' .f32} {dst : Memref sig .tc .vmem s .f32} {g : Fin 32} {sem : DmaSem sig}
    {hsrc : src.view.WordExact} {hdst : dst.view.WordExact} {k : PUnit → Prog (TpuEff nD τ sig (Elt F) Λ₀ .tc) α}
    (hg : gets c g) (ht : t = eR c g) (hs : sem = rsem g) (hk : dst.view.dmaCredit = credit (halfR c g))
    (h : iprop(St m ρ c (t + 1) ∗ R) ⊢ Runs c (k ⟨⟩) Q) :
    iprop(St m ρ c t ∗ R) ⊢ Runs c (.op (.waitDma2 sem src dst hsrc hdst) k) Q := by
  subst hs
  obtain ⟨i1, i2, i3, i4⟩ := step_recv c g hg t ht
  have ho := recv_order c g hg t ht
  unfold St at h ⊢
  rw [i4] at h
  unfold Held at h ⊢
  dsimp only at h
  rw [sep_insert i2, sep_union i3] at h
  rw [sep_erase i1]
  iintro ⟨⟨#Hrec, #Hlev, ⟨%W, HO⟩, Hsend, Hfly, Hgone, Hhand, ⟨Hc, Haw⟩, Harr, Hown, Hout, Hx, Hw⟩, HR⟩
  unfold coming
  icases Hc with ⟨Hcr, Hat⟩
  ihave Hc1 := (rec_recv m ρ c g) $$ Hrec
  icases Hc1 with ⟨⟨%κ, #HI⟩, -⟩
  iapply (Rounds.wp_wait_rest_token 𝒱₀ ER (sched m ρ) (c : Thread nD τ) none (κ := κ)
      (wpE_waitDma2_eq 𝒱₀ (c : Thread nD τ) none Set.univ) (Set.mem_univ _) () (O := oweSends c (stand c t).toSend + oweTells ∅) (W := W)
      (R := 0) (m := 0) (T := ∅) (by rw [Nat.zero_add, expect_recv m ρ hg, hk])) $$ [Hcr HO Hat]
  · isplitr; · iexact HI
    isplitl [Hcr]; · rw [hk]; iexact Hcr
    isplitl [HO]; · iexact HO
    isplitr
    · iapply (mayWait_of c (.dma (rsem g)) (rank c g) (stand c t).toSend ∅ (le_of_eq (lv_recv c g)) ho (fun d hd => absurd hd (Finset.notMem_empty d)))
      iexact Hlev
    iexact Hat
  iintro ⟨HO, Hat, -, Hpay⟩
  ihave Hp := (Entails.of_eq ((rest_recv m ρ hg).trans (full_split m ρ c g))) $$ Hpay
  icases Hp with ⟨Hp, Hrest⟩
  iapply h
  isplitr [HR]
  · isplitr; · iexact Hrec
    isplitr; · iexact Hlev
    isplitl [HO]; · iexists _; iexact HO
    isplitl [Hsend]; · iexact Hsend
    isplitl [Hfly]; · iexact Hfly
    isplitl [Hgone]; · iexact Hgone
    isplitl [Hp Hhand]
    · isplitl [Hp]; · iexact Hp
      iexact Hhand
    isplitl [Haw]; · iexact Haw
    isplitl [Hat Hrest Harr]
    · isplitl [Hat Hrest]
      · unfold came
        isplitl [Hat]; · iexact Hat
        iexact Hrest
      iexact Harr
    isplitl [Hown]; · iexact Hown
    isplitl [Hout]; · iexact Hout
    isplitl [Hx]; · iexact Hx
    iexact Hw
  · iexact HR

/-- Waiting for one of the device's own sends to have left. -/
theorem wait_send {s s' : Shape} {src : Memref sig .tc .vmem s' .f32} {dst : Memref sig .tc .vmem s .f32} {j : Fin 22} {sem : DmaSem sig}
    {hsrc : src.view.WordExact} {hdst : dst.view.WordExact} {k : PUnit → Prog (TpuEff nD τ sig (Elt F) Λ₀ .tc) α}
    (hj : sends c j) (ht : t = eW j) (hs : sem = ssem j) (hk : dst.view.dmaCredit = credit (isHalf j))
    (h : iprop(St m ρ c (t + 1) ∗ R) ⊢ Runs c (k ⟨⟩) Q) :
    iprop(St m ρ c t ∗ R) ⊢ Runs c (.op (.waitDma2 sem src dst hsrc hdst) k) Q := by
  subst hs
  obtain ⟨i1, i2, i3, i4⟩ := step_gone c j hj t ht
  unfold St at h ⊢
  rw [i4] at h
  unfold Held at h ⊢
  dsimp only at h
  rw [sep_insert i2, sep_insert i3] at h
  rw [sep_erase i1]
  iintro ⟨⟨#Hrec, #Hlev, ⟨%W, HO⟩, Hsend, ⟨Hc, Hfly⟩, Hgone, Hhand, Haw, Harr, Hown, Hout, Hx, Hw⟩, HR⟩
  unfold flying
  icases Hc with ⟨Hcr, Hat⟩
  ihave Hc1 := (rec_send m ρ c j) $$ Hrec
  icases Hc1 with ⟨⟨%κ, #HI⟩, -⟩
  iapply (Rounds.wp_wait_rest_token 𝒱₀ ER (sched m ρ) (c : Thread nD τ) none (κ := κ)
      (wpE_waitDma2_eq 𝒱₀ (c : Thread nD τ) none Set.univ) (Set.mem_univ _) () (O := oweSends c (stand c t).toSend + oweTells ∅) (W := W)
      (R := 0) (m := 0) (T := ∅) (by rw [Nat.zero_add, expect_send m ρ hj, hk])) $$ [Hcr HO Hat]
  · isplitr; · iexact HI
    isplitl [Hcr]; · rw [hk]; iexact Hcr
    isplitl [HO]; · iexact HO
    isplitr
    · iapply (mayWait_of c (.dma (ssem j)) 0 (stand c t).toSend ∅ (le_of_eq (lv_send c j))
        (fun i _ => lt_trans Nat.zero_lt_one (rank_pos _ _)) (fun d hd => absurd hd (Finset.notMem_empty d)))
      iexact Hlev
    iexact Hat
  iintro ⟨HO, Hat, -, Hpay⟩
  ihave Hp := (Entails.of_eq (rest_send m ρ hj)) $$ Hpay
  iapply h
  isplitr [HR]
  · isplitr; · iexact Hrec
    isplitr; · iexact Hlev
    isplitl [HO]; · iexists _; iexact HO
    isplitl [Hsend]; · iexact Hsend
    isplitl [Hfly]; · iexact Hfly
    isplitl [Hat Hgone]
    · isplitl [Hat]; · unfold done; iexact Hat
      iexact Hgone
    isplitl [Hp Hhand]
    · isplitl [Hp]; · unfold piece; unfold sendPay; iexact Hp
      iexact Hhand
    isplitl [Haw]; · iexact Haw
    isplitl [Harr]; · iexact Harr
    isplitl [Hown]; · iexact Hown
    isplitl [Hout]; · iexact Hout
    isplitl [Hx]; · iexact Hx
    iexact Hw
  · iexact HR

/-! ## Loads -/

/-- Reading a region through the share its readers leave. -/
theorem rest_look (g : Fin 32) : Rest m ρ c g
    ⊢ iprop(comm c (part c g) keep (gath m ρ) ∗ (comm c (part c g) keep (gath m ρ) -∗ Rest m ρ c g)) := by
  unfold Rest
  iintro ⟨Hk, Hu⟩
  isplitl [Hk]; · iexact Hk
  iintro Hk
  isplitl [Hk]; · iexact Hk
  iexact Hu

/-- Reading a region that is there. -/
theorem look (g : Fin 32) (hg : g = lo c ∨ g ∈ (stand c t).arrived) :
    St m ρ c t ⊢ iprop(comm c (part c g) keep (gath m ρ) ∗ (comm c (part c g) keep (gath m ρ) -∗ St m ρ c t)) := by
  unfold St Held
  rcases hg with rfl | hg
  · iintro ⟨Hrec, Hlev, HO, Hsend, Hfly, Hgone, Hhand, Haw, Harr, Hown, Hout, Hx, Hw⟩
    ihave Hown := (rest_look m ρ (lo c)) $$ Hown
    icases Hown with ⟨Hk, Hu⟩
    isplitl [Hk]; · iexact Hk
    iintro Hk
    isplitl [Hrec]; · iexact Hrec
    isplitl [Hlev]; · iexact Hlev
    isplitl [HO]; · iexact HO
    isplitl [Hsend]; · iexact Hsend
    isplitl [Hfly]; · iexact Hfly
    isplitl [Hgone]; · iexact Hgone
    isplitl [Hhand]; · iexact Hhand
    isplitl [Haw]; · iexact Haw
    isplitl [Harr]; · iexact Harr
    isplitl [Hk Hu]; · iapply Hu; iexact Hk
    isplitl [Hout]; · iexact Hout
    isplitl [Hx]; · iexact Hx
    iexact Hw
  · rw [sep_erase hg]
    iintro ⟨Hrec, Hlev, HO, Hsend, Hfly, Hgone, Hhand, Haw, ⟨Hc, Harr⟩, Hown, Hout, Hx, Hw⟩
    unfold came
    icases Hc with ⟨Hat, Hc⟩
    ihave Hc := (rest_look m ρ g) $$ Hc
    icases Hc with ⟨Hk, Hu⟩
    isplitl [Hk]; · iexact Hk
    iintro Hk
    isplitl [Hrec]; · iexact Hrec
    isplitl [Hlev]; · iexact Hlev
    isplitl [HO]; · iexact HO
    isplitl [Hsend]; · iexact Hsend
    isplitl [Hfly]; · iexact Hfly
    isplitl [Hgone]; · iexact Hgone
    isplitl [Hhand]; · iexact Hhand
    isplitl [Haw]; · iexact Haw
    isplitl [Hat Hk Hu Harr]
    · isplitl [Hat Hk Hu]
      · isplitl [Hat]; · iexact Hat
        iapply Hu; iexact Hk
      iexact Harr
    isplitl [Hown]; · iexact Hown
    isplitl [Hout]; · iexact Hout
    isplitl [Hx]; · iexact Hx
    iexact Hw

/-- Loading a whole chunk. -/
theorem load_chunk {off : Fin 3 → ℕ} {inb} {p : Fin 16} {hl : rM.view.LoadsAt (Rect.unit (s := S32x64x2048) off S2x64x2048.size inb).toLoadRect}
    {k : Vec F S2x64x2048 .f32 → Prog (TpuEff nD τ sig (Elt F) Λ₀ .tc) α}
    (hoff : off = ![(lo p).val, 0, 0]) (hd : dist c (lo p) ≠ 2) (hp : lo p = lo c ∨ lo p ∈ (stand c t).arrived)
    (h : iprop(St m ρ c t ∗ R) ⊢ Runs c (k (chunkOf (gath m ρ) p)) Q) :
    iprop(St m ρ c t ∗ R) ⊢ Runs c (.op (.load rM (Rect.unit (s := S32x64x2048) off S2x64x2048.size inb).toLoadRect hl) k) Q := by
  iintro ⟨HS, HR⟩
  ihave HS := (look m ρ (lo p) hp) $$ HS
  icases HS with ⟨Hk, HS⟩
  rw [part_chunk c p hd]
  iapply (wp_load 𝒱₀ (c : Thread nD τ) none Set.univ (m := rM) (S := slotSet (reg false (lo p))) (q := keep) (f := gath m ρ)
    (le_of_eq (load_chunk_set hoff))) $$ [Hk]
  · unfold comm; iexact Hk
  iintro Hk
  rw [load_chunk_eq hoff]
  iapply h
  isplitr [HR]
  · iapply HS; unfold comm; iexact Hk
  · iexact HR

/-- Loading one half slot. -/
theorem load_half {off : Fin 3 → ℕ} {inb} {g : Fin 32} {hl : rM.view.LoadsAt (Rect.unit (s := S32x64x2048) off S1x64x2048.size inb).toLoadRect}
    {k : Vec F S1x64x2048 .f32 → Prog (TpuEff nD τ sig (Elt F) Λ₀ .tc) α}
    (hoff : off = ![g.val, 0, 0]) (hd : dist c g = 2) (hp : g ∈ (stand c t).arrived)
    (h : iprop(St m ρ c t ∗ R) ⊢ Runs c (k (halfOf (gath m ρ) g)) Q) :
    iprop(St m ρ c t ∗ R) ⊢ Runs c (.op (.load rM (Rect.unit (s := S32x64x2048) off S1x64x2048.size inb).toLoadRect hl) k) Q := by
  iintro ⟨HS, HR⟩
  ihave HS := (look m ρ g (.inr hp)) $$ HS
  icases HS with ⟨Hk, HS⟩
  rw [part_half c g hd]
  iapply (wp_load 𝒱₀ (c : Thread nD τ) none Set.univ (m := rM) (S := slotSet (reg true g)) (q := keep) (f := gath m ρ)
    (le_of_eq (load_half_set hoff))) $$ [Hk]
  · unfold comm; iexact Hk
  iintro Hk
  rw [load_half_eq hoff]
  iapply h
  isplitr [HR]
  · iapply HS; unfold comm; iexact Hk
  · iexact HR

/-- The offset of two zeros is zero on every axis. -/
theorem zero2 : (![0, 0] : Fin 2 → ℕ) = fun _ => 0 := funext fun a => by fin_cases a <;> rfl

/-- Loading the columns of `w`. -/
theorem load_w {inb} {hl : wM.view.LoadsAt (Rect.unit (s := S2048x128) ![0, 0] S2048x128.size inb).toLoadRect}
    {k : Vec F S2048x128 .f32 → Prog (TpuEff nD τ sig (Elt F) Λ₀ .tc) α}
    (h : iprop(St m ρ c t ∗ R) ⊢ Runs c (k (wstg m ρ c)) Q) :
    iprop(St m ρ c t ∗ R) ⊢ Runs c (.op (.load wM (Rect.unit (s := S2048x128) ![0, 0] S2048x128.size inb).toLoadRect hl) k) Q := by
  unfold St Held at h ⊢
  iintro ⟨⟨Hrec, Hlev, HO, Hsend, Hfly, Hgone, Hhand, Haw, Harr, Hown, Hout, Hx, Hw⟩, HR⟩
  iapply (wp_load 𝒱₀ (c : Thread nD τ) none Set.univ (m := wM) (S := Finset.univ) (q := fullShare) (f := wstg m ρ c)
    (Finset.subset_univ _)) $$ [Hw]
  · unfold wAt; iexact Hw
  iintro Hw
  rw [show wM.view.readAt (Elt F) (Rect.unit (s := S2048x128) ![0, 0] S2048x128.size inb).toLoadRect (wstg m ρ c) = wstg m ρ c from
    Memref.readAt_unit_zero (Elt F) cc0_stg1_0 zero2 inb _]
  iapply h
  isplitr [HR]
  · isplitl [Hrec]; · iexact Hrec
    isplitl [Hlev]; · iexact Hlev
    isplitl [HO]; · iexact HO
    isplitl [Hsend]; · iexact Hsend
    isplitl [Hfly]; · iexact Hfly
    isplitl [Hgone]; · iexact Hgone
    isplitl [Hhand]; · iexact Hhand
    isplitl [Haw]; · iexact Haw
    isplitl [Harr]; · iexact Harr
    isplitl [Hown]; · iexact Hown
    isplitl [Hout]; · iexact Hout
    isplitl [Hx]; · iexact Hx
    unfold wAt; iexact Hw
  · iexact HR

/-- A load of the result before its rows are written: what it sees is not used. -/
theorem load_out {r : LoadRect S2048x128} {hl : oM.view.LoadsAt r} {k : (r.shape.Idx → Elt F .f32) → Prog (TpuEff nD τ sig (Elt F) Λ₀ .tc) α}
    (h : ∀ v, iprop(St m ρ c t ∗ R) ⊢ Runs c (k v) Q) :
    iprop(St m ρ c t ∗ R) ⊢ Runs c (.op (.load oM r hl) k) Q := by
  unfold St Held at h ⊢
  iintro ⟨⟨Hrec, Hlev, HO, Hsend, Hfly, Hgone, Hhand, Haw, Harr, Hown, Hout, Hx, Hw⟩, HR⟩
  unfold Out at h ⊢
  icases Hout with ⟨%f, %hf, Hout⟩
  iapply (wp_load 𝒱₀ (c : Thread nD τ) none Set.univ (m := oM) (S := Finset.univ) (q := fullShare) (f := f)
    (Finset.subset_univ _)) $$ [Hout]
  · iexact Hout
  iintro Hout
  iapply (h _)
  isplitr [HR]
  · isplitl [Hrec]; · iexact Hrec
    isplitl [Hlev]; · iexact Hlev
    isplitl [HO]; · iexact HO
    isplitl [Hsend]; · iexact Hsend
    isplitl [Hfly]; · iexact Hfly
    isplitl [Hgone]; · iexact Hgone
    isplitl [Hhand]; · iexact Hhand
    isplitl [Haw]; · iexact Haw
    isplitl [Harr]; · iexact Harr
    isplitl [Hown]; · iexact Hown
    isplitl [Hout]
    · iexists f; isplitr; · ipureintro; exact hf
      iexact Hout
    isplitl [Hx]; · iexact Hx
    iexact Hw
  · iexact HR

/-! ## Rows of the result -/

/-- Writing rows of the result: the contents change in those rows, to what they should be. -/
theorem store_core {r : Rect S2048x128} {w : r.shape.Idx → Elt F .f32} {hx : (oM.access r : View sig .tc _ _ _).Stores Finset.univ}
    {hm : Finset.univ = Finset.univ ∨ ∀ a, r.stride a = 1} {k : PUnit → Prog (TpuEff nD τ sig (Elt F) Λ₀ .tc) α} {G : Finset (Fin 32)}
    (ht : stand c (t + 1) = { stand c t with written := G ∪ (stand c t).written })
    (hw : ∀ (f : S2048x128.Idx → Elt F .f32) i, (oM.access r : View sig .tc _ _ _).write (Elt F) f w Finset.univ i
      = if slotOf i ∈ G then outAt m ρ c i else f i)
    (h : iprop(St m ρ c (t + 1) ∗ R) ⊢ Runs c (k ⟨⟩) Q) :
    iprop(St m ρ c t ∗ R) ⊢ Runs c (.op (.store oM r w Finset.univ hx hm) k) Q := by
  unfold St at h ⊢
  rw [ht] at h
  unfold Held at h ⊢
  dsimp only at h
  iintro ⟨⟨Hrec, Hlev, HO, Hsend, Hfly, Hgone, Hhand, Haw, Harr, Hown, Hout, Hx, Hw⟩, HR⟩
  unfold Out at h ⊢
  icases Hout with ⟨%f, %hf, Hout⟩
  iapply (wp_store 𝒱₀ (c : Thread nD τ) none Set.univ (m := oM) (r := r) (Mk := Finset.univ) (S := Finset.univ) (f := f)
    (Finset.subset_univ _)) $$ [Hout]
  · iexact Hout
  iintro Hout
  iapply h
  isplitr [HR]
  · isplitl [Hrec]; · iexact Hrec
    isplitl [Hlev]; · iexact Hlev
    isplitl [HO]; · iexact HO
    isplitl [Hsend]; · iexact Hsend
    isplitl [Hfly]; · iexact Hfly
    isplitl [Hgone]; · iexact Hgone
    isplitl [Hhand]; · iexact Hhand
    isplitl [Haw]; · iexact Haw
    isplitl [Harr]; · iexact Harr
    isplitl [Hown]; · iexact Hown
    isplitl [Hout]
    · iexists (oM.access r : View sig .tc _ _ _).write (Elt F) f w Finset.univ
      isplitr
      · ipureintro
        intro i hi
        rw [hw f i]
        by_cases hg : slotOf i ∈ G
        · rw [if_pos hg]
        · rw [if_neg hg]
          exact hf i ((Finset.mem_union.mp hi).resolve_left hg)
      iexact Hout
    isplitl [Hx]; · iexact Hx
    iexact Hw
  · iexact HR

/-- Writing the rows of a whole chunk. -/
theorem store_128 {off : Fin 2 → ℕ} {inb} {p : Fin 16} {w : Vec F S128x128 .f32}
    {hx : (oM.access (Rect.unit (s := S2048x128) off S128x128.size inb) : View sig .tc _ _ _).Stores Finset.univ} {hm}
    {k : PUnit → Prog (TpuEff nD τ sig (Elt F) Λ₀ .tc) α}
    (hoff : off = ![128 * p.val, 0]) (hp : dist c (lo p) ≠ 2) (ht : t = eO c (lo p)) (hw : w = rows128 (chunkOf (gath m ρ) p) (wstg m ρ c))
    (h : iprop(St m ρ c (t + 1) ∗ R) ⊢ Runs c (k ⟨⟩) Q) :
    iprop(St m ρ c t ∗ R) ⊢ Runs c (.op (.store oM (Rect.unit (s := S2048x128) off S128x128.size inb) w Finset.univ hx hm) k) Q := by
  refine store_core m ρ (step_rows c p hp t ht) (fun f i => ?_) h
  have hi : slotOf i ∈ reg false (lo p) ↔ (i 0).val / 128 = p.val := by
    rw [mem_reg_lo]; show (i 0).val / 64 / 2 = p.val ↔ _; rw [Nat.div_div_eq_div_mul]
  refine (store_rows 128 p.val hoff f w i).trans ?_
  by_cases hc : (i 0).val / 128 = p.val
  · rw [if_pos hc, if_pos (hi.mpr hc), hw]
    have ho : ownerOf i = p := Fin.ext hc
    have hd : dist c (slotOf i) ≠ 2 := by
      rw [dist_half c (slotOf i) p ((mem_reg_lo p _).mp (hi.mpr hc))]; exact hp
    unfold outAt
    rw [if_neg hd, ho]
  · rw [if_neg hc, if_neg (fun h' => hc (hi.mp h'))]

/-- Writing the rows of one half slot. -/
theorem store_64 {off : Fin 2 → ℕ} {inb} {g : Fin 32} {w : Vec F S64x128 .f32}
    {hx : (oM.access (Rect.unit (s := S2048x128) off S64x128.size inb) : View sig .tc _ _ _).Stores Finset.univ} {hm}
    {k : PUnit → Prog (TpuEff nD τ sig (Elt F) Λ₀ .tc) α}
    (hoff : off = ![64 * g.val, 0]) (hp : dist c g = 2) (ht : t = eO c g) (hw : w = rows64 (halfOf (gath m ρ) g) (wstg m ρ c))
    (h : iprop(St m ρ c (t + 1) ∗ R) ⊢ Runs c (k ⟨⟩) Q) :
    iprop(St m ρ c t ∗ R) ⊢ Runs c (.op (.store oM (Rect.unit (s := S2048x128) off S64x128.size inb) w Finset.univ hx hm) k) Q := by
  refine store_core m ρ (step_half c g hp t ht) (fun f i => ?_) h
  have hi : slotOf i ∈ reg true g ↔ (i 0).val / 64 = g.val := by
    show slotOf i ∈ ({g} : Finset (Fin 32)) ↔ _
    rw [Finset.mem_singleton]; exact ⟨fun h' => congrArg Fin.val h', fun h' => Fin.ext h'⟩
  refine (store_rows 64 g.val hoff f w i).trans ?_
  by_cases hc : (i 0).val / 64 = g.val
  · rw [if_pos hc, if_pos (hi.mpr hc), hw]
    have ho : slotOf i = g := Fin.ext hc
    unfold outAt
    rw [ho, if_pos hp]
  · rw [if_neg hc, if_neg (fun h' => hc (hi.mp h'))]

/-! ## The barrier and the device's own chunk -/

/-- Telling a near device that its half slots here may be filled. -/
theorem tell {d : Dev nD} {n : ℕ} {amt : ℤ} {k : PUnit → Prog (TpuEff nD τ sig (Elt F) Λ₀ .tc) α}
    (hd : near c d) (hn : n = tB c d) (ha : amt = ((1 : ℕ) : ℤ)) (h : iprop(Pre m ρ c (n + 1) ∗ R) ⊢ Runs c (k ⟨⟩) Q) :
    iprop(Pre m ρ c n ∗ R) ⊢ Runs c (.op (.semSignal (d : Thread nD τ) (SemArray.scalar (d := ![]) (sig.barrier 0 rfl)).sem amt) k) Q := by
  subst ha
  obtain ⟨i1, i2⟩ := step_tell c d hd n hn
  unfold Pre at h ⊢
  rw [← i2] at h
  rw [sep_erase i1, oweTells_erase i1]
  iintro ⟨⟨HK, ⟨%W, HO⟩, ⟨⟨Htok, Hpay⟩, Htell⟩, Hcr, Hat⟩, HR⟩
  unfold Kept at h ⊢
  icases HK with ⟨#Hrec, HK⟩
  ihave Hc1 := (rec_bar m ρ d) $$ Hrec
  icases Hc1 with ⟨⟨%κ, #HI⟩, #Hr⟩
  iapply (Rounds.wp_signal 𝒱₀ ER (sched m ρ) (c : Thread nD τ) none (dst := (d : Thread nD τ)) (κ := κ) (d := c)
      (by rw [duties_bar]; exact Finset.mem_filter.mpr ⟨Finset.mem_univ _, (near_symm d c).trans hd⟩)
      (amount_bar m ρ d c) () (oweSends c (mine c) + oweTells ((toTell c n).erase d)) (by rw [add_assoc]))
    $$ [HO Htok Hpay]
  · isplitr; · iexact HI
    isplitl [HO]; · iexact HO
    isplitl [Htok]; · iexact Htok
    isplitl [Hpay]; · rw [payload_bar]; unfold barPay; iexact Hpay
    iexact Hr
  iintro HO
  iapply h
  isplitr [HR]
  · isplitl [HK]
    · isplitr; · iexact Hrec
      iexact HK
    isplitl [HO]; · iexists W; iexact HO
    isplitl [Htell]; · iexact Htell
    isplitl [Hcr]; · iexact Hcr
    iexact Hat
  · iexact HR

/-- Hearing from all near devices. -/
theorem hear {amt : ℤ} {k : PUnit → Prog (TpuEff nD τ sig (Elt F) Λ₀ .tc) α} (ha : amt = ((5 : ℕ) : ℤ))
    (h : iprop(Open m ρ c ∗ R) ⊢ Runs c (k ⟨⟩) Q) :
    iprop(Pre m ρ c 6 ∗ R) ⊢ Runs c (.op (.semWait (SemArray.scalar (d := ![]) (sig.barrier 0 rfl)).sem amt) k) Q := by
  subst ha
  unfold Pre Open at *
  rw [tell_end]
  iintro ⟨⟨HK, ⟨%W, HO⟩, -, Hcr, Hat⟩, HR⟩
  unfold Kept at h ⊢
  icases HK with ⟨#Hrec, #Hlev, HK⟩
  ihave Hc1 := (rec_bar m ρ c) $$ Hrec
  icases Hc1 with ⟨⟨%κ, #HI⟩, -⟩
  iapply (Rounds.wp_wait_rest_token 𝒱₀ ER (sched m ρ) (c : Thread nD τ) none (κ := κ)
      (wpE_semWait_eq 𝒱₀ (c : Thread nD τ) none Set.univ) (Set.mem_univ _) () (O := oweSends c (mine c) + oweTells ∅) (W := W)
      (R := 0) (m := 0) (T := ∅) (by rw [Nat.zero_add, expect_bar])) $$ [Hcr HO Hat]
  · isplitr; · iexact HI
    isplitl [Hcr]; · iexact Hcr
    isplitl [HO]; · iexact HO
    isplitr
    · iapply (mayWait_of c bsem 1 (mine c) ∅ (le_of_eq (lv_bar c)) (fun j _ => rank_pos _ _) (fun d hd => absurd hd (Finset.notMem_empty d)))
      iexact Hlev
    iexact Hat
  iintro ⟨HO, Hat, -, Hpay⟩
  ihave Hp := (Entails.of_eq (rest_bar m ρ c)) $$ Hpay
  ihave Hp := (handed_sends c) $$ Hp
  iapply h
  isplitr [HR]
  · isplitl [HK]
    · isplitr; · iexact Hrec
      isplitr; · iexact Hlev
      iexact HK
    isplitl [HO]; · iexists _; iexact HO
    isplitl [Hat]; · iexact Hat
    iexact Hp
  · iexact HR

/-- Loading the device's rows of `x`. -/
theorem load_x {inb} {hl : xM.view.LoadsAt (Rect.unit (s := S128x2048) ![0, 0] S128x2048.size inb).toLoadRect}
    {k : Vec F S128x2048 .f32 → Prog (TpuEff nD τ sig (Elt F) Λ₀ .tc) α}
    (h : iprop(Open m ρ c ∗ R) ⊢ Runs c (k (xstg m ρ c)) Q) :
    iprop(Open m ρ c ∗ R) ⊢ Runs c (.op (.load xM (Rect.unit (s := S128x2048) ![0, 0] S128x2048.size inb).toLoadRect hl) k) Q := by
  unfold Open Kept at h ⊢
  iintro ⟨⟨⟨Hrec, Hlev, Hc, Hm, Hi, Hout, Hx, Hw⟩, HO, Hs⟩, HR⟩
  iapply (wp_load 𝒱₀ (c : Thread nD τ) none Set.univ (m := xM) (S := Finset.univ) (q := fullShare) (f := xstg m ρ c)
    (Finset.subset_univ _)) $$ [Hx]
  · unfold xAt; iexact Hx
  iintro Hx
  rw [show xM.view.readAt (Elt F) (Rect.unit (s := S128x2048) ![0, 0] S128x2048.size inb).toLoadRect (xstg m ρ c) = xstg m ρ c from
    Memref.readAt_unit_zero (Elt F) cc0_stg0_0 zero2 inb _]
  iapply h
  isplitr [HR]
  · isplitr [HO Hs]
    · isplitl [Hrec]; · iexact Hrec
      isplitl [Hlev]; · iexact Hlev
      isplitl [Hc]; · iexact Hc
      isplitl [Hm]; · iexact Hm
      isplitl [Hi]; · iexact Hi
      isplitl [Hout]; · iexact Hout
      isplitl [Hx]; · unfold xAt; iexact Hx
      iexact Hw
    isplitl [HO]; · iexact HO
    iexact Hs
  · iexact HR

/-- A load of the device's own chunk before it is written: what it sees is not used. -/
theorem load_own {off : Fin 3 → ℕ} {inb} {hl : rM.view.LoadsAt (Rect.unit (s := S32x64x2048) off S2x64x2048.size inb).toLoadRect}
    {k : Vec F S2x64x2048 .f32 → Prog (TpuEff nD τ sig (Elt F) Λ₀ .tc) α} (hoff : off = ![(lo c).val, 0, 0])
    (h : ∀ v, iprop(Open m ρ c ∗ R) ⊢ Runs c (k v) Q) :
    iprop(Open m ρ c ∗ R) ⊢ Runs c (.op (.load rM (Rect.unit (s := S32x64x2048) off S2x64x2048.size inb).toLoadRect hl) k) Q := by
  unfold Open Kept at h ⊢
  iintro ⟨⟨⟨Hrec, Hlev, ⟨%f, Hc⟩, Hm, Hi, Hout, Hx, Hw⟩, HO, Hs⟩, HR⟩
  iapply (wp_load 𝒱₀ (c : Thread nD τ) none Set.univ (m := rM) (S := slotSet (reg false (lo c))) (q := fullShare) (f := f)
    (le_of_eq (load_chunk_set hoff))) $$ [Hc]
  · unfold comm; iexact Hc
  iintro Hc
  iapply (h _)
  isplitr [HR]
  · isplitr [HO Hs]
    · isplitl [Hrec]; · iexact Hrec
      isplitl [Hlev]; · iexact Hlev
      isplitl [Hc]; · iexists f; unfold comm; iexact Hc
      isplitl [Hm]; · iexact Hm
      isplitl [Hi]; · iexact Hi
      isplitl [Hout]; · iexact Hout
      isplitl [Hx]; · iexact Hx
      iexact Hw
    isplitl [HO]; · iexact HO
    iexact Hs
  · iexact HR

/-- The tokens of the sends and the half slots they fill are all that the sends to be made need. -/
theorem ready (c : Dev nD) :
    iprop(bigSep (mine c) (fun j => iprop(dutyTok ER (scell c j) 0 0 ∗ dutyTok ER (rcell (tgt c j) (slot c j)) 0 0 ∗ atPos ER (scell c j) 0 ∅ 0))
      ∗ bigSep (mine c) (fun j => iprop(∃ f, comm (tgt c j) (cargo c j) fullShare f)))
      ⊢ (bigSep (mine c) (pend c) : sProp 𝕄) := by
  rw [← sep_pair]
  refine sep_mono fun j _ => ?_
  unfold pend
  iintro ⟨⟨H1, H2, H3⟩, H4⟩
  isplitl [H1]; · iexact H1
  isplitl [H2]; · iexact H2
  isplitl [H4]; · iexact H4
  iexact H3

/-- Putting the device's own chunk in place: the clock starts. -/
theorem store_own {off : Fin 3 → ℕ} {inb} {w : Vec F S2x64x2048 .f32}
    {hx : (rM.access (Rect.unit (s := S32x64x2048) off S2x64x2048.size inb) : View sig .tc _ _ _).Stores Finset.univ} {hm}
    {k : PUnit → Prog (TpuEff nD τ sig (Elt F) Λ₀ .tc) α} (hoff : off = ![(lo c).val, 0, 0]) (hw : w = k0_pay1 (xstg m ρ c))
    (h : iprop(St m ρ c 0 ∗ atPos ER (bcell c) 1 ∅ 0 ∗ R) ⊢ Runs c (k ⟨⟩) Q) :
    iprop(Open m ρ c ∗ R) ⊢ Runs c (.op (.store rM (Rect.unit (s := S32x64x2048) off S2x64x2048.size inb) w Finset.univ hx hm) k) Q := by
  unfold St at h
  rw [stand_start] at h
  unfold Held at h
  dsimp only at h
  rw [bigSep_empty, bigSep_empty, bigSep_empty] at h
  unfold Open Kept
  iintro ⟨⟨⟨Hrec, Hlev, ⟨%f, Hc⟩, Hm, Hi, ⟨%o, Hout⟩, Hx, Hw⟩, HO, Hat, Hs⟩, HR⟩
  iapply (wp_store 𝒱₀ (c : Thread nD τ) none Set.univ (m := rM) (r := Rect.unit (s := S32x64x2048) off S2x64x2048.size inb) (Mk := Finset.univ)
    (S := slotSet (reg false (lo c))) (f := f) (le_of_eq (store_chunk_set hoff))) $$ [Hc]
  · unfold comm; iexact Hc
  iintro Hc
  have e : ((c : Thread nD τ).loc cc0_scratch0 ↦[slotSet (reg false (lo c))]{fullShare}
      ((rM.access (Rect.unit (s := S32x64x2048) off S2x64x2048.size inb) : View sig .tc _ _ _).write (Elt F) f w Finset.univ) : sProp 𝕄)
      = iprop(bigSep (readers c (lo c)) (piece m ρ c) ∗ Rest m ρ c (lo c)) := by
    rw [← full_split]
    unfold comm
    rw [part_own c]
    refine pointsTo_congr fun i hi => ?_
    have hp : devOf i = c := Fin.ext ((mem_reg_lo c _).mp (mem_slotSet.mp hi))
    refine (store_chunk hoff f w i hi).trans ?_
    rw [hw]; unfold gath; rw [hp]
  ihave Hc := (Entails.of_eq e) $$ Hc
  icases Hc with ⟨Hp, Hr⟩
  iapply h
  isplitr [HR Hat]
  · isplitl [Hrec]; · iexact Hrec
    isplitl [Hlev]; · iexact Hlev
    isplitl [HO]; · iexact HO
    isplitl [Hm Hs]
    · iapply (ready c)
      isplitl [Hm]; · iexact Hm
      iexact Hs
    isplitr; · iempintro
    isplitr; · iempintro
    isplitl [Hp]; · iexact Hp
    isplitl [Hi]; · iexact Hi
    isplitr; · iempintro
    isplitl [Hr]; · iexact Hr
    isplitl [Hout]
    · unfold Out
      iexists o
      isplitr; · ipureintro; exact fun i hi => absurd hi (Finset.notMem_empty _)
      iexact Hout
    isplitl [Hx]; · iexact Hx
    iexact Hw
  · isplitl [Hat]; · iexact Hat
    iexact HR

/-! ## Branches -/

/-- A program that is done. -/
theorem done_of {A : sProp 𝕄} {a : α} (h : iprop(A) ⊢ Q a) : iprop(A) ⊢ Runs c (.ret a) Q := by
  rw [show Runs c (.ret a) Q = _ from wp_ret ..]
  exact h.trans fupd_intro

/-- A conditional: the two ways. -/
theorem branch {cond : Prop} [Decidable cond] {B : sProp 𝕄} {p : cond → Prog (TpuEff nD τ sig (Elt F) Λ₀ .tc) α}
    {q : Prog (TpuEff nD τ sig (Elt F) Λ₀ .tc) α} (hyes : ∀ hc : cond, iprop(B) ⊢ Runs c (p hc) Q) (hno : ¬ cond → iprop(B) ⊢ Runs c q Q) :
    iprop(B) ⊢ Runs c (if h : cond then p h else q) Q := by
  by_cases hc : cond
  · rw [dif_pos hc]; exact hyes hc
  · rw [dif_neg hc]; exact hno hc

end Cert.KernelIdeal.AG

end
-- ==== Proof.KernelIdeal.Places.lean ====
module

public import proofs.«01_k».proof.Proof.Clock
public import proofs.«01_k».proof.Proof.KernelIdeal.Slots

@[expose] public section

/-!
# The offsets, the devices and the conditions of the body

The body computes its offsets and its peers with word arithmetic on the device's number. Here each is given in the words
of the schedule: the half slot it names, the peer of a send, the place a condition asks for.
-/

namespace Cert.KernelIdeal.AG

open Cert.KernelIdeal Cert.KernelIdeal.Gen AllGather
open Idealize.ShloMosaic

/-! ## Ready signals -/

/-- The first ready signal goes to the left neighbour. -/
theorem dev_left : ∀ c : Dev nD, k0_dev1 c = (at' (zOf c) (qOf c + 3)).val := by decide +kernel
/-- The second ready signal goes to the right neighbour. -/
theorem dev_right : ∀ c : Dev nD, k0_dev2 c = (at' (zOf c) (qOf c + 1)).val := by decide +kernel
/-- A device tells the device at each height but its own. -/
theorem told : ∀ c : Dev nD, (k0_cond1 c = 1#1 ↔ (0 : Fin 4) ≠ zF c) ∧ (k0_cond2 c = 1#1 ↔ (1 : Fin 4) ≠ zF c) ∧ (k0_cond3 c = 1#1 ↔ (2 : Fin 4) ≠ zF c)
    ∧ (k0_cond4 c = 1#1 ↔ (3 : Fin 4) ≠ zF c) := by decide +kernel
/-- The ready signal for height 0 goes to the device of the column at that height. -/
theorem dev_tell0 : ∀ c : Dev nD, k0_cond1 c = 1#1 → k0_dev3 c = (at' 0 (qOf c)).val := by decide +kernel
/-- The ready signal for height 1 goes to the device of the column at that height. -/
theorem dev_tell1 : ∀ c : Dev nD, k0_cond2 c = 1#1 → k0_dev4 c = (at' 1 (qOf c)).val := by decide +kernel
/-- The ready signal for height 2 goes to the device of the column at that height. -/
theorem dev_tell2 : ∀ c : Dev nD, k0_cond3 c = 1#1 → k0_dev5 c = (at' 2 (qOf c)).val := by decide +kernel
/-- The ready signal for height 3 goes to the device of the column at that height. -/
theorem dev_tell3 : ∀ c : Dev nD, k0_cond4 c = 1#1 → k0_dev6 c = (at' 3 (qOf c)).val := by decide +kernel

/-! ## The device's own chunk -/

/-- The offsets at which a device stores, reads and sends its own chunk and writes its rows of the result. -/
theorem off_own : ∀ c : Dev nD, k0_off1 c = ![(lo c).val, 0, 0] ∧ k0_off16 c = ![(lo c).val, 0, 0] ∧ k0_off15 c = ![(lo c).val] ∧ k0_off14 c = ![(zF c).val]
    ∧ k0_off17 c = ![128 * c.val, 0] := by decide +kernel
/-- Its own chunk goes to both sides. -/
theorem dev_own : ∀ c : Dev nD, k0_dev13 c = (tgt c (jPr (zF c))).val ∧ k0_dev14 c = (tgt c (jPl (zF c))).val := by decide +kernel

/-! ## The sends along the column -/

/-- The send one up the column is made when that device exists, from the own chunk to that device. -/
theorem off_up0 : ∀ c : Dev nD, (k0_cond5 c = 1#1 ↔ here c 0 = true) ∧ (k0_cond5 c = 1#1 →
    k0_off2 c = ![(lo c).val] ∧ k0_off3 c = ![(lo c).val, 0, 0] ∧ k0_dev7 c = (tgt c (zJ 0)).val) := by decide +kernel
/-- The send one down the column is made when that device exists, from the own chunk to that device. -/
theorem off_up1 : ∀ c : Dev nD, (k0_cond6 c = 1#1 ↔ here c 1 = true) ∧ (k0_cond6 c = 1#1 →
    k0_off4 c = ![(lo c).val] ∧ k0_off5 c = ![(lo c).val, 0, 0] ∧ k0_dev8 c = (tgt c (zJ 1)).val) := by decide +kernel
/-- The send two up the column is made when that device exists, from the own chunk to that device. -/
theorem off_up2 : ∀ c : Dev nD, (k0_cond7 c = 1#1 ↔ here c 2 = true) ∧ (k0_cond7 c = 1#1 →
    k0_off6 c = ![(lo c).val] ∧ k0_off7 c = ![(lo c).val, 0, 0] ∧ k0_dev9 c = (tgt c (zJ 2)).val) := by decide +kernel
/-- The send two down the column is made when that device exists, from the own chunk to that device. -/
theorem off_up3 : ∀ c : Dev nD, (k0_cond8 c = 1#1 ↔ here c 3 = true) ∧ (k0_cond8 c = 1#1 →
    k0_off8 c = ![(lo c).val] ∧ k0_off9 c = ![(lo c).val, 0, 0] ∧ k0_dev10 c = (tgt c (zJ 3)).val) := by decide +kernel
/-- The send three up the column is made when that device exists, from the own chunk to that device. -/
theorem off_up4 : ∀ c : Dev nD, (k0_cond9 c = 1#1 ↔ here c 4 = true) ∧ (k0_cond9 c = 1#1 →
    k0_off10 c = ![(lo c).val] ∧ k0_off11 c = ![(lo c).val, 0, 0] ∧ k0_dev11 c = (tgt c (zJ 4)).val) := by decide +kernel
/-- The send three down the column is made when that device exists, from the own chunk to that device. -/
theorem off_up5 : ∀ c : Dev nD, (k0_cond10 c = 1#1 ↔ here c 5 = true) ∧ (k0_cond10 c = 1#1 →
    k0_off12 c = ![(lo c).val] ∧ k0_off13 c = ![(lo c).val, 0, 0] ∧ k0_dev12 c = (tgt c (zJ 5)).val) := by decide +kernel

/-! ## The chunks of the column -/

/-- The chunk from one up is handled when that device exists: the offsets at which it is awaited, sent to both sides, loaded and its rows written. -/
theorem off_col0 : ∀ c : Dev nD, (k0_cond11 c = 1#1 ↔ here c 0 = true) ∧ (k0_cond11 c = 1#1 →
    k0_off18 c = ![(lo (kP c 0)).val] ∧ k0_off19 c = ![(lo (kP c 0)).val, 0, 0] ∧ k0_off20 c = ![(colZ c 0).val]
    ∧ k0_dev15 c = (tgt c (kR c 0)).val ∧ k0_dev16 c = (tgt c (kL c 0)).val
    ∧ k0_off21 c = ![(lo (kP c 0)).val, 0, 0] ∧ k0_off22 c = ![128 * (kP c 0).val, 0]) := by decide +kernel
/-- The chunk from one down is handled when that device exists: the offsets at which it is awaited, sent to both sides, loaded and its rows written. -/
theorem off_col1 : ∀ c : Dev nD, (k0_cond12 c = 1#1 ↔ here c 1 = true) ∧ (k0_cond12 c = 1#1 →
    k0_off23 c = ![(lo (kP c 1)).val] ∧ k0_off24 c = ![(lo (kP c 1)).val, 0, 0] ∧ k0_off25 c = ![(colZ c 1).val]
    ∧ k0_dev17 c = (tgt c (kR c 1)).val ∧ k0_dev18 c = (tgt c (kL c 1)).val
    ∧ k0_off26 c = ![(lo (kP c 1)).val, 0, 0] ∧ k0_off27 c = ![128 * (kP c 1).val, 0]) := by decide +kernel
/-- The chunk from two up is handled when that device exists: the offsets at which it is awaited, sent to both sides, loaded and its rows written. -/
theorem off_col2 : ∀ c : Dev nD, (k0_cond13 c = 1#1 ↔ here c 2 = true) ∧ (k0_cond13 c = 1#1 →
    k0_off28 c = ![(lo (kP c 2)).val] ∧ k0_off29 c = ![(lo (kP c 2)).val, 0, 0] ∧ k0_off30 c = ![(colZ c 2).val]
    ∧ k0_dev19 c = (tgt c (kR c 2)).val ∧ k0_dev20 c = (tgt c (kL c 2)).val
    ∧ k0_off31 c = ![(lo (kP c 2)).val, 0, 0] ∧ k0_off32 c = ![128 * (kP c 2).val, 0]) := by decide +kernel
/-- The chunk from two down is handled when that device exists: the offsets at which it is awaited, sent to both sides, loaded and its rows written. -/
theorem off_col3 : ∀ c : Dev nD, (k0_cond14 c = 1#1 ↔ here c 3 = true) ∧ (k0_cond14 c = 1#1 →
    k0_off33 c = ![(lo (kP c 3)).val] ∧ k0_off34 c = ![(lo (kP c 3)).val, 0, 0] ∧ k0_off35 c = ![(colZ c 3).val]
    ∧ k0_dev21 c = (tgt c (kR c 3)).val ∧ k0_dev22 c = (tgt c (kL c 3)).val
    ∧ k0_off36 c = ![(lo (kP c 3)).val, 0, 0] ∧ k0_off37 c = ![128 * (kP c 3).val, 0]) := by decide +kernel
/-- The chunk from three up is handled when that device exists: the offsets at which it is awaited, sent to both sides, loaded and its rows written. -/
theorem off_col4 : ∀ c : Dev nD, (k0_cond15 c = 1#1 ↔ here c 4 = true) ∧ (k0_cond15 c = 1#1 →
    k0_off38 c = ![(lo (kP c 4)).val] ∧ k0_off39 c = ![(lo (kP c 4)).val, 0, 0] ∧ k0_off40 c = ![(colZ c 4).val]
    ∧ k0_dev23 c = (tgt c (kR c 4)).val ∧ k0_dev24 c = (tgt c (kL c 4)).val
    ∧ k0_off41 c = ![(lo (kP c 4)).val, 0, 0] ∧ k0_off42 c = ![128 * (kP c 4).val, 0]) := by decide +kernel
/-- The chunk from three down is handled when that device exists: the offsets at which it is awaited, sent to both sides, loaded and its rows written. -/
theorem off_col5 : ∀ c : Dev nD, (k0_cond16 c = 1#1 ↔ here c 5 = true) ∧ (k0_cond16 c = 1#1 →
    k0_off43 c = ![(lo (kP c 5)).val] ∧ k0_off44 c = ![(lo (kP c 5)).val, 0, 0] ∧ k0_off45 c = ![(colZ c 5).val]
    ∧ k0_dev25 c = (tgt c (kR c 5)).val ∧ k0_dev26 c = (tgt c (kL c 5)).val
    ∧ k0_off46 c = ![(lo (kP c 5)).val, 0, 0] ∧ k0_off47 c = ![128 * (kP c 5).val, 0]) := by decide +kernel

/-! ## The chunks from the sides

At each round the body fixes the height by four words, and the side by a fifth. -/

/-- The four words of a round. -/
def w1 : Fin 4 → BitVec 32 := ![0#32, 1#32, 2#32, 3#32]
@[inherit_doc w1] def w2 : Fin 4 → BitVec 32 := ![1#32, 2#32, 0#32, 3#32]
@[inherit_doc w1] def w3 : Fin 4 → BitVec 32 := ![2#32, 3#32, 1#32, 0#32]
@[inherit_doc w1] def w4 : Fin 4 → BitVec 32 := ![3#32, 2#32, 1#32, 0#32]

/-- The offsets of the chunk from the left at the `r`-th height, of its first half passed on and of its rows. -/
theorem off_left : ∀ (c : Dev nD) (r : Fin 4), k0_off48 c (w1 r) (w2 r) (w3 r) (w4 r) 3#32 = ![(lo (lP c r)).val] ∧ k0_off49 c (w1 r) (w2 r) (w3 r) (w4 r) 3#32 = ![(lo (lP c r)).val, 0, 0]
    ∧ k0_off50 c (w1 r) (w2 r) (w3 r) (w4 r) = ![(ordZ c r).val] ∧ k0_off51 c (w1 r) (w2 r) (w3 r) (w4 r) 3#32 = ![(lo (lP c r)).val, 0, 0]
    ∧ k0_off52 c (w1 r) (w2 r) (w3 r) (w4 r) 3#32 = ![(lo (lP c r)).val, 0, 0] ∧ k0_off53 c (w1 r) (w2 r) (w3 r) (w4 r) 3#32 = ![128 * (lP c r).val, 0] := by decide +kernel
/-- The offsets of the chunk from the right at the `r`-th height, of its second half passed on and of its rows. -/
theorem off_right : ∀ (c : Dev nD) (r : Fin 4), k0_off48 c (w1 r) (w2 r) (w3 r) (w4 r) 1#32 = ![(lo (rP c r)).val] ∧ k0_off49 c (w1 r) (w2 r) (w3 r) (w4 r) 1#32 = ![(lo (rP c r)).val, 0, 0]
    ∧ k0_off54 c (w1 r) (w2 r) (w3 r) (w4 r) 1#32 = ![(hi (rP c r)).val] ∧ k0_off55 c (w1 r) (w2 r) (w3 r) (w4 r) 1#32 = ![(hi (rP c r)).val, 0, 0]
    ∧ k0_off52 c (w1 r) (w2 r) (w3 r) (w4 r) 1#32 = ![(lo (rP c r)).val, 0, 0] ∧ k0_off53 c (w1 r) (w2 r) (w3 r) (w4 r) 1#32 = ![128 * (rP c r).val, 0] := by decide +kernel
/-- The offsets of the first half from the opposite column at the `r`-th height and of its rows. -/
theorem off_even : ∀ (c : Dev nD) (r : Fin 4), k0_off48 c (w1 r) (w2 r) (w3 r) (w4 r) 2#32 = ![(lo (dP c r)).val] ∧ k0_off51 c (w1 r) (w2 r) (w3 r) (w4 r) 2#32 = ![(lo (dP c r)).val, 0, 0]
    ∧ k0_off56 c (w1 r) (w2 r) (w3 r) (w4 r) = ![(lo (dP c r)).val, 0, 0] ∧ k0_off57 c (w1 r) (w2 r) (w3 r) (w4 r) = ![64 * (lo (dP c r)).val, 0] := by decide +kernel
/-- The offsets of the second half from the opposite column at the `r`-th height and of its rows. -/
theorem off_odd : ∀ (c : Dev nD) (r : Fin 4), k0_off54 c (w1 r) (w2 r) (w3 r) (w4 r) 2#32 = ![(hi (dP c r)).val] ∧ k0_off55 c (w1 r) (w2 r) (w3 r) (w4 r) 2#32 = ![(hi (dP c r)).val, 0, 0]
    ∧ k0_off58 c (w1 r) (w2 r) (w3 r) (w4 r) = ![(hi (dP c r)).val, 0, 0] ∧ k0_off59 c (w1 r) (w2 r) (w3 r) (w4 r) = ![64 * (hi (dP c r)).val, 0] := by decide +kernel
/-- The halves passed on go to the right and to the left neighbour. -/
theorem dev_sides : ∀ c : Dev nD, k0_dev27 c = (tgt c (jDr (ordZ c 0))).val ∧ k0_dev28 c = (tgt c (jDl (ordZ c 0))).val ∧
    k0_dev29 c = (tgt c (jDr (ordZ c 1))).val ∧ k0_dev30 c = (tgt c (jDl (ordZ c 1))).val ∧
    k0_dev31 c = (tgt c (jDr (ordZ c 2))).val ∧ k0_dev32 c = (tgt c (jDl (ordZ c 2))).val ∧
    k0_dev33 c = (tgt c (jDr (ordZ c 3))).val ∧ k0_dev34 c = (tgt c (jDl (ordZ c 3))).val := by decide +kernel

/-! ## The waits for the sends -/

/-- A send along the column is waited for when it was made. -/
theorem sent : ∀ c : Dev nD, (k0_cond17 c = 1#1 ↔ here c 0 = true) ∧ (k0_cond18 c = 1#1 ↔ here c 1 = true) ∧ (k0_cond19 c = 1#1 ↔ here c 2 = true) ∧ (k0_cond20 c = 1#1 ↔ here c 3 = true) ∧ (k0_cond21 c = 1#1 ↔ here c 4 = true) ∧ (k0_cond22 c = 1#1 ↔ here c 5 = true) := by decide +kernel

end Cert.KernelIdeal.AG
-- ==== Proof.KernelIdeal.Ops.lean ====
module

public import proofs.«01_k».proof.Proof.Clock
public import proofs.«01_k».proof.Proof.KernelIdeal.Steps
public import proofs.«01_k».proof.Proof.KernelIdeal.Places

@[expose] public section

noncomputable section

/-!
# The operations of the body

The steps of the schedule as the body spells them: each operation with its own offsets, at its own time. Those of a round
are stated once for every round.
-/

namespace Cert.KernelIdeal.AG

open Cert.KernelIdeal Cert.KernelIdeal.Gen AllGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

variable {c : Dev nD} {t : ℕ} {α : Type}
variable {R : sProp (MT nD τ sig Unit (Elt F) ℕ UU ℕ)} {Q : α → sProp (MT nD τ sig Unit (Elt F) ℕ UU ℕ)}

/-- Telling the device at a height of the column, if it is another one. -/
theorem tell_col (z : Fin 4) {cond : Prop} [Decidable cond] {dd : ℕ} {hdd : cond → dd < nD} {amt : ℤ} {rest : Prog (TpuEff nD τ sig (Elt F) Λ₀ .tc) α}
    (hz : cond ↔ z ≠ zF c) (hd : cond → dd = (at' z (qOf c)).val) (ha : amt = ((1 : ℕ) : ℤ)) (ht : t = 2 + z.val)
    (h : iprop(Pre m ρ c (t + 1) ∗ R) ⊢ Runs c rest Q) :
    iprop(Pre m ρ c t ∗ R) ⊢ Runs c (if h : cond then
      (.op (.semSignal ((⟨dd, hdd h⟩ : Dev nD) : Thread nD τ) (SemArray.scalar (d := ![]) (sig.barrier 0 rfl)).sem amt) fun _ => rest) else rest) Q := by
  refine branch (fun hc => ?_) (fun hn => ?_)
  · obtain ⟨n1, n2⟩ := near_col c z (hz.mp hc)
    have e : (⟨dd, hdd hc⟩ : Dev nD) = at' z (qOf c) := Fin.ext (hd hc)
    rw [e]
    exact tell m ρ n1 (ht.trans n2.symm) ha h
  · obtain rfl := not_ne_iff.mp fun h' => hn (hz.mpr h')
    subst ht
    have e : Pre m ρ c (2 + (zF c).val) = Pre m ρ c (2 + (zF c).val + 1) := by unfold Pre; rw [near_skip]
    rw [e]; exact h

/-- Sending the device's own chunk along the column, if there is a device there. -/
theorem send_up (i : Fin 6) {cond : Prop} [Decidable cond] {dd : ℕ} {hdd : cond → dd < nD} {off : Fin 3 → ℕ} {inb inb' : cond → ∀ a, off a + S2x64x2048.size a ≤ S32x64x2048.size a} {ss : DmaSem sig} {sr : cond → DmaSem sig}
    {rest : Prog (TpuEff nD τ sig (Elt F) Λ₀ .tc) α}
    {hsc : ∀ h, (chunkV off (inb' h)).view.ref.isScScratch = false} {hsrc : ∀ h, (chunkV off (inb h)).view.WordExact}
    {hdst : ∀ h, (chunkV off (inb' h)).view.WordExact}
    {hsem : ∀ h, DmaTarget.Typed .vmem (.dma (sr h)) (.remote (Dev.tc (⟨dd, hdd h⟩ : Dev nD) : Thread nD τ) (chunkV off (inb' h)) (.dma ss) (hsc h))}
    (hi : cond ↔ here c i = true) (hss : ss = ssem (zJ i)) (hsr : ∀ h, sr h = rsem (lo c)) (hoff : cond → off = ![(lo c).val, 0, 0])
    (hd : cond → dd = (tgt c (zJ i)).val) (ht : t = i.val)
    (h : iprop(St m ρ c (t + 1) ∗ R) ⊢ Runs c rest Q) :
    iprop(St m ρ c t ∗ R) ⊢ Runs c (if h : cond then
      (.op (.enqueueDma (chunkV off (inb h)) (.remote (Dev.tc (⟨dd, hdd h⟩ : Dev nD) : Thread nD τ) (chunkV off (inb' h)) (.dma ss) (hsc h)) (.dma (sr h))
        (hsrc h) (hdst h) (hsem h)) fun _ => rest) else rest) Q := by
  refine branch (fun hc => ?_) (fun hn => ?_)
  · obtain ⟨u1, u2, u3, u4, -⟩ := up_facts c i (hi.mp hc)
    exact send_chunk m ρ u1 (ht.trans u2.symm) (Fin.ext (hd hc)) ((hoff hc).trans (by rw [u4])) hss ((hsr hc).trans (by rw [u4])) ⟨u3, by rw [u4]; exact lo_even c⟩ h
  · subst ht
    rw [← St_congr m ρ (up_skip c i (by simpa using fun h' => hn (hi.mpr h'))).1]; exact h

/-- One program after another. -/
theorem seq {β : Type} {A : sProp 𝕄} {p : Prog (TpuEff nD τ sig (Elt F) Λ₀ .tc) β} {k : β → Prog (TpuEff nD τ sig (Elt F) Λ₀ .tc) α}
    (h : iprop(A) ⊢ Runs c p fun a => Runs c (k a) Q) : iprop(A) ⊢ Runs c (p >>= k) Q := by
  rw [show Runs c (p >>= k) Q = _ from wp_bind ..]; exact h

/-- The credit of the window of a chunk is that of a send of two half slots. -/
theorem chunk_credit {off : Fin 3 → ℕ} {inb} {b : Bool} (hb : b = false) : (chunkV off inb).view.dmaCredit = credit b := by subst hb; rfl
/-- The credit of the window of a half slot is that of a send of one half slot. -/
theorem half_credit {off : Fin 3 → ℕ} {inb} {b : Bool} (hb : b = true) : (halfV off inb).view.dmaCredit = credit b := by subst hb; rfl

/-! ## The device's own chunk -/

/-- Sending the own chunk to the right. -/
theorem own_right {off : Fin 3 → ℕ} {inb inb'} {dd : ℕ} {hdd : dd < nD} {ss sr : DmaSem sig}
    {hsc : (chunkV off inb').view.ref.isScScratch = false} {hsrc : (chunkV off inb).view.WordExact} {hdst : (chunkV off inb').view.WordExact}
    {hsem : DmaTarget.Typed .vmem (.dma sr) (.remote (Dev.tc (⟨dd, hdd⟩ : Dev nD) : Thread nD τ) (chunkV off inb') (.dma ss) hsc)}
    {k : PUnit → Prog (TpuEff nD τ sig (Elt F) Λ₀ .tc) α} (hoff : off = ![(lo c).val, 0, 0]) (hd : dd = (tgt c (jPr (zF c))).val)
    (hss : ss = ssem (jPr (zF c))) (hsr : sr = rsem (lo c)) (h : iprop(St m ρ c 7 ∗ R) ⊢ Runs c (k ⟨⟩) Q) :
    iprop(St m ρ c 6 ∗ R) ⊢ Runs c
      (.op (.enqueueDma (chunkV off inb) (.remote (Dev.tc (⟨dd, hdd⟩ : Dev nD) : Thread nD τ) (chunkV off inb') (.dma ss) hsc) (.dma sr) hsrc hdst hsem) k) Q := by
  obtain ⟨u1, u2, u3, u4, -⟩ := own_facts c
  exact send_chunk m ρ u1 u2.symm (Fin.ext hd) (hoff.trans (by rw [u4])) hss (hsr.trans (by rw [u4])) ⟨u3, by rw [u4]; exact lo_even c⟩ h

/-- Sending the own chunk to the left. -/
theorem own_left {off : Fin 3 → ℕ} {inb inb'} {dd : ℕ} {hdd : dd < nD} {ss sr : DmaSem sig}
    {hsc : (chunkV off inb').view.ref.isScScratch = false} {hsrc : (chunkV off inb).view.WordExact} {hdst : (chunkV off inb').view.WordExact}
    {hsem : DmaTarget.Typed .vmem (.dma sr) (.remote (Dev.tc (⟨dd, hdd⟩ : Dev nD) : Thread nD τ) (chunkV off inb') (.dma ss) hsc)}
    {k : PUnit → Prog (TpuEff nD τ sig (Elt F) Λ₀ .tc) α} (hoff : off = ![(lo c).val, 0, 0]) (hd : dd = (tgt c (jPl (zF c))).val)
    (hss : ss = ssem (jPl (zF c))) (hsr : sr = rsem (lo c)) (h : iprop(St m ρ c 8 ∗ R) ⊢ Runs c (k ⟨⟩) Q) :
    iprop(St m ρ c 7 ∗ R) ⊢ Runs c
      (.op (.enqueueDma (chunkV off inb) (.remote (Dev.tc (⟨dd, hdd⟩ : Dev nD) : Thread nD τ) (chunkV off inb') (.dma ss) hsc) (.dma sr) hsrc hdst hsem) k) Q := by
  obtain ⟨-, -, -, -, u1, u2, u3, u4, -⟩ := own_facts c
  exact send_chunk m ρ u1 u2.symm (Fin.ext hd) (hoff.trans (by rw [u4])) hss (hsr.trans (by rw [u4])) ⟨u3, by rw [u4]; exact lo_even c⟩ h

/-! ## A place of the column -/

/-- The start of a place: its chunk arrives and leaves for the right. -/
theorem col_start (i : Fin 6) (hi : here c i = true) {off : Fin 3 → ℕ} {inb inb' inb1 inb2} {dd : ℕ} {hdd : dd < nD} {sem ss sr : DmaSem sig}
    {hsrc1 : (chunkV off inb1).view.WordExact} {hdst1 : (chunkV off inb2).view.WordExact}
    {hsc : (chunkV off inb').view.ref.isScScratch = false} {hsrc : (chunkV off inb).view.WordExact} {hdst : (chunkV off inb').view.WordExact}
    {hsem : DmaTarget.Typed .vmem (.dma sr) (.remote (Dev.tc (⟨dd, hdd⟩ : Dev nD) : Thread nD τ) (chunkV off inb') (.dma ss) hsc)}
    {k : Prog (TpuEff nD τ sig (Elt F) Λ₀ .tc) α} (hs : sem = rsem (lo (kP c i))) (hoff : off = ![(lo (kP c i)).val, 0, 0]) (hd : dd = (tgt c (kR c i)).val)
    (hss : ss = ssem (kR c i)) (hsr : sr = rsem (lo (kP c i))) (h : iprop(St m ρ c (11 + 4 * i.val) ∗ R) ⊢ Runs c k Q) :
    iprop(St m ρ c (9 + 4 * i.val) ∗ R) ⊢ Runs c (.op (.waitDma2 sem (chunkV off inb1) (chunkV off inb2) hsrc1 hdst1) fun _ =>
      .op (.enqueueDma (chunkV off inb) (.remote (Dev.tc (⟨dd, hdd⟩ : Dev nD) : Thread nD τ) (chunkV off inb') (.dma ss) hsc) (.dma sr) hsrc hdst hsem) fun _ => k) Q := by
  obtain ⟨f1, f2, f3, -⟩ := col_facts c i hi
  obtain ⟨u1, u2, u3, u4, -⟩ := col_sends c i hi
  refine wait_recv m ρ f1 f2.symm hs (chunk_credit f3) ?_
  rw [show 9 + 4 * i.val + 1 = 10 + 4 * i.val by omega]
  refine send_chunk m ρ u1 u2.symm (Fin.ext hd) (hoff.trans (by rw [u4])) hss (hsr.trans (by rw [u4])) ⟨u3, by rw [u4]; exact lo_even _⟩ ?_
  rw [show 10 + 4 * i.val + 1 = 11 + 4 * i.val by omega]; exact h

/-- A place: its chunk arrives, leaves for both sides, and gives its rows; or there is none. -/
theorem col_place (i : Fin 6) {cond : Prop} [Decidable cond] {off off' : Fin 3 → ℕ} {offO : Fin 2 → ℕ}
    {inb inb' : cond → ∀ a, off a + S2x64x2048.size a ≤ S32x64x2048.size a} {inb1 : cond → ∀ a, off' a + S2x64x2048.size a ≤ S32x64x2048.size a}
    {inb2} {inb3 inb4 : cond → ∀ a, offO a + S128x128.size a ≤ S2048x128.size a} {dd : ℕ} {hdd : cond → dd < nD} {ss sr : cond → DmaSem sig}
    {first : cond → Prog (TpuEff nD τ sig (Elt F) Λ₀ .tc) (BitVec 32)}
    {hsc : ∀ h, (chunkV off (inb' h)).view.ref.isScScratch = false} {hsrc : ∀ h, (chunkV off (inb h)).view.WordExact}
    {hdst : ∀ h, (chunkV off (inb' h)).view.WordExact}
    {hsem : ∀ h, DmaTarget.Typed .vmem (.dma (sr h)) (.remote (Dev.tc (⟨dd, hdd h⟩ : Dev nD) : Thread nD τ) (chunkV off (inb' h)) (.dma (ss h)) (hsc h))}
    {hl1 : ∀ h, rM.view.LoadsAt (Rect.unit (s := S32x64x2048) off' S2x64x2048.size (inb1 h)).toLoadRect}
    {hl2 : cond → wM.view.LoadsAt (Rect.unit (s := S2048x128) ![0, 0] S2048x128.size inb2).toLoadRect}
    {hl3 : ∀ h, oM.view.LoadsAt (Rect.unit (s := S2048x128) offO S128x128.size (inb3 h)).toLoadRect}
    {hst : ∀ h, (oM.access (Rect.unit (s := S2048x128) offO S128x128.size (inb4 h)) : View sig .tc _ _ _).Stores Finset.univ}
    {hm : ∀ h, (Finset.univ : Finset (Rect.unit (s := S2048x128) offO S128x128.size (inb4 h)).shape.Idx) = Finset.univ
      ∨ ∀ a, (Rect.unit (s := S2048x128) offO S128x128.size (inb4 h)).stride a = 1}
    {pay : Vec F S2x64x2048 .f32 → Vec F S2048x128 .f32 → Vec F S128x128 .f32} {rest : Prog (TpuEff nD τ sig (Elt F) Λ₀ .tc) α}
    (hi : cond ↔ here c i = true)
    (hfirst : ∀ h (Q' : BitVec 32 → sProp 𝕄), (∀ w, iprop(St m ρ c (11 + 4 * i.val) ∗ R) ⊢ Q' w) → iprop(St m ρ c (9 + 4 * i.val) ∗ R) ⊢ Runs c (first h) Q')
    (hoff : cond → off = ![(lo (kP c i)).val, 0, 0]) (hoff' : cond → off' = ![(lo (kP c i)).val, 0, 0]) (hoffO : cond → offO = ![128 * (kP c i).val, 0])
    (hd : cond → dd = (tgt c (kL c i)).val) (hss : ∀ h, ss h = ssem (kL c i)) (hsr : ∀ h, sr h = rsem (lo (kP c i)))
    (hw : ∀ a b, pay a b = rows128 a b) (ht : t = 9 + 4 * i.val)
    (h : iprop(St m ρ c (t + 4) ∗ R) ⊢ Runs c rest Q) :
    iprop(St m ρ c t ∗ R) ⊢ Runs c (if h : cond then
      (first h >>= fun _ => .op (.enqueueDma (chunkV off (inb h)) (.remote (Dev.tc (⟨dd, hdd h⟩ : Dev nD) : Thread nD τ) (chunkV off (inb' h)) (.dma (ss h)) (hsc h)) (.dma (sr h))
        (hsrc h) (hdst h) (hsem h)) fun _ =>
      .op (.load rM (Rect.unit (s := S32x64x2048) off' S2x64x2048.size (inb1 h)).toLoadRect (hl1 h)) fun a =>
      .op (.load wM (Rect.unit (s := S2048x128) ![0, 0] S2048x128.size inb2).toLoadRect (hl2 h)) fun b =>
      .op (.load oM (Rect.unit (s := S2048x128) offO S128x128.size (inb3 h)).toLoadRect (hl3 h)) fun _ =>
      .op (.store oM (Rect.unit (s := S2048x128) offO S128x128.size (inb4 h)) (pay a b) Finset.univ (hst h) (hm h)) fun _ => rest) else rest) Q := by
  subst ht
  rw [show 9 + 4 * i.val + 4 = 13 + 4 * i.val by omega] at h
  refine branch (fun hc => ?_) (fun hn => ?_)
  · obtain ⟨f1, f2, f3, f4, f5, f6⟩ := col_facts c i (hi.mp hc)
    obtain ⟨-, -, -, -, u1, u2, u3, u4⟩ := col_sends c i (hi.mp hc)
    refine seq (hfirst hc _ fun w => ?_)
    refine send_chunk m ρ u1 u2.symm (Fin.ext (hd hc)) ((hoff hc).trans (by rw [u4])) (hss hc) ((hsr hc).trans (by rw [u4])) ⟨u3, by rw [u4]; exact lo_even _⟩ ?_
    rw [show 11 + 4 * i.val + 1 = 12 + 4 * i.val by omega]
    refine load_chunk m ρ (hoff' hc) f4 (.inr f6) ?_
    refine load_w m ρ ?_
    refine load_out m ρ fun _ => ?_
    refine store_128 m ρ (hoffO hc) f4 f5.symm (hw _ _) ?_
    rw [show 12 + 4 * i.val + 1 = 13 + 4 * i.val by omega]; exact h
  · rw [← St_congr m ρ (col_skip c i (by simpa using fun h' => hn (hi.mpr h')))]; exact h

/-! ## A round of the sides -/

/-- The chunk of the left neighbour's column arrives. -/
theorem left_recv (r : Fin 4) {inb inb1 inb2}
    {hsrc : (chunkV (k0_off49 c (w1 r) (w2 r) (w3 r) (w4 r) 3#32) inb1).view.WordExact} {hdst : (chunkV (k0_off49 c (w1 r) (w2 r) (w3 r) (w4 r) 3#32) inb2).view.WordExact} {k : PUnit → Prog (TpuEff nD τ sig (Elt F) Λ₀ .tc) α}
    (ht : t = 33 + 6 * r.val) (h : iprop(St m ρ c (t + 1) ∗ R) ⊢ Runs c (k ⟨⟩) Q) :
    iprop(St m ρ c t ∗ R) ⊢ Runs c (.op (.waitDma2 ((cc0_scratch1.slice (Rect.unit (s := S32) (k0_off48 c (w1 r) (w2 r) (w3 r) (w4 r) 3#32) S1.size inb)).squeeze S_ squeezes_S1_S_).sem
      (chunkV (k0_off49 c (w1 r) (w2 r) (w3 r) (w4 r) 3#32) inb1) (chunkV (k0_off49 c (w1 r) (w2 r) (w3 r) (w4 r) 3#32) inb2) hsrc hdst) k) Q := by
  obtain ⟨f1, f2, f3, -⟩ := left_facts c r
  exact wait_recv m ρ f1 (ht.trans f2.symm) (arg4_sem (off_left c r).1) (chunk_credit f3) h

/-- A half of it leaves for the other side. -/
theorem left_send (r : Fin 4) {inb inb' inb1 inb2} {dd : ℕ} {hdd : dd < nD}
    {hsc : (halfV (k0_off51 c (w1 r) (w2 r) (w3 r) (w4 r) 3#32) inb').view.ref.isScScratch = false} {hsrc : (halfV (k0_off51 c (w1 r) (w2 r) (w3 r) (w4 r) 3#32) inb).view.WordExact}
    {hdst : (halfV (k0_off51 c (w1 r) (w2 r) (w3 r) (w4 r) 3#32) inb').view.WordExact}
    {hsem : DmaTarget.Typed .vmem (.dma ((cc0_scratch1.slice (Rect.unit (s := S32) (k0_off48 c (w1 r) (w2 r) (w3 r) (w4 r) 3#32) S1.size inb2)).squeeze S_ squeezes_S1_S_).sem)
      (.remote (Dev.tc (⟨dd, hdd⟩ : Dev nD) : Thread nD τ) (halfV (k0_off51 c (w1 r) (w2 r) (w3 r) (w4 r) 3#32) inb')
      (.dma ((cc0_scratch5.slice (Rect.unit (s := S4) (k0_off50 c (w1 r) (w2 r) (w3 r) (w4 r)) S1.size inb1)).squeeze S_ squeezes_S1_S_).sem) hsc)}
    {k : PUnit → Prog (TpuEff nD τ sig (Elt F) Λ₀ .tc) α} (hd : dd = (tgt c (jDr (ordZ c r))).val) (ht : t = 34 + 6 * r.val) (h : iprop(St m ρ c (t + 1) ∗ R) ⊢ Runs c (k ⟨⟩) Q) :
    iprop(St m ρ c t ∗ R) ⊢ Runs c
      (.op (.enqueueDma (halfV (k0_off51 c (w1 r) (w2 r) (w3 r) (w4 r) 3#32) inb) (.remote (Dev.tc (⟨dd, hdd⟩ : Dev nD) : Thread nD τ) (halfV (k0_off51 c (w1 r) (w2 r) (w3 r) (w4 r) 3#32) inb')
        (.dma ((cc0_scratch5.slice (Rect.unit (s := S4) (k0_off50 c (w1 r) (w2 r) (w3 r) (w4 r)) S1.size inb1)).squeeze S_ squeezes_S1_S_).sem) hsc)
        (.dma ((cc0_scratch1.slice (Rect.unit (s := S32) (k0_off48 c (w1 r) (w2 r) (w3 r) (w4 r) 3#32) S1.size inb2)).squeeze S_ squeezes_S1_S_).sem) hsrc hdst hsem) k) Q := by
  obtain ⟨u1, u2, u3, u4⟩ := left_sends c r
  obtain ⟨o1, o2, o3, o4, o5, o6⟩ := off_left c r
  exact send_half m ρ u1 (ht.trans u2.symm) (Fin.ext hd) (o4.trans (by rw [u4])) (arg8_sem o3) ((arg4_sem o1).trans (by rw [u4])) u3 h

/-- The chunk is read. -/
theorem left_load (r : Fin 4) {inb} {hl : rM.view.LoadsAt (Rect.unit (s := S32x64x2048) (k0_off52 c (w1 r) (w2 r) (w3 r) (w4 r) 3#32) S2x64x2048.size inb).toLoadRect}
    {k : Vec F S2x64x2048 .f32 → Prog (TpuEff nD τ sig (Elt F) Λ₀ .tc) α} (ht : t = 35 + 6 * r.val)
    (h : iprop(St m ρ c t ∗ R) ⊢ Runs c (k (chunkOf (gath m ρ) (lP c r))) Q) :
    iprop(St m ρ c t ∗ R) ⊢ Runs c (.op (.load rM (Rect.unit (s := S32x64x2048) (k0_off52 c (w1 r) (w2 r) (w3 r) (w4 r) 3#32) S2x64x2048.size inb).toLoadRect hl) k) Q := by
  obtain ⟨-, -, -, f4, -, f6⟩ := left_facts c r
  exact load_chunk m ρ (off_left c r).2.2.2.2.1 f4 (.inr (ht ▸ f6)) h

/-- Its rows are written. -/
theorem left_store (r : Fin 4) {inb} {w : Vec F S128x128 .f32}
    {hs : (oM.access (Rect.unit (s := S2048x128) (k0_off53 c (w1 r) (w2 r) (w3 r) (w4 r) 3#32) S128x128.size inb) : View sig .tc _ _ _).Stores Finset.univ} {hm}
    {k : PUnit → Prog (TpuEff nD τ sig (Elt F) Λ₀ .tc) α} (ht : t = 35 + 6 * r.val) (hw : w = rows128 (chunkOf (gath m ρ) (lP c r)) (wstg m ρ c))
    (h : iprop(St m ρ c (t + 1) ∗ R) ⊢ Runs c (k ⟨⟩) Q) :
    iprop(St m ρ c t ∗ R) ⊢ Runs c (.op (.store oM (Rect.unit (s := S2048x128) (k0_off53 c (w1 r) (w2 r) (w3 r) (w4 r) 3#32) S128x128.size inb) w Finset.univ hs hm) k) Q := by
  obtain ⟨-, -, -, f4, f5, -⟩ := left_facts c r
  exact store_128 m ρ (off_left c r).2.2.2.2.2 f4 (ht.trans f5.symm) hw h

/-- The chunk of the right neighbour's column arrives. -/
theorem right_recv (r : Fin 4) {inb inb1 inb2}
    {hsrc : (chunkV (k0_off49 c (w1 r) (w2 r) (w3 r) (w4 r) 1#32) inb1).view.WordExact} {hdst : (chunkV (k0_off49 c (w1 r) (w2 r) (w3 r) (w4 r) 1#32) inb2).view.WordExact} {k : PUnit → Prog (TpuEff nD τ sig (Elt F) Λ₀ .tc) α}
    (ht : t = 36 + 6 * r.val) (h : iprop(St m ρ c (t + 1) ∗ R) ⊢ Runs c (k ⟨⟩) Q) :
    iprop(St m ρ c t ∗ R) ⊢ Runs c (.op (.waitDma2 ((cc0_scratch1.slice (Rect.unit (s := S32) (k0_off48 c (w1 r) (w2 r) (w3 r) (w4 r) 1#32) S1.size inb)).squeeze S_ squeezes_S1_S_).sem
      (chunkV (k0_off49 c (w1 r) (w2 r) (w3 r) (w4 r) 1#32) inb1) (chunkV (k0_off49 c (w1 r) (w2 r) (w3 r) (w4 r) 1#32) inb2) hsrc hdst) k) Q := by
  obtain ⟨f1, f2, f3, -⟩ := right_facts c r
  exact wait_recv m ρ f1 (ht.trans f2.symm) (arg4_sem (off_right c r).1) (chunk_credit f3) h

/-- A half of it leaves for the other side. -/
theorem right_send (r : Fin 4) {inb inb' inb1 inb2} {dd : ℕ} {hdd : dd < nD}
    {hsc : (halfV (k0_off55 c (w1 r) (w2 r) (w3 r) (w4 r) 1#32) inb').view.ref.isScScratch = false} {hsrc : (halfV (k0_off55 c (w1 r) (w2 r) (w3 r) (w4 r) 1#32) inb).view.WordExact}
    {hdst : (halfV (k0_off55 c (w1 r) (w2 r) (w3 r) (w4 r) 1#32) inb').view.WordExact}
    {hsem : DmaTarget.Typed .vmem (.dma ((cc0_scratch1.slice (Rect.unit (s := S32) (k0_off54 c (w1 r) (w2 r) (w3 r) (w4 r) 1#32) S1.size inb2)).squeeze S_ squeezes_S1_S_).sem)
      (.remote (Dev.tc (⟨dd, hdd⟩ : Dev nD) : Thread nD τ) (halfV (k0_off55 c (w1 r) (w2 r) (w3 r) (w4 r) 1#32) inb')
      (.dma ((cc0_scratch6.slice (Rect.unit (s := S4) (k0_off50 c (w1 r) (w2 r) (w3 r) (w4 r)) S1.size inb1)).squeeze S_ squeezes_S1_S_).sem) hsc)}
    {k : PUnit → Prog (TpuEff nD τ sig (Elt F) Λ₀ .tc) α} (hd : dd = (tgt c (jDl (ordZ c r))).val) (ht : t = 37 + 6 * r.val) (h : iprop(St m ρ c (t + 1) ∗ R) ⊢ Runs c (k ⟨⟩) Q) :
    iprop(St m ρ c t ∗ R) ⊢ Runs c
      (.op (.enqueueDma (halfV (k0_off55 c (w1 r) (w2 r) (w3 r) (w4 r) 1#32) inb) (.remote (Dev.tc (⟨dd, hdd⟩ : Dev nD) : Thread nD τ) (halfV (k0_off55 c (w1 r) (w2 r) (w3 r) (w4 r) 1#32) inb')
        (.dma ((cc0_scratch6.slice (Rect.unit (s := S4) (k0_off50 c (w1 r) (w2 r) (w3 r) (w4 r)) S1.size inb1)).squeeze S_ squeezes_S1_S_).sem) hsc)
        (.dma ((cc0_scratch1.slice (Rect.unit (s := S32) (k0_off54 c (w1 r) (w2 r) (w3 r) (w4 r) 1#32) S1.size inb2)).squeeze S_ squeezes_S1_S_).sem) hsrc hdst hsem) k) Q := by
  obtain ⟨u1, u2, u3, u4⟩ := right_sends c r
  obtain ⟨o1, o2, o3, o4, o5, o6⟩ := off_right c r
  exact send_half m ρ u1 (ht.trans u2.symm) (Fin.ext hd) (o4.trans (by rw [u4])) (arg9_sem (off_left c r).2.2.1) ((arg4_sem o3).trans (by rw [u4])) u3 h

/-- The chunk is read. -/
theorem right_load (r : Fin 4) {inb} {hl : rM.view.LoadsAt (Rect.unit (s := S32x64x2048) (k0_off52 c (w1 r) (w2 r) (w3 r) (w4 r) 1#32) S2x64x2048.size inb).toLoadRect}
    {k : Vec F S2x64x2048 .f32 → Prog (TpuEff nD τ sig (Elt F) Λ₀ .tc) α} (ht : t = 38 + 6 * r.val)
    (h : iprop(St m ρ c t ∗ R) ⊢ Runs c (k (chunkOf (gath m ρ) (rP c r))) Q) :
    iprop(St m ρ c t ∗ R) ⊢ Runs c (.op (.load rM (Rect.unit (s := S32x64x2048) (k0_off52 c (w1 r) (w2 r) (w3 r) (w4 r) 1#32) S2x64x2048.size inb).toLoadRect hl) k) Q := by
  obtain ⟨-, -, -, f4, -, f6⟩ := right_facts c r
  exact load_chunk m ρ (off_right c r).2.2.2.2.1 f4 (.inr (ht ▸ f6)) h

/-- Its rows are written. -/
theorem right_store (r : Fin 4) {inb} {w : Vec F S128x128 .f32}
    {hs : (oM.access (Rect.unit (s := S2048x128) (k0_off53 c (w1 r) (w2 r) (w3 r) (w4 r) 1#32) S128x128.size inb) : View sig .tc _ _ _).Stores Finset.univ} {hm}
    {k : PUnit → Prog (TpuEff nD τ sig (Elt F) Λ₀ .tc) α} (ht : t = 38 + 6 * r.val) (hw : w = rows128 (chunkOf (gath m ρ) (rP c r)) (wstg m ρ c))
    (h : iprop(St m ρ c (t + 1) ∗ R) ⊢ Runs c (k ⟨⟩) Q) :
    iprop(St m ρ c t ∗ R) ⊢ Runs c (.op (.store oM (Rect.unit (s := S2048x128) (k0_off53 c (w1 r) (w2 r) (w3 r) (w4 r) 1#32) S128x128.size inb) w Finset.univ hs hm) k) Q := by
  obtain ⟨-, -, -, f4, f5, -⟩ := right_facts c r
  exact store_128 m ρ (off_right c r).2.2.2.2.2 f4 (ht.trans f5.symm) hw h

/-! ## A round of the opposite column -/

/-- The even half of the chunk of the opposite column arrives. -/
theorem even_recv (r : Fin 4) {inb inb1 inb2}
    {hsrc : (halfV (k0_off51 c (w1 r) (w2 r) (w3 r) (w4 r) 2#32) inb1).view.WordExact} {hdst : (halfV (k0_off51 c (w1 r) (w2 r) (w3 r) (w4 r) 2#32) inb2).view.WordExact} {k : PUnit → Prog (TpuEff nD τ sig (Elt F) Λ₀ .tc) α}
    (ht : t = 57 + 4 * r.val) (h : iprop(St m ρ c (t + 1) ∗ R) ⊢ Runs c (k ⟨⟩) Q) :
    iprop(St m ρ c t ∗ R) ⊢ Runs c (.op (.waitDma2 ((cc0_scratch1.slice (Rect.unit (s := S32) (k0_off48 c (w1 r) (w2 r) (w3 r) (w4 r) 2#32) S1.size inb)).squeeze S_ squeezes_S1_S_).sem
      (halfV (k0_off51 c (w1 r) (w2 r) (w3 r) (w4 r) 2#32) inb1) (halfV (k0_off51 c (w1 r) (w2 r) (w3 r) (w4 r) 2#32) inb2) hsrc hdst) k) Q := by
  obtain ⟨f1, f2, f3, -⟩ := even_facts c r
  exact wait_recv m ρ f1 (ht.trans f2.symm) (arg4_sem (off_even c r).1) (half_credit f3) h

/-- It is read. -/
theorem even_load (r : Fin 4) {inb} {hl : rM.view.LoadsAt (Rect.unit (s := S32x64x2048) (k0_off56 c (w1 r) (w2 r) (w3 r) (w4 r)) S1x64x2048.size inb).toLoadRect}
    {k : Vec F S1x64x2048 .f32 → Prog (TpuEff nD τ sig (Elt F) Λ₀ .tc) α} (ht : t = 58 + 4 * r.val)
    (h : iprop(St m ρ c t ∗ R) ⊢ Runs c (k (halfOf (gath m ρ) (lo (dP c r)))) Q) :
    iprop(St m ρ c t ∗ R) ⊢ Runs c (.op (.load rM (Rect.unit (s := S32x64x2048) (k0_off56 c (w1 r) (w2 r) (w3 r) (w4 r)) S1x64x2048.size inb).toLoadRect hl) k) Q := by
  obtain ⟨-, -, -, f4, -, f6⟩ := even_facts c r
  exact load_half m ρ (off_even c r).2.2.1 f4 (ht ▸ f6) h

/-- Its rows are written. -/
theorem even_store (r : Fin 4) {inb} {w : Vec F S64x128 .f32}
    {hs : (oM.access (Rect.unit (s := S2048x128) (k0_off57 c (w1 r) (w2 r) (w3 r) (w4 r)) S64x128.size inb) : View sig .tc _ _ _).Stores Finset.univ} {hm}
    {k : PUnit → Prog (TpuEff nD τ sig (Elt F) Λ₀ .tc) α} (ht : t = 58 + 4 * r.val) (hw : w = rows64 (halfOf (gath m ρ) (lo (dP c r))) (wstg m ρ c))
    (h : iprop(St m ρ c (t + 1) ∗ R) ⊢ Runs c (k ⟨⟩) Q) :
    iprop(St m ρ c t ∗ R) ⊢ Runs c (.op (.store oM (Rect.unit (s := S2048x128) (k0_off57 c (w1 r) (w2 r) (w3 r) (w4 r)) S64x128.size inb) w Finset.univ hs hm) k) Q := by
  obtain ⟨-, -, -, f4, f5, -⟩ := even_facts c r
  exact store_64 m ρ (off_even c r).2.2.2 f4 (ht.trans f5.symm) hw h

/-- The odd half of the chunk of the opposite column arrives. -/
theorem odd_recv (r : Fin 4) {inb inb1 inb2}
    {hsrc : (halfV (k0_off55 c (w1 r) (w2 r) (w3 r) (w4 r) 2#32) inb1).view.WordExact} {hdst : (halfV (k0_off55 c (w1 r) (w2 r) (w3 r) (w4 r) 2#32) inb2).view.WordExact} {k : PUnit → Prog (TpuEff nD τ sig (Elt F) Λ₀ .tc) α}
    (ht : t = 59 + 4 * r.val) (h : iprop(St m ρ c (t + 1) ∗ R) ⊢ Runs c (k ⟨⟩) Q) :
    iprop(St m ρ c t ∗ R) ⊢ Runs c (.op (.waitDma2 ((cc0_scratch1.slice (Rect.unit (s := S32) (k0_off54 c (w1 r) (w2 r) (w3 r) (w4 r) 2#32) S1.size inb)).squeeze S_ squeezes_S1_S_).sem
      (halfV (k0_off55 c (w1 r) (w2 r) (w3 r) (w4 r) 2#32) inb1) (halfV (k0_off55 c (w1 r) (w2 r) (w3 r) (w4 r) 2#32) inb2) hsrc hdst) k) Q := by
  obtain ⟨f1, f2, f3, -⟩ := odd_facts c r
  exact wait_recv m ρ f1 (ht.trans f2.symm) (arg4_sem (off_odd c r).1) (half_credit f3) h

/-- It is read. -/
theorem odd_load (r : Fin 4) {inb} {hl : rM.view.LoadsAt (Rect.unit (s := S32x64x2048) (k0_off58 c (w1 r) (w2 r) (w3 r) (w4 r)) S1x64x2048.size inb).toLoadRect}
    {k : Vec F S1x64x2048 .f32 → Prog (TpuEff nD τ sig (Elt F) Λ₀ .tc) α} (ht : t = 60 + 4 * r.val)
    (h : iprop(St m ρ c t ∗ R) ⊢ Runs c (k (halfOf (gath m ρ) (hi (dP c r)))) Q) :
    iprop(St m ρ c t ∗ R) ⊢ Runs c (.op (.load rM (Rect.unit (s := S32x64x2048) (k0_off58 c (w1 r) (w2 r) (w3 r) (w4 r)) S1x64x2048.size inb).toLoadRect hl) k) Q := by
  obtain ⟨-, -, -, f4, -, f6⟩ := odd_facts c r
  exact load_half m ρ (off_odd c r).2.2.1 f4 (ht ▸ f6) h

/-- Its rows are written. -/
theorem odd_store (r : Fin 4) {inb} {w : Vec F S64x128 .f32}
    {hs : (oM.access (Rect.unit (s := S2048x128) (k0_off59 c (w1 r) (w2 r) (w3 r) (w4 r)) S64x128.size inb) : View sig .tc _ _ _).Stores Finset.univ} {hm}
    {k : PUnit → Prog (TpuEff nD τ sig (Elt F) Λ₀ .tc) α} (ht : t = 60 + 4 * r.val) (hw : w = rows64 (halfOf (gath m ρ) (hi (dP c r))) (wstg m ρ c))
    (h : iprop(St m ρ c (t + 1) ∗ R) ⊢ Runs c (k ⟨⟩) Q) :
    iprop(St m ρ c t ∗ R) ⊢ Runs c (.op (.store oM (Rect.unit (s := S2048x128) (k0_off59 c (w1 r) (w2 r) (w3 r) (w4 r)) S64x128.size inb) w Finset.univ hs hm) k) Q := by
  obtain ⟨-, -, -, f4, f5, -⟩ := odd_facts c r
  exact store_64 m ρ (off_odd c r).2.2.2 f4 (ht.trans f5.symm) hw h

/-! ## The waits for the sends -/

/-- Waiting for a send along the column to have left, if it was made. -/
theorem up_gone (i : Fin 6) {cond : Prop} [Decidable cond] {off : Fin 3 → ℕ} {inb inb' : cond → ∀ a, off a + S2x64x2048.size a ≤ S32x64x2048.size a} {ss : DmaSem sig}
    {hsrc : ∀ h, (chunkV off (inb h)).view.WordExact} {hdst : ∀ h, (chunkV off (inb' h)).view.WordExact} {rest : Prog (TpuEff nD τ sig (Elt F) Λ₀ .tc) α}
    (hi : cond ↔ here c i = true) (hss : ss = ssem (zJ i)) (ht : t = 73 + i.val) (h : iprop(St m ρ c (t + 1) ∗ R) ⊢ Runs c rest Q) :
    iprop(St m ρ c t ∗ R) ⊢ Runs c (if h : cond then
      (.op (.waitDma2 ss (chunkV off (inb h)) (chunkV off (inb' h)) (hsrc h) (hdst h)) fun _ => rest) else rest) Q := by
  refine branch (fun hc => ?_) (fun hn => ?_)
  · obtain ⟨u1, -, u3, -, u5⟩ := up_facts c i (hi.mp hc)
    exact wait_send m ρ u1 (ht.trans u5.symm) hss (chunk_credit u3) h
  · subst ht
    rw [← St_congr m ρ (up_skip c i (by simpa using fun h' => hn (hi.mpr h'))).2]; exact h

/-- Waiting for the send to the right to have left. -/
theorem pr_gone (z : Fin 4) {off : Fin 3 → ℕ} {inb inb'} {ss : DmaSem sig}
    {hsrc : (chunkV off inb).view.WordExact} {hdst : (chunkV off inb').view.WordExact} {k : PUnit → Prog (TpuEff nD τ sig (Elt F) Λ₀ .tc) α}
    (hss : ss = ssem (jPr z)) (ht : t = 79 + 4 * z.val) (h : iprop(St m ρ c (t + 1) ∗ R) ⊢ Runs c (k ⟨⟩) Q) :
    iprop(St m ρ c t ∗ R) ⊢ Runs c (.op (.waitDma2 ss (chunkV off inb) (chunkV off inb') hsrc hdst) k) Q := by
  obtain ⟨o1, o2, o3, o4, e1, e2, e3, e4, b1, b2, b3, b4⟩ := gone_facts c z
  exact wait_send m ρ o1 (ht.trans e1.symm) hss (chunk_credit b1) h

/-- Waiting for the send to the left to have left. -/
theorem pl_gone (z : Fin 4) {off : Fin 3 → ℕ} {inb inb'} {ss : DmaSem sig}
    {hsrc : (chunkV off inb).view.WordExact} {hdst : (chunkV off inb').view.WordExact} {k : PUnit → Prog (TpuEff nD τ sig (Elt F) Λ₀ .tc) α}
    (hss : ss = ssem (jPl z)) (ht : t = 80 + 4 * z.val) (h : iprop(St m ρ c (t + 1) ∗ R) ⊢ Runs c (k ⟨⟩) Q) :
    iprop(St m ρ c t ∗ R) ⊢ Runs c (.op (.waitDma2 ss (chunkV off inb) (chunkV off inb') hsrc hdst) k) Q := by
  obtain ⟨o1, o2, o3, o4, e1, e2, e3, e4, b1, b2, b3, b4⟩ := gone_facts c z
  exact wait_send m ρ o2 (ht.trans e2.symm) hss (chunk_credit b2) h

/-- Waiting for the send of a half to the right to have left. -/
theorem dr_gone (z : Fin 4) {off : Fin 3 → ℕ} {inb inb'} {ss : DmaSem sig}
    {hsrc : (halfV off inb).view.WordExact} {hdst : (halfV off inb').view.WordExact} {k : PUnit → Prog (TpuEff nD τ sig (Elt F) Λ₀ .tc) α}
    (hss : ss = ssem (jDr z)) (ht : t = 81 + 4 * z.val) (h : iprop(St m ρ c (t + 1) ∗ R) ⊢ Runs c (k ⟨⟩) Q) :
    iprop(St m ρ c t ∗ R) ⊢ Runs c (.op (.waitDma2 ss (halfV off inb) (halfV off inb') hsrc hdst) k) Q := by
  obtain ⟨o1, o2, o3, o4, e1, e2, e3, e4, b1, b2, b3, b4⟩ := gone_facts c z
  exact wait_send m ρ o3 (ht.trans e3.symm) hss (half_credit b3) h

/-- Waiting for the send of a half to the left to have left. -/
theorem dl_gone (z : Fin 4) {off : Fin 3 → ℕ} {inb inb'} {ss : DmaSem sig}
    {hsrc : (halfV off inb).view.WordExact} {hdst : (halfV off inb').view.WordExact} {k : PUnit → Prog (TpuEff nD τ sig (Elt F) Λ₀ .tc) α}
    (hss : ss = ssem (jDl z)) (ht : t = 82 + 4 * z.val) (h : iprop(St m ρ c (t + 1) ∗ R) ⊢ Runs c (k ⟨⟩) Q) :
    iprop(St m ρ c t ∗ R) ⊢ Runs c (.op (.waitDma2 ss (halfV off inb) (halfV off inb') hsrc hdst) k) Q := by
  obtain ⟨o1, o2, o3, o4, e1, e2, e3, e4, b1, b2, b3, b4⟩ := gone_facts c z
  exact wait_send m ρ o4 (ht.trans e4.symm) hss (half_credit b4) h

end Cert.KernelIdeal.AG
-- ==== Proof.KernelIdeal.Parts1.lean ====
module

public import proofs.«01_k».proof.Proof.Clock
public import proofs.«01_k».proof.Proof.KernelIdeal.Ops

@[expose] public section

noncomputable section

/-!
# The body, part by part

Each printed part of the body takes the holdings at one time to the holdings at a later one.
-/

namespace Cert.KernelIdeal.AG

open Cert.KernelIdeal Cert.KernelIdeal.Gen AllGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

variable {c : Dev nD} {t : ℕ} {α : Type}
variable {R : sProp (MT nD τ sig Unit (Elt F) ℕ UU ℕ)} {Q : α → sProp (MT nD τ sig Unit (Elt F) ℕ UU ℕ)}
variable {hx : xM.IsWhole} {hw : wM.IsWhole} {ho : oM.IsWhole} {hr : rM.IsWhole}

attribute [local irreducible] k0_cond1 k0_cond2 k0_cond3 k0_cond4 k0_cond5 k0_cond6 k0_cond7 k0_cond8 k0_cond9 k0_cond10 k0_cond11 k0_cond12 k0_cond13 k0_cond14 k0_cond15 k0_cond16

/-- A device given by an equal number is near when the device is. -/
theorem show_near {d : Dev nD} {n : ℕ} {hn : n < nD} (h : n = d.val) (h' : near c d) : near c (⟨n, hn⟩ : Dev nD) := by
  subst h; exact h'
/-- A device given by an equal number is told at the same time. -/
theorem show_time {d : Dev nD} {n k : ℕ} {hn : n < nD} (h : n = d.val) (h' : tB c d = k) : tB c (⟨n, hn⟩ : Dev nD) = k := by
  subst h; exact h'

/-- Place 0 of the column, as far as the send to the right. -/
theorem part1_runs {v20 : BitVec 32} {v24 : BitVec 32} {v27 : BitVec 32} {v127 : BitVec 32} (k0_h11 : k0_cond11 c = 1#1) {Q : (BitVec 32) → sProp (MT nD τ sig Unit (Elt F) ℕ UU ℕ)}
    (h : ∀ w, iprop(St m ρ c 11 ∗ R) ⊢ Q w) :
    iprop(St m ρ c 9 ∗ R) ⊢ Runs c (k0_part1 xM hx wM hw oM ho rM hr cc0_scratch1 cc0_scratch2 cc0_scratch3 cc0_scratch4 cc0_scratch5 cc0_scratch6 c v20 v24 v27 v127 k0_h11) Q := by
  simp only [k0_part1_eq_skeleton]
  unfold k0_part1_skel
  simp only [semSignalWord, semWaitWord, Prog.lift, Prog.bind_op, Prog.bind_ret, Prog.pure_eq_ret, wp_deviceId]
  refine col_start m ρ 0 ((off_col0 c).1.mp k0_h11) (arg4_sem ((off_col0 c).2 k0_h11).1) ((off_col0 c).2 k0_h11).2.1 ((off_col0 c).2 k0_h11).2.2.2.1 (arg6_sem ((off_col0 c).2 k0_h11).2.2.1) (arg4_sem ((off_col0 c).2 k0_h11).1) ?_
  exact done_of (h _)

/-- Place 1 of the column, as far as the send to the right. -/
theorem part2_runs {v20 : BitVec 32} {v24 : BitVec 32} {v27 : BitVec 32} {v132 : BitVec 32} (k0_h12 : k0_cond12 c = 1#1) {Q : (BitVec 32) → sProp (MT nD τ sig Unit (Elt F) ℕ UU ℕ)}
    (h : ∀ w, iprop(St m ρ c 15 ∗ R) ⊢ Q w) :
    iprop(St m ρ c 13 ∗ R) ⊢ Runs c (k0_part2 xM hx wM hw oM ho rM hr cc0_scratch1 cc0_scratch2 cc0_scratch3 cc0_scratch4 cc0_scratch5 cc0_scratch6 c v20 v24 v27 v132 k0_h12) Q := by
  simp only [k0_part2_eq_skeleton]
  unfold k0_part2_skel
  simp only [semSignalWord, semWaitWord, Prog.lift, Prog.bind_op, Prog.bind_ret, Prog.pure_eq_ret, wp_deviceId]
  refine col_start m ρ 1 ((off_col1 c).1.mp k0_h12) (arg4_sem ((off_col1 c).2 k0_h12).1) ((off_col1 c).2 k0_h12).2.1 ((off_col1 c).2 k0_h12).2.2.2.1 (arg6_sem ((off_col1 c).2 k0_h12).2.2.1) (arg4_sem ((off_col1 c).2 k0_h12).1) ?_
  exact done_of (h _)

/-- Place 2 of the column, as far as the send to the right. -/
theorem part3_runs {v20 : BitVec 32} {v24 : BitVec 32} {v27 : BitVec 32} {v141 : BitVec 32} (k0_h13 : k0_cond13 c = 1#1) {Q : (BitVec 32) → sProp (MT nD τ sig Unit (Elt F) ℕ UU ℕ)}
    (h : ∀ w, iprop(St m ρ c 19 ∗ R) ⊢ Q w) :
    iprop(St m ρ c 17 ∗ R) ⊢ Runs c (k0_part3 xM hx wM hw oM ho rM hr cc0_scratch1 cc0_scratch2 cc0_scratch3 cc0_scratch4 cc0_scratch5 cc0_scratch6 c v20 v24 v27 v141 k0_h13) Q := by
  simp only [k0_part3_eq_skeleton]
  unfold k0_part3_skel
  simp only [semSignalWord, semWaitWord, Prog.lift, Prog.bind_op, Prog.bind_ret, Prog.pure_eq_ret, wp_deviceId]
  refine col_start m ρ 2 ((off_col2 c).1.mp k0_h13) (arg4_sem ((off_col2 c).2 k0_h13).1) ((off_col2 c).2 k0_h13).2.1 ((off_col2 c).2 k0_h13).2.2.2.1 (arg6_sem ((off_col2 c).2 k0_h13).2.2.1) (arg4_sem ((off_col2 c).2 k0_h13).1) ?_
  exact done_of (h _)

/-- Place 3 of the column, as far as the send to the right. -/
theorem part4_runs {v20 : BitVec 32} {v24 : BitVec 32} {v27 : BitVec 32} {v146 : BitVec 32} (k0_h14 : k0_cond14 c = 1#1) {Q : (BitVec 32) → sProp (MT nD τ sig Unit (Elt F) ℕ UU ℕ)}
    (h : ∀ w, iprop(St m ρ c 23 ∗ R) ⊢ Q w) :
    iprop(St m ρ c 21 ∗ R) ⊢ Runs c (k0_part4 xM hx wM hw oM ho rM hr cc0_scratch1 cc0_scratch2 cc0_scratch3 cc0_scratch4 cc0_scratch5 cc0_scratch6 c v20 v24 v27 v146 k0_h14) Q := by
  simp only [k0_part4_eq_skeleton]
  unfold k0_part4_skel
  simp only [semSignalWord, semWaitWord, Prog.lift, Prog.bind_op, Prog.bind_ret, Prog.pure_eq_ret, wp_deviceId]
  refine col_start m ρ 3 ((off_col3 c).1.mp k0_h14) (arg4_sem ((off_col3 c).2 k0_h14).1) ((off_col3 c).2 k0_h14).2.1 ((off_col3 c).2 k0_h14).2.2.2.1 (arg6_sem ((off_col3 c).2 k0_h14).2.2.1) (arg4_sem ((off_col3 c).2 k0_h14).1) ?_
  exact done_of (h _)

/-- Place 4 of the column, as far as the send to the right. -/
theorem part5_runs {v20 : BitVec 32} {v24 : BitVec 32} {v27 : BitVec 32} {v155 : BitVec 32} (k0_h15 : k0_cond15 c = 1#1) {Q : (BitVec 32) → sProp (MT nD τ sig Unit (Elt F) ℕ UU ℕ)}
    (h : ∀ w, iprop(St m ρ c 27 ∗ R) ⊢ Q w) :
    iprop(St m ρ c 25 ∗ R) ⊢ Runs c (k0_part5 xM hx wM hw oM ho rM hr cc0_scratch1 cc0_scratch2 cc0_scratch3 cc0_scratch4 cc0_scratch5 cc0_scratch6 c v20 v24 v27 v155 k0_h15) Q := by
  simp only [k0_part5_eq_skeleton]
  unfold k0_part5_skel
  simp only [semSignalWord, semWaitWord, Prog.lift, Prog.bind_op, Prog.bind_ret, Prog.pure_eq_ret, wp_deviceId]
  refine col_start m ρ 4 ((off_col4 c).1.mp k0_h15) (arg4_sem ((off_col4 c).2 k0_h15).1) ((off_col4 c).2 k0_h15).2.1 ((off_col4 c).2 k0_h15).2.2.2.1 (arg6_sem ((off_col4 c).2 k0_h15).2.2.1) (arg4_sem ((off_col4 c).2 k0_h15).1) ?_
  exact done_of (h _)

/-- Place 5 of the column, as far as the send to the right. -/
theorem part6_runs {v20 : BitVec 32} {v24 : BitVec 32} {v27 : BitVec 32} {v160 : BitVec 32} (k0_h16 : k0_cond16 c = 1#1) {Q : (BitVec 32) → sProp (MT nD τ sig Unit (Elt F) ℕ UU ℕ)}
    (h : ∀ w, iprop(St m ρ c 31 ∗ R) ⊢ Q w) :
    iprop(St m ρ c 29 ∗ R) ⊢ Runs c (k0_part6 xM hx wM hw oM ho rM hr cc0_scratch1 cc0_scratch2 cc0_scratch3 cc0_scratch4 cc0_scratch5 cc0_scratch6 c v20 v24 v27 v160 k0_h16) Q := by
  simp only [k0_part6_eq_skeleton]
  unfold k0_part6_skel
  simp only [semSignalWord, semWaitWord, Prog.lift, Prog.bind_op, Prog.bind_ret, Prog.pure_eq_ret, wp_deviceId]
  refine col_start m ρ 5 ((off_col5 c).1.mp k0_h16) (arg4_sem ((off_col5 c).2 k0_h16).1) ((off_col5 c).2 k0_h16).2.1 ((off_col5 c).2 k0_h16).2.2.2.1 (arg6_sem ((off_col5 c).2 k0_h16).2.2.1) (arg4_sem ((off_col5 c).2 k0_h16).1) ?_
  exact done_of (h _)

/-- The ready signals to both sides. -/
theorem part7_runs {Q : (Σ' (d0 : Dev nD) (v2 : BitVec 32) (v19 : BitVec 32) (v20 : BitVec 32) (v24 : BitVec 32) (v27 : BitVec 32) (v28 : Sems sig S_) (v33 : BitVec 32), BitVec 1) → sProp (MT nD τ sig Unit (Elt F) ℕ UU ℕ)}
    (h : ∀ v2 v19 v20 v24 v27 v33 v34, iprop(Pre m ρ c 2 ∗ R) ⊢ Q ⟨c, v2, v19, v20, v24, v27, SemArray.scalar (sig.barrier 0 rfl), v33, v34⟩) :
    iprop(Pre m ρ c 0 ∗ R) ⊢ Runs c (k0_part7 xM hx wM hw oM ho rM hr cc0_scratch1 cc0_scratch2 cc0_scratch3 cc0_scratch4 cc0_scratch5 cc0_scratch6 ) Q := by
  simp only [k0_part7_eq_skeleton]
  unfold k0_part7_skel
  simp only [semSignalWord, semWaitWord, Prog.lift, Prog.bind_op, Prog.bind_ret, Prog.pure_eq_ret, wp_deviceId]
  refine tell m ρ (d := ⟨k0_dev1 c, k0_dev1_lt c⟩) (show_near (dev_left c) (near_left c).1) (show_time (dev_left c) (near_left c).2).symm (by decide) ?_
  refine tell m ρ (d := ⟨k0_dev2 c, k0_dev2_lt c⟩) (show_near (dev_right c) (near_right c).1) (show_time (dev_right c) (near_right c).2).symm (by decide) ?_
  exact done_of (h _ _ _ _ _ _ _)

/-- The ready signals along the column, the barrier, and the own chunk put in its place. -/
theorem part8_runs {v2 : BitVec 32} {v19 : BitVec 32} {v20 : BitVec 32} {v33 : BitVec 32} {v34 : BitVec 1} {Q : (PUnit) → sProp (MT nD τ sig Unit (Elt F) ℕ UU ℕ)}
    (h : iprop(St m ρ c 1 ∗ atPos ER (bcell c) 1 ∅ 0 ∗ R) ⊢ Q ⟨⟩) :
    iprop(Pre m ρ c 2 ∗ R) ⊢ Runs c (k0_part8 xM hx wM hw oM ho rM hr cc0_scratch1 cc0_scratch2 cc0_scratch3 cc0_scratch4 cc0_scratch5 cc0_scratch6 c v2 v19 v20 (SemArray.scalar (sig.barrier 0 rfl)) v33 v34) Q := by
  simp only [k0_part8_eq_skeleton]
  unfold k0_part8_skel
  simp only [semSignalWord, semWaitWord, Prog.lift, Prog.bind_op, Prog.bind_ret, Prog.pure_eq_ret, wp_deviceId]
  refine tell_col m ρ 0 (told c).1 (dev_tell0 c) (by decide) rfl ?_
  refine tell_col m ρ 1 (told c).2.1 (dev_tell1 c) (by decide) rfl ?_
  refine tell_col m ρ 2 (told c).2.2.1 (dev_tell2 c) (by decide) rfl ?_
  refine tell_col m ρ 3 (told c).2.2.2 (dev_tell3 c) (by decide) rfl ?_
  refine hear m ρ (by decide) ?_
  refine load_x m ρ ?_
  refine load_own m ρ (off_own c).1 fun _ => ?_
  refine store_own m ρ (off_own c).1 rfl ?_
  refine send_up m ρ 0 (off_up0 c).1 (arg5_sem rfl rfl) (fun h => arg4_sem ((off_up0 c).2 h).1) (fun h => ((off_up0 c).2 h).2.1) (fun h => ((off_up0 c).2 h).2.2) rfl ?_
  exact done_of h

/-- The own chunk leaves. -/
theorem part9_runs {v2 : BitVec 32} {v19 : BitVec 32} {v27 : BitVec 32} {Q : (PUnit) → sProp (MT nD τ sig Unit (Elt F) ℕ UU ℕ)}
    (h : iprop(St m ρ c 7 ∗ R) ⊢ Q ⟨⟩) :
    iprop(St m ρ c 1 ∗ R) ⊢ Runs c (k0_part9 xM hx wM hw oM ho rM hr cc0_scratch1 cc0_scratch2 cc0_scratch3 cc0_scratch4 cc0_scratch5 cc0_scratch6 c v2 v19 v27) Q := by
  simp only [k0_part9_eq_skeleton]
  unfold k0_part9_skel
  simp only [semSignalWord, semWaitWord, Prog.lift, Prog.bind_op, Prog.bind_ret, Prog.pure_eq_ret, wp_deviceId]
  refine send_up m ρ 1 (off_up1 c).1 (arg5_sem rfl rfl) (fun h => arg4_sem ((off_up1 c).2 h).1) (fun h => ((off_up1 c).2 h).2.1) (fun h => ((off_up1 c).2 h).2.2) rfl ?_
  refine send_up m ρ 2 (off_up2 c).1 (arg5_sem rfl rfl) (fun h => arg4_sem ((off_up2 c).2 h).1) (fun h => ((off_up2 c).2 h).2.1) (fun h => ((off_up2 c).2 h).2.2) rfl ?_
  refine send_up m ρ 3 (off_up3 c).1 (arg5_sem rfl rfl) (fun h => arg4_sem ((off_up3 c).2 h).1) (fun h => ((off_up3 c).2 h).2.1) (fun h => ((off_up3 c).2 h).2.2) rfl ?_
  refine send_up m ρ 4 (off_up4 c).1 (arg5_sem rfl rfl) (fun h => arg4_sem ((off_up4 c).2 h).1) (fun h => ((off_up4 c).2 h).2.1) (fun h => ((off_up4 c).2 h).2.2) rfl ?_
  refine send_up m ρ 5 (off_up5 c).1 (arg5_sem rfl rfl) (fun h => arg4_sem ((off_up5 c).2 h).1) (fun h => ((off_up5 c).2 h).2.1) (fun h => ((off_up5 c).2 h).2.2) rfl ?_
  refine own_right m ρ (off_own c).2.1 (dev_own c).1 (arg6_sem (off_own c).2.2.2.1) (arg4_sem (off_own c).2.2.1) ?_
  exact done_of h

/-- The own chunk leaves to the left and gives its rows. -/
theorem part10_runs {v2 : BitVec 32} {v19 : BitVec 32} {v24 : BitVec 32} {Q : (Σ' (v127 : BitVec 32) (v129 : BitVec 32), BitVec 32) → sProp (MT nD τ sig Unit (Elt F) ℕ UU ℕ)}
    (h : ∀ a b d, iprop(St m ρ c 9 ∗ R) ⊢ Q ⟨a, b, d⟩) :
    iprop(St m ρ c 7 ∗ R) ⊢ Runs c (k0_part10 xM hx wM hw oM ho rM hr cc0_scratch1 cc0_scratch2 cc0_scratch3 cc0_scratch4 cc0_scratch5 cc0_scratch6 c v2 v19 v24) Q := by
  simp only [k0_part10_eq_skeleton]
  unfold k0_part10_skel
  simp only [semSignalWord, semWaitWord, Prog.lift, Prog.bind_op, Prog.bind_ret, Prog.pure_eq_ret, wp_deviceId]
  refine own_left m ρ (off_own c).2.1 (dev_own c).2 (arg7_sem (off_own c).2.2.2.1) (arg4_sem (off_own c).2.2.1) ?_
  refine load_chunk m ρ (p := c) (off_own c).1 (own_facts c).2.2.2.2.2.2.2.2.1 (.inl rfl) ?_
  refine load_w m ρ ?_
  refine load_out m ρ fun _ => ?_
  refine store_128 m ρ (p := c) (off_own c).2.2.2.2 (own_facts c).2.2.2.2.2.2.2.2.1 (own_facts c).2.2.2.2.2.2.2.2.2.symm rfl ?_
  exact done_of (h _ _ _)

/-- The nearer places of the column. -/
theorem part11_runs {v19 : BitVec 32} {v20 : BitVec 32} {v24 : BitVec 32} {v27 : BitVec 32} {v127 : BitVec 32} {v129 : BitVec 32} {c3_i32_78 : BitVec 32} {Q : (Σ' (v155 : BitVec 32) (v158 : BitVec 1) (v159 : BitVec 32), BitVec 32) → sProp (MT nD τ sig Unit (Elt F) ℕ UU ℕ)}
    (h : ∀ a b d e, iprop(St m ρ c 25 ∗ R) ⊢ Q ⟨a, b, d, e⟩) :
    iprop(St m ρ c 9 ∗ R) ⊢ Runs c (k0_part11 xM hx wM hw oM ho rM hr cc0_scratch1 cc0_scratch2 cc0_scratch3 cc0_scratch4 cc0_scratch5 cc0_scratch6 c v19 v20 v24 v27 v127 v129 c3_i32_78) Q := by
  simp only [k0_part11_eq_skeleton]
  unfold k0_part11_skel
  simp only [semSignalWord, semWaitWord, Prog.lift, Prog.bind_op, Prog.bind_ret, Prog.pure_eq_ret, wp_deviceId]
  refine col_place m ρ 0 (off_col0 c).1 (fun hc _ h' => part1_runs m ρ hc h') (fun h => ((off_col0 c).2 h).2.1) (fun h => ((off_col0 c).2 h).2.2.2.2.2.1) (fun h => ((off_col0 c).2 h).2.2.2.2.2.2) (fun h => ((off_col0 c).2 h).2.2.2.2.1) (fun h => arg7_sem ((off_col0 c).2 h).2.2.1) (fun h => arg4_sem ((off_col0 c).2 h).1) (fun _ _ => rfl) rfl ?_
  refine col_place m ρ 1 (off_col1 c).1 (fun hc _ h' => part2_runs m ρ hc h') (fun h => ((off_col1 c).2 h).2.1) (fun h => ((off_col1 c).2 h).2.2.2.2.2.1) (fun h => ((off_col1 c).2 h).2.2.2.2.2.2) (fun h => ((off_col1 c).2 h).2.2.2.2.1) (fun h => arg7_sem ((off_col1 c).2 h).2.2.1) (fun h => arg4_sem ((off_col1 c).2 h).1) (fun _ _ => rfl) rfl ?_
  refine col_place m ρ 2 (off_col2 c).1 (fun hc _ h' => part3_runs m ρ hc h') (fun h => ((off_col2 c).2 h).2.1) (fun h => ((off_col2 c).2 h).2.2.2.2.2.1) (fun h => ((off_col2 c).2 h).2.2.2.2.2.2) (fun h => ((off_col2 c).2 h).2.2.2.2.1) (fun h => arg7_sem ((off_col2 c).2 h).2.2.1) (fun h => arg4_sem ((off_col2 c).2 h).1) (fun _ _ => rfl) rfl ?_
  refine col_place m ρ 3 (off_col3 c).1 (fun hc _ h' => part4_runs m ρ hc h') (fun h => ((off_col3 c).2 h).2.1) (fun h => ((off_col3 c).2 h).2.2.2.2.2.1) (fun h => ((off_col3 c).2 h).2.2.2.2.2.2) (fun h => ((off_col3 c).2 h).2.2.2.2.1) (fun h => arg7_sem ((off_col3 c).2 h).2.2.1) (fun h => arg4_sem ((off_col3 c).2 h).1) (fun _ _ => rfl) rfl ?_
  exact done_of (h _ _ _ _)

/-- The farther places of the column. -/
theorem part12_runs {v19 : BitVec 32} {v20 : BitVec 32} {v24 : BitVec 32} {v27 : BitVec 32} {v155 : BitVec 32} {v158 : BitVec 1} {v159 : BitVec 32} {c2_i32_104 : BitVec 32} {Q : (Σ' (v177 : BitVec 32), BitVec 32) → sProp (MT nD τ sig Unit (Elt F) ℕ UU ℕ)}
    (h : ∀ a b, iprop(St m ρ c 33 ∗ R) ⊢ Q ⟨a, b⟩) :
    iprop(St m ρ c 25 ∗ R) ⊢ Runs c (k0_part12 xM hx wM hw oM ho rM hr cc0_scratch1 cc0_scratch2 cc0_scratch3 cc0_scratch4 cc0_scratch5 cc0_scratch6 c v19 v20 v24 v27 v155 v158 v159 c2_i32_104) Q := by
  simp only [k0_part12_eq_skeleton]
  unfold k0_part12_skel
  simp only [semSignalWord, semWaitWord, Prog.lift, Prog.bind_op, Prog.bind_ret, Prog.pure_eq_ret, wp_deviceId]
  refine col_place m ρ 4 (off_col4 c).1 (fun hc _ h' => part5_runs m ρ hc h') (fun h => ((off_col4 c).2 h).2.1) (fun h => ((off_col4 c).2 h).2.2.2.2.2.1) (fun h => ((off_col4 c).2 h).2.2.2.2.2.2) (fun h => ((off_col4 c).2 h).2.2.2.2.1) (fun h => arg7_sem ((off_col4 c).2 h).2.2.1) (fun h => arg4_sem ((off_col4 c).2 h).1) (fun _ _ => rfl) rfl ?_
  refine col_place m ρ 5 (off_col5 c).1 (fun hc _ h' => part6_runs m ρ hc h') (fun h => ((off_col5 c).2 h).2.1) (fun h => ((off_col5 c).2 h).2.2.2.2.2.1) (fun h => ((off_col5 c).2 h).2.2.2.2.2.2) (fun h => ((off_col5 c).2 h).2.2.2.2.1) (fun h => arg7_sem ((off_col5 c).2 h).2.2.1) (fun h => arg4_sem ((off_col5 c).2 h).1) (fun _ _ => rfl) rfl ?_
  exact done_of (h _ _)

end Cert.KernelIdeal.AG
-- ==== Proof.KernelIdeal.Parts2.lean ====
module

public import proofs.«01_k».proof.Proof.Clock
public import proofs.«01_k».proof.Proof.KernelIdeal.Ops

@[expose] public section

noncomputable section

/-!
# The body, part by part

Each printed part of the body takes the holdings at one time to the holdings at a later one.
-/

namespace Cert.KernelIdeal.AG

open Cert.KernelIdeal Cert.KernelIdeal.Gen AllGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

variable {c : Dev nD} {t : ℕ} {α : Type}
variable {R : sProp (MT nD τ sig Unit (Elt F) ℕ UU ℕ)} {Q : α → sProp (MT nD τ sig Unit (Elt F) ℕ UU ℕ)}
variable {hx : xM.IsWhole} {hw : wM.IsWhole} {ho : oM.IsWhole} {hr : rM.IsWhole}

/-- Part 13. -/
theorem part13_runs {v27 : BitVec 32} {v177 : BitVec 32} {v181 : BitVec 32} {Q : (BitVec 32) → sProp (MT nD τ sig Unit (Elt F) ℕ UU ℕ)}
    (h : ∀ a, iprop(St m ρ c 36 ∗ R) ⊢ Q a) :
    iprop(St m ρ c 33 ∗ R) ⊢ Runs c (k0_part13 xM hx wM hw oM ho rM hr cc0_scratch1 cc0_scratch2 cc0_scratch3 cc0_scratch4 cc0_scratch5 cc0_scratch6 c v27 v177 v181) Q := by
  simp only [k0_part13_eq_skeleton]
  unfold k0_part13_skel
  simp only [semSignalWord, semWaitWord, Prog.lift, Prog.bind_op, Prog.bind_ret, Prog.pure_eq_ret, wp_deviceId]
  refine left_recv m ρ 0 rfl ?_
  refine left_send m ρ 0 (dev_sides c).1 rfl ?_
  refine left_load m ρ 0 rfl ?_
  refine load_w m ρ ?_
  refine load_out m ρ fun _ => ?_
  refine left_store m ρ 0 rfl rfl ?_
  exact done_of (h _)

/-- Part 14. -/
theorem part14_runs {v24 : BitVec 32} {v27 : BitVec 32} {v181 : BitVec 32} {c2_i32_153 : BitVec 32} {Q : (Σ' (v254 : FVec F S128x128 .f32), FVec F S128x128 .f32) → sProp (MT nD τ sig Unit (Elt F) ℕ UU ℕ)}
    (h : iprop(St m ρ c 38 ∗ R) ⊢ Q ⟨k0_pay11 (chunkOf (gath m ρ) (rP c 0)) (wstg m ρ c), k0_pay12 (chunkOf (gath m ρ) (rP c 0)) (wstg m ρ c)⟩) :
    iprop(St m ρ c 36 ∗ R) ⊢ Runs c (k0_part14 xM hx wM hw oM ho rM hr cc0_scratch1 cc0_scratch2 cc0_scratch3 cc0_scratch4 cc0_scratch5 cc0_scratch6 c v24 v27 v181 c2_i32_153) Q := by
  simp only [k0_part14_eq_skeleton]
  unfold k0_part14_skel
  simp only [semSignalWord, semWaitWord, Prog.lift, Prog.bind_op, Prog.bind_ret, Prog.pure_eq_ret, wp_deviceId]
  refine right_recv m ρ 0 rfl ?_
  refine right_send m ρ 0 (dev_sides c).2.1 rfl ?_
  refine right_load m ρ 0 rfl ?_
  refine load_w m ρ ?_
  exact done_of h

/-- Part 15. -/
theorem part15_runs {v19 : BitVec 32} {v20 : BitVec 32} {v24 : BitVec 32} {v181 : BitVec 32} {v254 : FVec F S128x128 .f32} {v259 : FVec F S128x128 .f32} (hv : k0_pay13 v254 v259 = rows128 (chunkOf (gath m ρ) (rP c 0)) (wstg m ρ c)) {Q : (Σ' (v278 : BitVec 32), BitVec 32) → sProp (MT nD τ sig Unit (Elt F) ℕ UU ℕ)}
    (h : ∀ a b, iprop(St m ρ c 39 ∗ R) ⊢ Q ⟨a, b⟩) :
    iprop(St m ρ c 38 ∗ R) ⊢ Runs c (k0_part15 xM hx wM hw oM ho rM hr cc0_scratch1 cc0_scratch2 cc0_scratch3 cc0_scratch4 cc0_scratch5 cc0_scratch6 c v19 v20 v24 v181 v254 v259) Q := by
  simp only [k0_part15_eq_skeleton]
  unfold k0_part15_skel
  simp only [semSignalWord, semWaitWord, Prog.lift, Prog.bind_op, Prog.bind_ret, Prog.pure_eq_ret, wp_deviceId]
  refine load_out m ρ fun _ => ?_
  refine right_store m ρ 0 rfl hv ?_
  exact done_of (h _ _)

/-- Part 16. -/
theorem part16_runs {v27 : BitVec 32} {v278 : BitVec 32} {v282 : BitVec 32} {Q : (PUnit) → sProp (MT nD τ sig Unit (Elt F) ℕ UU ℕ)}
    (h : iprop(St m ρ c 42 ∗ R) ⊢ Q ⟨⟩) :
    iprop(St m ρ c 39 ∗ R) ⊢ Runs c (k0_part16 xM hx wM hw oM ho rM hr cc0_scratch1 cc0_scratch2 cc0_scratch3 cc0_scratch4 cc0_scratch5 cc0_scratch6 c v27 v278 v282) Q := by
  simp only [k0_part16_eq_skeleton]
  unfold k0_part16_skel
  simp only [semSignalWord, semWaitWord, Prog.lift, Prog.bind_op, Prog.bind_ret, Prog.pure_eq_ret, wp_deviceId]
  refine left_recv m ρ 1 rfl ?_
  refine left_send m ρ 1 (dev_sides c).2.2.1 rfl ?_
  refine left_load m ρ 1 rfl ?_
  refine load_w m ρ ?_
  refine load_out m ρ fun _ => ?_
  refine left_store m ρ 1 rfl rfl ?_
  exact done_of h

/-- Part 17. -/
theorem part17_runs {v24 : BitVec 32} {v27 : BitVec 32} {v282 : BitVec 32} {Q : (Σ' (v355 : FVec F S128x128 .f32) (v360 : FVec F S128x128 .f32), F .f32) → sProp (MT nD τ sig Unit (Elt F) ℕ UU ℕ)}
    (h : iprop(St m ρ c 44 ∗ R) ⊢ Q ⟨k0_pay16 (chunkOf (gath m ρ) (rP c 1)) (wstg m ρ c), k0_pay17 (chunkOf (gath m ρ) (rP c 1)) (wstg m ρ c), Scalar.ofBits .f32 0x3F4C422A#32⟩) :
    iprop(St m ρ c 42 ∗ R) ⊢ Runs c (k0_part17 xM hx wM hw oM ho rM hr cc0_scratch1 cc0_scratch2 cc0_scratch3 cc0_scratch4 cc0_scratch5 cc0_scratch6 c v24 v27 v282) Q := by
  simp only [k0_part17_eq_skeleton]
  unfold k0_part17_skel
  simp only [semSignalWord, semWaitWord, Prog.lift, Prog.bind_op, Prog.bind_ret, Prog.pure_eq_ret, wp_deviceId]
  refine right_recv m ρ 1 rfl ?_
  refine right_send m ρ 1 (dev_sides c).2.2.2.1 rfl ?_
  refine right_load m ρ 1 rfl ?_
  refine load_w m ρ ?_
  exact done_of h

/-- Part 18. -/
theorem part18_runs {v19 : BitVec 32} {v20 : BitVec 32} {v24 : BitVec 32} {v282 : BitVec 32} {v355 : FVec F S128x128 .f32} {v360 : FVec F S128x128 .f32} {cst_250 : F .f32} (hv : k0_pay18 v355 v360 cst_250 = rows128 (chunkOf (gath m ρ) (rP c 1)) (wstg m ρ c)) {Q : (Σ' (v379 : BitVec 32), BitVec 32) → sProp (MT nD τ sig Unit (Elt F) ℕ UU ℕ)}
    (h : ∀ a b, iprop(St m ρ c 46 ∗ R) ⊢ Q ⟨a, b⟩) :
    iprop(St m ρ c 44 ∗ R) ⊢ Runs c (k0_part18 xM hx wM hw oM ho rM hr cc0_scratch1 cc0_scratch2 cc0_scratch3 cc0_scratch4 cc0_scratch5 cc0_scratch6 c v19 v20 v24 v282 v355 v360 cst_250) Q := by
  simp only [k0_part18_eq_skeleton]
  unfold k0_part18_skel
  simp only [semSignalWord, semWaitWord, Prog.lift, Prog.bind_op, Prog.bind_ret, Prog.pure_eq_ret, wp_deviceId]
  refine load_out m ρ fun _ => ?_
  refine right_store m ρ 1 rfl hv ?_
  refine left_recv m ρ 2 rfl ?_
  exact done_of (h _ _)

/-- Part 19. -/
theorem part19_runs {v27 : BitVec 32} {v379 : BitVec 32} {v383 : BitVec 32} {Q : (BitVec 32) → sProp (MT nD τ sig Unit (Elt F) ℕ UU ℕ)}
    (h : ∀ a, iprop(St m ρ c 48 ∗ R) ⊢ Q a) :
    iprop(St m ρ c 46 ∗ R) ⊢ Runs c (k0_part19 xM hx wM hw oM ho rM hr cc0_scratch1 cc0_scratch2 cc0_scratch3 cc0_scratch4 cc0_scratch5 cc0_scratch6 c v27 v379 v383) Q := by
  simp only [k0_part19_eq_skeleton]
  unfold k0_part19_skel
  simp only [semSignalWord, semWaitWord, Prog.lift, Prog.bind_op, Prog.bind_ret, Prog.pure_eq_ret, wp_deviceId]
  refine left_send m ρ 2 (dev_sides c).2.2.2.2.1 rfl ?_
  refine left_load m ρ 2 rfl ?_
  refine load_w m ρ ?_
  refine load_out m ρ fun _ => ?_
  refine left_store m ρ 2 rfl rfl ?_
  exact done_of (h _)

/-- Part 20. -/
theorem part20_runs {v24 : BitVec 32} {v27 : BitVec 32} {v383 : BitVec 32} {c2_i32_298 : BitVec 32} {Q : (Σ' (v456 : FVec F S128x128 .f32) (v461 : FVec F S128x128 .f32), FVec F S128x128 .f32) → sProp (MT nD τ sig Unit (Elt F) ℕ UU ℕ)}
    (h : iprop(St m ρ c 50 ∗ R) ⊢ Q ⟨k0_pay21 (chunkOf (gath m ρ) (rP c 2)) (wstg m ρ c), k0_pay22 (chunkOf (gath m ρ) (rP c 2)) (wstg m ρ c), k0_pay23 (F := F)⟩) :
    iprop(St m ρ c 48 ∗ R) ⊢ Runs c (k0_part20 xM hx wM hw oM ho rM hr cc0_scratch1 cc0_scratch2 cc0_scratch3 cc0_scratch4 cc0_scratch5 cc0_scratch6 c v24 v27 v383 c2_i32_298) Q := by
  simp only [k0_part20_eq_skeleton]
  unfold k0_part20_skel
  simp only [semSignalWord, semWaitWord, Prog.lift, Prog.bind_op, Prog.bind_ret, Prog.pure_eq_ret, wp_deviceId]
  refine right_recv m ρ 2 rfl ?_
  refine right_send m ρ 2 (dev_sides c).2.2.2.2.2.1 rfl ?_
  refine right_load m ρ 2 rfl ?_
  refine load_w m ρ ?_
  exact done_of h

/-- Part 21. -/
theorem part21_runs {v19 : BitVec 32} {v20 : BitVec 32} {v24 : BitVec 32} {v383 : BitVec 32} {v456 : FVec F S128x128 .f32} {v461 : FVec F S128x128 .f32} {v462 : FVec F S128x128 .f32} (hv : k0_pay24 v456 v461 v462 = rows128 (chunkOf (gath m ρ) (rP c 2)) (wstg m ρ c)) {Q : (Σ' (v480 : BitVec 32) (v484 : BitVec 32), BitVec 32) → sProp (MT nD τ sig Unit (Elt F) ℕ UU ℕ)}
    (h : ∀ a b d, iprop(St m ρ c 52 ∗ R) ⊢ Q ⟨a, b, d⟩) :
    iprop(St m ρ c 50 ∗ R) ⊢ Runs c (k0_part21 xM hx wM hw oM ho rM hr cc0_scratch1 cc0_scratch2 cc0_scratch3 cc0_scratch4 cc0_scratch5 cc0_scratch6 c v19 v20 v24 v383 v456 v461 v462) Q := by
  simp only [k0_part21_eq_skeleton]
  unfold k0_part21_skel
  simp only [semSignalWord, semWaitWord, Prog.lift, Prog.bind_op, Prog.bind_ret, Prog.pure_eq_ret, wp_deviceId]
  refine load_out m ρ fun _ => ?_
  refine right_store m ρ 2 rfl hv ?_
  refine left_recv m ρ 3 rfl ?_
  exact done_of (h _ _ _)

/-- Part 22. -/
theorem part22_runs {v27 : BitVec 32} {v480 : BitVec 32} {v484 : BitVec 32} {c2_i32_349 : BitVec 32} {Q : (PUnit) → sProp (MT nD τ sig Unit (Elt F) ℕ UU ℕ)}
    (h : iprop(St m ρ c 54 ∗ R) ⊢ Q ⟨⟩) :
    iprop(St m ρ c 52 ∗ R) ⊢ Runs c (k0_part22 xM hx wM hw oM ho rM hr cc0_scratch1 cc0_scratch2 cc0_scratch3 cc0_scratch4 cc0_scratch5 cc0_scratch6 c v27 v480 v484 c2_i32_349) Q := by
  simp only [k0_part22_eq_skeleton]
  unfold k0_part22_skel
  simp only [semSignalWord, semWaitWord, Prog.lift, Prog.bind_op, Prog.bind_ret, Prog.pure_eq_ret, wp_deviceId]
  refine left_send m ρ 3 (dev_sides c).2.2.2.2.2.2.1 rfl ?_
  refine left_load m ρ 3 rfl ?_
  refine load_w m ρ ?_
  refine load_out m ρ fun _ => ?_
  refine left_store m ρ 3 rfl rfl ?_
  exact done_of h

/-- Part 23. -/
theorem part23_runs {v24 : BitVec 32} {v27 : BitVec 32} {v484 : BitVec 32} {Q : (Σ' (v557 : FVec F S128x128 .f32), FVec F S128x128 .f32) → sProp (MT nD τ sig Unit (Elt F) ℕ UU ℕ)}
    (h : iprop(St m ρ c 56 ∗ R) ⊢ Q ⟨k0_pay27 (chunkOf (gath m ρ) (rP c 3)) (wstg m ρ c), k0_pay28 (chunkOf (gath m ρ) (rP c 3)) (wstg m ρ c)⟩) :
    iprop(St m ρ c 54 ∗ R) ⊢ Runs c (k0_part23 xM hx wM hw oM ho rM hr cc0_scratch1 cc0_scratch2 cc0_scratch3 cc0_scratch4 cc0_scratch5 cc0_scratch6 c v24 v27 v484) Q := by
  simp only [k0_part23_eq_skeleton]
  unfold k0_part23_skel
  simp only [semSignalWord, semWaitWord, Prog.lift, Prog.bind_op, Prog.bind_ret, Prog.pure_eq_ret, wp_deviceId]
  refine right_recv m ρ 3 rfl ?_
  refine right_send m ρ 3 (dev_sides c).2.2.2.2.2.2.2 rfl ?_
  refine right_load m ρ 3 rfl ?_
  refine load_w m ρ ?_
  exact done_of h

end Cert.KernelIdeal.AG
-- ==== Proof.KernelIdeal.Parts3.lean ====
module

public import proofs.«01_k».proof.Proof.Clock
public import proofs.«01_k».proof.Proof.KernelIdeal.Ops

@[expose] public section

noncomputable section

/-!
# The body, part by part

Each printed part of the body takes the holdings at one time to the holdings at a later one.
-/

namespace Cert.KernelIdeal.AG

open Cert.KernelIdeal Cert.KernelIdeal.Gen AllGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

variable {c : Dev nD} {t : ℕ} {α : Type}
variable {R : sProp (MT nD τ sig Unit (Elt F) ℕ UU ℕ)} {Q : α → sProp (MT nD τ sig Unit (Elt F) ℕ UU ℕ)}
variable {hx : xM.IsWhole} {hw : wM.IsWhole} {ho : oM.IsWhole} {hr : rM.IsWhole}

attribute [local irreducible] k0_cond17 k0_cond18 k0_cond19 k0_cond20 k0_cond21 k0_cond22

/-- Part 24. -/
theorem part24_runs {v19 : BitVec 32} {v20 : BitVec 32} {v24 : BitVec 32} {v484 : BitVec 32} {v557 : FVec F S128x128 .f32} {v564 : FVec F S128x128 .f32} (hv : k0_pay29 v557 v564 = rows128 (chunkOf (gath m ρ) (rP c 3)) (wstg m ρ c)) {Q : (Σ' (v582 : BitVec 32), FVec F S64x128 .f32) → sProp (MT nD τ sig Unit (Elt F) ℕ UU ℕ)}
    (h : ∀ a, iprop(St m ρ c 58 ∗ R) ⊢ Q ⟨a, k0_pay30 (halfOf (gath m ρ) (lo (dP c 0))) (wstg m ρ c)⟩) :
    iprop(St m ρ c 56 ∗ R) ⊢ Runs c (k0_part24 xM hx wM hw oM ho rM hr cc0_scratch1 cc0_scratch2 cc0_scratch3 cc0_scratch4 cc0_scratch5 cc0_scratch6 c v19 v20 v24 v484 v557 v564) Q := by
  simp only [k0_part24_eq_skeleton]
  unfold k0_part24_skel
  simp only [semSignalWord, semWaitWord, Prog.lift, Prog.bind_op, Prog.bind_ret, Prog.pure_eq_ret, wp_deviceId]
  refine load_out m ρ fun _ => ?_
  refine right_store m ρ 3 rfl hv ?_
  refine even_recv m ρ 0 rfl ?_
  refine even_load m ρ 0 rfl ?_
  refine load_w m ρ ?_
  exact done_of (h _)

/-- Part 25. -/
theorem part25_runs {v27 : BitVec 32} {v582 : BitVec 32} {v596 : FVec F S64x128 .f32} (hv : k0_pay31 v596 = rows64 (halfOf (gath m ρ) (lo (dP c 0))) (wstg m ρ c)) {Q : (Σ' (v622 : BitVec 32) (v628 : FVec F S64x128 .f32) (v630 : FVec F S64x128 .f32), FVec F S64x128 .f32) → sProp (MT nD τ sig Unit (Elt F) ℕ UU ℕ)}
    (h : ∀ a, iprop(St m ρ c 60 ∗ R) ⊢ Q ⟨a, k0_pay32 (halfOf (gath m ρ) (hi (dP c 0))) (wstg m ρ c), k0_pay33 (halfOf (gath m ρ) (hi (dP c 0))) (wstg m ρ c), k0_pay34 (halfOf (gath m ρ) (hi (dP c 0))) (wstg m ρ c)⟩) :
    iprop(St m ρ c 58 ∗ R) ⊢ Runs c (k0_part25 xM hx wM hw oM ho rM hr cc0_scratch1 cc0_scratch2 cc0_scratch3 cc0_scratch4 cc0_scratch5 cc0_scratch6 c v27 v582 v596) Q := by
  simp only [k0_part25_eq_skeleton]
  unfold k0_part25_skel
  simp only [semSignalWord, semWaitWord, Prog.lift, Prog.bind_op, Prog.bind_ret, Prog.pure_eq_ret, wp_deviceId]
  refine load_out m ρ fun _ => ?_
  refine even_store m ρ 0 rfl hv ?_
  refine odd_recv m ρ 0 rfl ?_
  refine odd_load m ρ 0 rfl ?_
  refine load_w m ρ ?_
  exact done_of (h _)

/-- Part 26. -/
theorem part26_runs {v19 : BitVec 32} {v20 : BitVec 32} {v24 : BitVec 32} {v622 : BitVec 32} {v628 : FVec F S64x128 .f32} {v630 : FVec F S64x128 .f32} {v632 : FVec F S64x128 .f32} (hv : k0_pay35 v628 v630 v632 = rows64 (halfOf (gath m ρ) (hi (dP c 0))) (wstg m ρ c)) {Q : (Σ' (v655 : BitVec 32), FVec F S64x2048 .f32) → sProp (MT nD τ sig Unit (Elt F) ℕ UU ℕ)}
    (h : ∀ a, iprop(St m ρ c 62 ∗ R) ⊢ Q ⟨a, k0_pay36 (halfOf (gath m ρ) (lo (dP c 1)))⟩) :
    iprop(St m ρ c 60 ∗ R) ⊢ Runs c (k0_part26 xM hx wM hw oM ho rM hr cc0_scratch1 cc0_scratch2 cc0_scratch3 cc0_scratch4 cc0_scratch5 cc0_scratch6 c v19 v20 v24 v622 v628 v630 v632) Q := by
  simp only [k0_part26_eq_skeleton]
  unfold k0_part26_skel
  simp only [semSignalWord, semWaitWord, Prog.lift, Prog.bind_op, Prog.bind_ret, Prog.pure_eq_ret, wp_deviceId]
  refine load_out m ρ fun _ => ?_
  refine odd_store m ρ 0 rfl hv ?_
  refine even_recv m ρ 1 rfl ?_
  refine even_load m ρ 1 rfl ?_
  exact done_of (h _)

/-- Part 27. -/
theorem part27_runs {v27 : BitVec 32} {v655 : BitVec 32} {v666 : FVec F S64x2048 .f32} (hv : k0_pay37 v666 (wstg m ρ c) = rows64 (halfOf (gath m ρ) (lo (dP c 1))) (wstg m ρ c)) {Q : (Σ' (v695 : BitVec 32), FVec F S64x128 .f32) → sProp (MT nD τ sig Unit (Elt F) ℕ UU ℕ)}
    (h : ∀ a, iprop(St m ρ c 64 ∗ R) ⊢ Q ⟨a, k0_pay38 (halfOf (gath m ρ) (hi (dP c 1))) (wstg m ρ c)⟩) :
    iprop(St m ρ c 62 ∗ R) ⊢ Runs c (k0_part27 xM hx wM hw oM ho rM hr cc0_scratch1 cc0_scratch2 cc0_scratch3 cc0_scratch4 cc0_scratch5 cc0_scratch6 c v27 v655 v666) Q := by
  simp only [k0_part27_eq_skeleton]
  unfold k0_part27_skel
  simp only [semSignalWord, semWaitWord, Prog.lift, Prog.bind_op, Prog.bind_ret, Prog.pure_eq_ret, wp_deviceId]
  refine load_w m ρ ?_
  refine load_out m ρ fun _ => ?_
  refine even_store m ρ 1 rfl hv ?_
  refine odd_recv m ρ 1 rfl ?_
  refine odd_load m ρ 1 rfl ?_
  refine load_w m ρ ?_
  exact done_of (h _)

/-- Part 28. -/
theorem part28_runs {v19 : BitVec 32} {v20 : BitVec 32} {v24 : BitVec 32} {v695 : BitVec 32} {v701 : FVec F S64x128 .f32} (hv : k0_pay39 v701 = rows64 (halfOf (gath m ρ) (hi (dP c 1))) (wstg m ρ c)) {Q : (BitVec 32) → sProp (MT nD τ sig Unit (Elt F) ℕ UU ℕ)}
    (h : ∀ a, iprop(St m ρ c 65 ∗ R) ⊢ Q a) :
    iprop(St m ρ c 64 ∗ R) ⊢ Runs c (k0_part28 xM hx wM hw oM ho rM hr cc0_scratch1 cc0_scratch2 cc0_scratch3 cc0_scratch4 cc0_scratch5 cc0_scratch6 c v19 v20 v24 v695 v701) Q := by
  simp only [k0_part28_eq_skeleton]
  unfold k0_part28_skel
  simp only [semSignalWord, semWaitWord, Prog.lift, Prog.bind_op, Prog.bind_ret, Prog.pure_eq_ret, wp_deviceId]
  refine load_out m ρ fun _ => ?_
  refine odd_store m ρ 1 rfl hv ?_
  exact done_of (h _)

/-- Part 29. -/
theorem part29_runs {v27 : BitVec 32} {v728 : BitVec 32} {Q : (Σ' (v768 : BitVec 32), FVec F S64x2048 .f32) → sProp (MT nD τ sig Unit (Elt F) ℕ UU ℕ)}
    (h : ∀ a, iprop(St m ρ c 68 ∗ R) ⊢ Q ⟨a, k0_pay41 (halfOf (gath m ρ) (hi (dP c 2)))⟩) :
    iprop(St m ρ c 65 ∗ R) ⊢ Runs c (k0_part29 xM hx wM hw oM ho rM hr cc0_scratch1 cc0_scratch2 cc0_scratch3 cc0_scratch4 cc0_scratch5 cc0_scratch6 c v27 v728) Q := by
  simp only [k0_part29_eq_skeleton]
  unfold k0_part29_skel
  simp only [semSignalWord, semWaitWord, Prog.lift, Prog.bind_op, Prog.bind_ret, Prog.pure_eq_ret, wp_deviceId]
  refine even_recv m ρ 2 rfl ?_
  refine even_load m ρ 2 rfl ?_
  refine load_w m ρ ?_
  refine load_out m ρ fun _ => ?_
  refine even_store m ρ 2 rfl rfl ?_
  refine odd_recv m ρ 2 rfl ?_
  refine odd_load m ρ 2 rfl ?_
  exact done_of (h _)

/-- Part 30. -/
theorem part30_runs {v19 : BitVec 32} {v20 : BitVec 32} {v24 : BitVec 32} {v768 : BitVec 32} {v771 : FVec F S64x2048 .f32} (hv : k0_pay42 v771 (wstg m ρ c) = rows64 (halfOf (gath m ρ) (hi (dP c 2))) (wstg m ρ c)) {Q : (BitVec 32) → sProp (MT nD τ sig Unit (Elt F) ℕ UU ℕ)}
    (h : ∀ a, iprop(St m ρ c 69 ∗ R) ⊢ Q a) :
    iprop(St m ρ c 68 ∗ R) ⊢ Runs c (k0_part30 xM hx wM hw oM ho rM hr cc0_scratch1 cc0_scratch2 cc0_scratch3 cc0_scratch4 cc0_scratch5 cc0_scratch6 c v19 v20 v24 v768 v771) Q := by
  simp only [k0_part30_eq_skeleton]
  unfold k0_part30_skel
  simp only [semSignalWord, semWaitWord, Prog.lift, Prog.bind_op, Prog.bind_ret, Prog.pure_eq_ret, wp_deviceId]
  refine load_w m ρ ?_
  refine load_out m ρ fun _ => ?_
  refine odd_store m ρ 2 rfl hv ?_
  exact done_of (h _)

/-- Part 31. -/
theorem part31_runs {v27 : BitVec 32} {v801 : BitVec 32} {Q : (BitVec 32) → sProp (MT nD τ sig Unit (Elt F) ℕ UU ℕ)}
    (h : ∀ a, iprop(St m ρ c 72 ∗ R) ⊢ Q a) :
    iprop(St m ρ c 69 ∗ R) ⊢ Runs c (k0_part31 xM hx wM hw oM ho rM hr cc0_scratch1 cc0_scratch2 cc0_scratch3 cc0_scratch4 cc0_scratch5 cc0_scratch6 c v27 v801) Q := by
  simp only [k0_part31_eq_skeleton]
  unfold k0_part31_skel
  simp only [semSignalWord, semWaitWord, Prog.lift, Prog.bind_op, Prog.bind_ret, Prog.pure_eq_ret, wp_deviceId]
  refine even_recv m ρ 3 rfl ?_
  refine even_load m ρ 3 rfl ?_
  refine load_w m ρ ?_
  refine load_out m ρ fun _ => ?_
  refine even_store m ρ 3 rfl rfl ?_
  refine odd_recv m ρ 3 rfl ?_
  exact done_of (h _)

/-- Part 32. -/
theorem part32_runs {v2 : BitVec 32} {v19 : BitVec 32} {v801 : BitVec 32} {c1_i32_581 : BitVec 32} {Q : (BitVec 32) → sProp (MT nD τ sig Unit (Elt F) ℕ UU ℕ)}
    (h : ∀ a, iprop(St m ρ c 76 ∗ R) ⊢ Q a) :
    iprop(St m ρ c 72 ∗ R) ⊢ Runs c (k0_part32 xM hx wM hw oM ho rM hr cc0_scratch1 cc0_scratch2 cc0_scratch3 cc0_scratch4 cc0_scratch5 cc0_scratch6 c v2 v19 v801 c1_i32_581) Q := by
  simp only [k0_part32_eq_skeleton]
  unfold k0_part32_skel
  simp only [semSignalWord, semWaitWord, Prog.lift, Prog.bind_op, Prog.bind_ret, Prog.pure_eq_ret, wp_deviceId]
  refine odd_load m ρ 3 rfl ?_
  refine load_w m ρ ?_
  refine load_out m ρ fun _ => ?_
  refine odd_store m ρ 3 rfl rfl ?_
  refine up_gone m ρ 0 (sent c).1 (arg5_sem rfl rfl) rfl ?_
  refine up_gone m ρ 1 (sent c).2.1 (arg5_sem rfl rfl) rfl ?_
  refine up_gone m ρ 2 (sent c).2.2.1 (arg5_sem rfl rfl) rfl ?_
  exact done_of (h _)

/-- Part 33. -/
theorem part33_runs {v2 : BitVec 32} {v19 : BitVec 32} {c2_i32_602 : BitVec 32} {Q : (PUnit) → sProp (MT nD τ sig Unit (Elt F) ℕ UU ℕ)}
    (h : iprop(St m ρ c 81 ∗ R) ⊢ Q ⟨⟩) :
    iprop(St m ρ c 76 ∗ R) ⊢ Runs c (k0_part33 xM hx wM hw oM ho rM hr cc0_scratch1 cc0_scratch2 cc0_scratch3 cc0_scratch4 cc0_scratch5 cc0_scratch6 c v2 v19 c2_i32_602) Q := by
  simp only [k0_part33_eq_skeleton]
  unfold k0_part33_skel
  simp only [semSignalWord, semWaitWord, Prog.lift, Prog.bind_op, Prog.bind_ret, Prog.pure_eq_ret, wp_deviceId]
  refine up_gone m ρ 3 (sent c).2.2.2.1 (arg5_sem rfl rfl) rfl ?_
  refine up_gone m ρ 4 (sent c).2.2.2.2.1 (arg5_sem rfl rfl) rfl ?_
  refine up_gone m ρ 5 (sent c).2.2.2.2.2 (arg5_sem rfl rfl) rfl ?_
  refine pr_gone m ρ 0 (arg6_sem rfl) rfl ?_
  refine pl_gone m ρ 0 (arg7_sem rfl) rfl ?_
  exact done_of h

/-- Part 34. -/
theorem part34_runs {v2 : BitVec 32} {Q : (PUnit) → sProp (MT nD τ sig Unit (Elt F) ℕ UU ℕ)}
    (h : iprop(St m ρ c 84 ∗ R) ⊢ Q ⟨⟩) :
    iprop(St m ρ c 81 ∗ R) ⊢ Runs c (k0_part34 xM hx wM hw oM ho rM hr cc0_scratch1 cc0_scratch2 cc0_scratch3 cc0_scratch4 cc0_scratch5 cc0_scratch6 c v2) Q := by
  simp only [k0_part34_eq_skeleton]
  unfold k0_part34_skel
  simp only [semSignalWord, semWaitWord, Prog.lift, Prog.bind_op, Prog.bind_ret, Prog.pure_eq_ret, wp_deviceId]
  refine dr_gone m ρ 0 (arg8_sem rfl) rfl ?_
  refine dl_gone m ρ 0 (arg9_sem rfl) rfl ?_
  refine pr_gone m ρ 1 (arg6_sem rfl) rfl ?_
  exact done_of h

/-- Part 35. -/
theorem part35_runs {v2 : BitVec 32} {Q : (PUnit) → sProp (MT nD τ sig Unit (Elt F) ℕ UU ℕ)}
    (h : iprop(St m ρ c 88 ∗ R) ⊢ Q ⟨⟩) :
    iprop(St m ρ c 84 ∗ R) ⊢ Runs c (k0_part35 xM hx wM hw oM ho rM hr cc0_scratch1 cc0_scratch2 cc0_scratch3 cc0_scratch4 cc0_scratch5 cc0_scratch6 c v2) Q := by
  simp only [k0_part35_eq_skeleton]
  unfold k0_part35_skel
  simp only [semSignalWord, semWaitWord, Prog.lift, Prog.bind_op, Prog.bind_ret, Prog.pure_eq_ret, wp_deviceId]
  refine pl_gone m ρ 1 (arg7_sem rfl) rfl ?_
  refine dr_gone m ρ 1 (arg8_sem rfl) rfl ?_
  refine dl_gone m ρ 1 (arg9_sem rfl) rfl ?_
  refine pr_gone m ρ 2 (arg6_sem rfl) rfl ?_
  exact done_of h

/-- Part 36. -/
theorem part36_runs {v2 : BitVec 32} {Q : (PUnit) → sProp (MT nD τ sig Unit (Elt F) ℕ UU ℕ)}
    (h : iprop(St m ρ c 92 ∗ R) ⊢ Q ⟨⟩) :
    iprop(St m ρ c 88 ∗ R) ⊢ Runs c (k0_part36 xM hx wM hw oM ho rM hr cc0_scratch1 cc0_scratch2 cc0_scratch3 cc0_scratch4 cc0_scratch5 cc0_scratch6 c v2) Q := by
  simp only [k0_part36_eq_skeleton]
  unfold k0_part36_skel
  simp only [semSignalWord, semWaitWord, Prog.lift, Prog.bind_op, Prog.bind_ret, Prog.pure_eq_ret, wp_deviceId]
  refine pl_gone m ρ 2 (arg7_sem rfl) rfl ?_
  refine dr_gone m ρ 2 (arg8_sem rfl) rfl ?_
  refine dl_gone m ρ 2 (arg9_sem rfl) rfl ?_
  refine pr_gone m ρ 3 (arg6_sem rfl) rfl ?_
  exact done_of h

end Cert.KernelIdeal.AG
-- ==== Proof.KernelIdeal.Body.lean ====
module

public import proofs.«01_k».proof.Proof.Clock
public import proofs.«01_k».proof.Proof.KernelIdeal.Parts1
public import proofs.«01_k».proof.Proof.KernelIdeal.Parts2
public import proofs.«01_k».proof.Proof.KernelIdeal.Parts3

@[expose] public section

noncomputable section

/-!
# The body

From the holdings before the ready signals to those after the last wait.
-/

namespace Cert.KernelIdeal.AG

open Cert.KernelIdeal Cert.KernelIdeal.Gen AllGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

variable {c : Dev nD} {t : ℕ} {α : Type}
variable {R : sProp (MT nD τ sig Unit (Elt F) ℕ UU ℕ)} {Q : α → sProp (MT nD τ sig Unit (Elt F) ℕ UU ℕ)}
variable {hx : xM.IsWhole} {hw : wM.IsWhole} {ho : oM.IsWhole} {hr : rM.IsWhole}

set_option maxHeartbeats 1000000 in
/-- The parts in their order. -/
theorem part37_runs {Q : Dev nD → sProp (MT nD τ sig Unit (Elt F) ℕ UU ℕ)}
    (h : iprop(St m ρ c 94 ∗ atPos ER (bcell c) 1 ∅ 0 ∗ R) ⊢ Q c) :
    iprop(Pre m ρ c 0 ∗ R) ⊢ Runs c (k0_part37 xM hx wM hw oM ho rM hr cc0_scratch1 cc0_scratch2 cc0_scratch3 cc0_scratch4 cc0_scratch5 cc0_scratch6) Q := by
  simp only [k0_part37_eq_skeleton]
  unfold k0_part37_skel
  simp only [Prog.lift, Prog.bind_op, Prog.bind_ret, Prog.pure_eq_ret]
  refine seq (part7_runs m ρ fun _ _ _ _ _ _ _ => ?_)
  dsimp only
  refine seq (part8_runs m ρ ?_)
  refine seq (part9_runs m ρ ?_)
  refine seq (part10_runs m ρ fun _ _ _ => ?_)
  dsimp only
  refine seq (part11_runs m ρ fun _ _ _ _ => ?_)
  dsimp only
  refine seq (part12_runs m ρ fun _ _ => ?_)
  dsimp only
  refine seq (part13_runs m ρ fun _ => ?_)
  refine seq (part14_runs m ρ ?_)
  dsimp only
  refine seq (part15_runs m ρ rfl fun _ _ => ?_)
  dsimp only
  refine seq (part16_runs m ρ ?_)
  refine seq (part17_runs m ρ ?_)
  dsimp only
  refine seq (part18_runs m ρ rfl fun _ _ => ?_)
  dsimp only
  refine seq (part19_runs m ρ fun _ => ?_)
  refine seq (part20_runs m ρ ?_)
  dsimp only
  refine seq (part21_runs m ρ rfl fun _ _ _ => ?_)
  dsimp only
  refine seq (part22_runs m ρ ?_)
  refine seq (part23_runs m ρ ?_)
  dsimp only
  refine seq (part24_runs m ρ rfl fun _ => ?_)
  dsimp only
  refine seq (part25_runs m ρ rfl fun _ => ?_)
  dsimp only
  refine seq (part26_runs m ρ rfl fun _ => ?_)
  dsimp only
  refine seq (part27_runs m ρ rfl fun _ => ?_)
  dsimp only
  refine seq (part28_runs m ρ rfl fun _ => ?_)
  refine seq (part29_runs m ρ fun _ => ?_)
  dsimp only
  refine seq (part30_runs m ρ rfl fun _ => ?_)
  refine seq (part31_runs m ρ fun _ => ?_)
  refine seq (part32_runs m ρ fun _ => ?_)
  refine seq (part33_runs m ρ ?_)
  refine seq (part34_runs m ρ ?_)
  refine seq (part35_runs m ρ ?_)
  refine seq (part36_runs m ρ ?_)
  refine pl_gone m ρ 3 (arg7_sem rfl) rfl ?_
  refine dr_gone m ρ 3 (arg8_sem rfl) rfl ?_
  exact done_of h

/-- The body takes the holdings at the start to those at the end. -/
theorem body_runs {Q : PUnit → sProp (MT nD τ sig Unit (Elt F) ℕ UU ℕ)}
    (h : iprop(St m ρ c 95 ∗ atPos ER (bcell c) 1 ∅ 0 ∗ R) ⊢ Q ⟨⟩) :
    iprop(Pre m ρ c 0 ∗ R) ⊢ Runs c (cc0_body xM hx wM hw oM ho rM hr cc0_scratch1 cc0_scratch2 cc0_scratch3 cc0_scratch4 cc0_scratch5 cc0_scratch6) Q := by
  simp only [cc0_body_eq_skeleton]
  unfold cc0_body_skel
  simp only [Prog.lift, Prog.bind_op, Prog.bind_ret, Prog.pure_eq_ret]
  refine seq (part37_runs m ρ ?_)
  refine dl_gone m ρ 3 (arg9_sem rfl) rfl ?_
  exact done_of h

end Cert.KernelIdeal.AG
-- ==== Proof.KernelIdeal.Finish.lean ====
module

public import proofs.«01_k».proof.Proof.Clock
public import proofs.«01_k».proof.Proof.KernelIdeal.Body

@[expose] public section

noncomputable section

/-!
# The end of the body

What a device holds at the end of its body gives back its counters at zero and the whole buffer.
-/

namespace Cert.KernelIdeal.AG

open Cert.KernelIdeal Cert.KernelIdeal.Gen AllGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

/-! # The end of the body

At the last time every send has left, every arrival has come and every row of the result is written.  The pieces of the
gathered buffer are put together again, and every cell is closed, its counter at zero. -/

/-- A persistent assertion serves every member. -/
theorem sep_with {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ := by
  have e : iprop(P ∗ bigSep S Φ) ⊢ bigSep S fun i => iprop(P ∗ Φ i) := by
    rw [sep_pair]
    iintro ⟨#HP, HS⟩
    isplitr
    · iapply (BI.bigSep_of_persistent S P); iexact HP
    · iexact HS
  exact e.trans (sep_mono h)

/-- The kernel's own semaphores: the arrivals' and the sends'. -/
theorem own_sum (Φ : Own → sProp 𝕄) :
    bigSep Finset.univ Φ = iprop((bigSep Finset.univ fun h => Φ (.inl h)) ∗ bigSep Finset.univ fun j => Φ (.inr j)) := BI.bigSep_univ_sum Φ

/-- A cell past its last round is closed. -/
theorem close (ck : Dev nD × (Own ⊕ Unit)) {r : ℕ} (hr : ∀ k, r ≤ k → (sched (F := F) m ρ).duties (kcell ck) k = ∅) :
    iprop(Rec m ρ ∗ atPos ER (kcell ck) r ∅ 0) ⊢ |={Set.univ}=> (semVal (kcell ck) 0 : sProp 𝕄) := by
  iintro ⟨#Hrec, Hat⟩
  ihave Hc := (rec_of m ρ ck) $$ Hrec
  icases Hc with ⟨⟨%κ, #HI⟩, -⟩
  iapply (Rounds.cell_close ER (sched m ρ) (Set.mem_univ κ) (fun h => h) hr)
  isplitr
  · iexact HI
  · iexact Hat

/-- A family of cells of one device past their last rounds is closed. -/
theorem close_all {I : Type} [DecidableEq I] (c : Dev nD) (S : Finset I) (k : I → Own) (r : ℕ)
    (hr : ∀ i ∈ S, ∀ n, r ≤ n → (sched (F := F) m ρ).duties (kcell (c, .inl (k i))) n = ∅) :
    iprop(Rec m ρ ∗ bigSep S fun i => atPos ER (kcell (c, .inl (k i))) r ∅ 0)
      ⊢ |={Set.univ}=> (bigSep S fun i => semVal (kcell (c, .inl (k i))) 0 : sProp 𝕄) :=
  (sep_with fun i hi => close m ρ (c, .inl (k i)) (hr i hi)).trans (bigSep_fupd _ _)

/-- The cells a device does not use. -/
def Idle (c : Dev nD) : sProp 𝕄 :=
  iprop((bigSep (Finset.univ \ mine c) fun j => atPos ER (scell c j) 0 ∅ 0) ∗ bigSep (Finset.univ \ inbox c) fun h => atPos ER (rcell c h) 0 ∅ 0)

/-- The counters of the kernel's own semaphores and of the barrier, all at zero. -/
def Zeros (c : Dev nD) : sProp 𝕄 := iprop((bigSep Finset.univ fun k : Own => semVal (kcell (c, .inl k)) 0) ∗ semVal (bcell c) 0)

/-- All cells of a device are closed at the end. -/
theorem close_device (c : Dev nD) :
    iprop(Rec m ρ ∗ (bigSep (mine c) fun j => atPos ER (scell c j) 1 ∅ 0) ∗ (bigSep (inbox c) fun h => atPos ER (rcell c h) 1 ∅ 0)
        ∗ atPos ER (bcell c) 1 ∅ 0 ∗ Idle c)
      ⊢ |={Set.univ}=> (Zeros c : sProp 𝕄) := by
  have later : ∀ g k, 1 ≤ k → (sched (F := F) m ρ).duties g k = ∅ := fun g k hk => duties_later m ρ g k hk
  have h1 := close_all m ρ c (mine c) (fun j => .inr j) 1 fun _ _ => later _
  have h2 := close_all m ρ c (inbox c) (fun h => .inl h) 1 fun _ _ => later _
  have h3 := close_all m ρ c (Finset.univ \ mine c) (fun j => .inr j) 0 fun j hj n _ => duties_send_none m ρ (by
    by_contra hs
    exact (Finset.mem_sdiff.mp hj).2 (Finset.mem_filter.mpr ⟨Finset.mem_univ _, by revert hs; cases sends c j <;> simp⟩)) n
  have h4 := close_all m ρ c (Finset.univ \ inbox c) (fun h => .inl h) 0 fun h hh n _ => duties_recv_none m ρ (by
    by_contra hs
    exact (Finset.mem_sdiff.mp hh).2 (Finset.mem_filter.mpr ⟨Finset.mem_univ _, by revert hs; cases gets c h <;> simp⟩)) n
  unfold Zeros Idle
  rw [own_sum]
  rw [sep_part (Finset.subset_univ (mine c)), sep_part (Finset.subset_univ (inbox c))]
  iintro ⟨#Hrec, H1, H2, Hb, H3, H4⟩
  imod h1 $$ [H1] with H1
  · isplitr; · iexact Hrec
    iexact H1
  imod h2 $$ [H2] with H2
  · isplitr; · iexact Hrec
    iexact H2
  imod h3 $$ [H3] with H3
  · isplitr; · iexact Hrec
    iexact H3
  imod h4 $$ [H4] with H4
  · isplitr; · iexact Hrec
    iexact H4
  imod (close m ρ (c, .inr ()) (later _)) $$ [Hb] with Hb
  · isplitr; · iexact Hrec
    iexact Hb
  imodintro
  isplitr [Hb]
  · isplitl [H2 H4]
    · isplitl [H2] <;> iassumption
    · isplitl [H1] <;> iassumption
  iexact Hb

/-- The pieces and the rests of all regions are the whole gathered buffer. -/
theorem rejoin (c : Dev nD) :
    iprop(bigSep (mine c) (piece m ρ c) ∗ bigSep (inbox c) (Rest m ρ c) ∗ Rest m ρ c (lo c))
      ⊢ comm c Finset.univ fullShare (gath m ρ) := by
  have hreg : regions c = insert (lo c) (inbox c) := rfl
  have hp : bigSep (mine c) (piece m ρ c) = bigSep (regions c) fun g => bigSep (readers c g) (piece m ρ c) := by
    rw [show mine c = (regions c).biUnion fun g => readers c g from Finset.ext fun j => by
      rw [Finset.mem_biUnion]
      exact ⟨fun hj => ⟨srcR c j, (srcR_mem c j (Finset.mem_filter.mp hj).2).1, Finset.mem_filter.mpr ⟨hj, rfl⟩⟩,
        fun ⟨g, _, hj⟩ => (Finset.mem_filter.mp hj).1⟩]
    exact bigSep_biUnion_eq _ _ _ fun g _ g' _ hne => Finset.disjoint_filter.mpr fun i _ h h' => hne (h.symm.trans h')
  have hr : iprop(bigSep (inbox c) (Rest m ρ c) ∗ Rest m ρ c (lo c)) ⊢ bigSep (regions c) (Rest m ρ c) := by
    rw [hreg, sep_insert (own_not_inbox c)]
    iintro ⟨H1, H2⟩
    isplitl [H2] <;> iassumption
  rw [← part_cover c, comm_groups _ _ (part_disj c), hp,
    bigSep_congr (s := regions c) (fun g _ => full_split m ρ c g), sep_pair]
  iintro ⟨H1, H2⟩
  isplitl [H1]; · iexact H1
  iapply hr; iexact H2

/-- What a device holds after the body, its counters still counted. -/
theorem finish (c : Dev nD) :
    iprop(St m ρ c 95 ∗ atPos ER (bcell c) 1 ∅ 0 ∗ Idle c)
      ⊢ |={Set.univ}=> iprop(Zeros c ∗ comm c Finset.univ fullShare (gath m ρ) ∗ (∃ W, owes (c : Thread nD τ) 0 W)
          ∗ Out m ρ c Finset.univ ∗ xAt m ρ c ∗ wAt m ρ c) := by
  unfold St Held
  rw [stand_end c]
  dsimp only
  rw [show bigSep (inbox c) (came m ρ c) = _ from sep_pair, show (oweSends c ∅ + oweTells ∅ : CellTallies nD τ sig Unit) = 0 from add_zero _]
  iintro ⟨⟨#Hrec, -, HO, -, -, Hgone, Hhand, -, ⟨Hat, Harr⟩, Hown, Hout, Hx, Hw⟩, Hb, Hidle⟩
  imod (close_device m ρ c) $$ [Hgone Hat Hb Hidle] with Hz
  · isplitr; · iexact Hrec
    isplitl [Hgone]; · iexact Hgone
    isplitl [Hat]; · iexact Hat
    isplitl [Hb] <;> iassumption
  imodintro
  isplitl [Hz]; · iexact Hz
  isplitl [Hhand Harr Hown]
  · iapply (rejoin m ρ c)
    isplitl [Hhand]; · iexact Hhand
    isplitl [Harr] <;> iassumption
  isplitl [HO]; · iexact HO
  isplitl [Hout]; · iexact Hout
  isplitl [Hx] <;> iassumption

end Cert.KernelIdeal.AG

end
-- ==== Proof.KernelIdeal.Deal.lean ====
module

public import proofs.«01_k».proof.Proof.Clock
public import proofs.«01_k».proof.Proof.KernelIdeal.Finish
public import Idealize.ShloMosaic.Lib.Pipeline.Launch

@[expose] public section

noncomputable section

/-!
# Dealing out the tokens

The invariants of all cells are allocated at launch, and the tokens of the duties go to the devices that pay them.
-/

namespace Cert.KernelIdeal.AG

open Cert.KernelIdeal Cert.KernelIdeal.Gen AllGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

/-! # What the launch deals to the devices

The round bookkeeping is allocated for all cells at once; each device gets the places of its own cells and the tokens of
the duties it pays, which stand on other devices' cells. -/

/-! ## The allocation -/

/-- The semaphores of the kernel's own arrays are distinct. -/
theorem osem_inj : Function.Injective osem := by decide +kernel
/-- A copy's semaphore is not a regular one. -/
theorem dma_ne_reg {k : DmaSem sig} {s : Sem sig} : (SemLoc.dma k : SemLoc sig) ≠ .reg s := fun h => by cases h
/-- None of the kernel's own semaphores is the barrier. -/
theorem osem_ne_bar (k : Own) : osem k ≠ bsem := by rcases k with k | k <;> exact dma_ne_reg
/-- Those semaphores and the barrier are distinct. -/
theorem csem_inj : Function.Injective csem := by
  rintro (k | k) (k' | k') h
  · exact congrArg _ (osem_inj h)
  · exact absurd h (osem_ne_bar k)
  · exact absurd h.symm (osem_ne_bar k')
  · rfl
/-- Equal cells are on the same device. -/
theorem dev_of {c d : Dev nD} {a b : SemLoc sig} (h : (((c : Thread nD τ), a) : GSem nD τ sig) = ((d : Thread nD τ), b)) : c = d :=
  congrArg (fun g : GSem nD τ sig => g.1.1) h
/-- The cells of all devices are distinct. -/
theorem kcell_inj : Function.Injective kcell := fun a b h => Prod.ext (dev_of h) (csem_inj (congrArg Prod.snd h))

/-- The duties of a device's cells: one on each of its own cells, one per device on its barrier. -/
def duty (ct : Dev nD × (Own ⊕ Dev nD)) : GSem nD τ sig × ℕ × Dev nD := match ct.2 with
  | .inl k => (kcell (ct.1, .inl k), 0, 0)
  | .inr d => (bcell ct.1, 0, d)
/-- The duties of all devices are distinct. -/
theorem duty_inj : Function.Injective duty := by
  rintro ⟨c, k | d⟩ ⟨c', k' | d'⟩ h
  · have := kcell_inj (a₁ := (c, .inl k)) (a₂ := (c', .inl k')) (congrArg Prod.fst h)
    cases this; rfl
  · exact absurd (kcell_inj (a₁ := (c, .inl k)) (a₂ := (c', .inr ())) (congrArg Prod.fst h)) fun h => by cases h
  · exact absurd (kcell_inj (a₁ := (c, .inr ())) (a₂ := (c', .inl k')) (congrArg Prod.fst h)) fun h => by cases h
  · have h1 : c = c' := dev_of (congrArg Prod.fst h)
    have h2 : d = d' := congrArg (fun x => x.2.2) h
    subst h1; subst h2; rfl

/-- All cells. -/
def allCells : Finset (GSem nD τ sig) := Finset.univ.map ⟨kcell, kcell_inj⟩
/-- All duties. -/
def allDuties : Finset (GSem nD τ sig × ℕ × Dev nD) := Finset.univ.map ⟨duty, duty_inj⟩
/-- The bookkeeping at launch: the pipeline's and the kernel's. -/
def u₀ : UU := (initOf (Pipeline.cells cfgs cellOf_inj) (Pipeline.launchToks cfgs cellOf_inj), initOf allCells allDuties)

/-- The places of a device's cells, and that their first rounds are reached. -/
def places (c : Dev nD) : sProp 𝕄 := bigSep Finset.univ fun k : Own ⊕ Unit => iprop(atPos ER (kcell (c, k)) 0 ∅ 0 ∗ reached ER (kcell (c, k)) 0)
/-- The tokens of the duties on a device's cells. -/
def tokens (c : Dev nD) : sProp 𝕄 := bigSep Finset.univ fun t : Own ⊕ Dev nD => dutyTok ER (duty (c, t)).1 (duty (c, t)).2.1 (duty (c, t)).2.2
/-- What the allocation gives for a device. -/
def G (c : Dev nD) : sProp 𝕄 :=
  iprop((bigSep Finset.univ fun k : Own ⊕ Unit => roundState ER (sched m ρ) (kcell (c, k)) 0) ∗ places c ∗ tokens c)

/-- The bookkeeping at launch funds all devices. -/
theorem fund_all : BI.own (ER (initOf allCells allDuties)) ⊢ (|==> bigSep Finset.univ (G m ρ) : sProp 𝕄) := by
  have hX (Φ : GSem nD τ sig → sProp 𝕄) : bigSep allCells Φ
      = bigSep Finset.univ fun c : Dev nD => bigSep Finset.univ fun k : Own ⊕ Unit => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => tokens c := by
    unfold allDuties tokens; rw [bigSep_map, bigSep_univ_prod]; rfl
  iintro HX
  imod (Rounds.fund ER (sched m ρ) allCells allDuties) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hat' Hr']
  · isplitl [Hat'] <;> iassumption
  iexact Htok'

/-! ## The cells of one device -/

/-- The counters of a device's semaphores are those of its cells. -/
theorem sems_eq (c : Dev nD) :
    iprop(Pipeline.ownSems0 (Ix := Unit) (Name := ℕ) (U := UU) (Lvl := ℕ) (Val := Elt F) (τ := τ) osem c ∗ unscopedSems0 c) = (Zeros c : sProp 𝕄) := by
  have h : (unscopedSems0 c : sProp 𝕄) = semVal (bcell c) 0 := by
    unfold unscopedSems0; rw [bigSep_eq_bigSepL_of_eq [bsem] (by decide +kernel) (by decide)]; rfl
  rw [h]; rfl

/-- Members of a sum of two. -/
theorem sum_unit (Φ : Own ⊕ Unit → sProp 𝕄) : bigSep Finset.univ Φ = iprop((bigSep Finset.univ fun k => Φ (.inl k)) ∗ Φ (.inr ())) := by
  rw [show bigSep Finset.univ Φ = iprop((bigSep Finset.univ fun k => Φ (.inl k)) ∗ bigSep Finset.univ fun u => Φ (.inr u)) from BI.bigSep_univ_sum Φ,
    show (Finset.univ : Finset Unit) = {()} from rfl, bigSep_singleton]

/-- The invariants of a device's cells are allocated. -/
theorem alloc_device (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Own ⊕ Unit => iprop(∃ κ : ℕ, cellInv ER (sched m ρ) κ (kcell (c, k)))) ∗ places c ∗ tokens c) := by
  have hinv : iprop(Zeros c ∗ bigSep Finset.univ fun k : Own ⊕ Unit => roundState ER (sched m ρ) (kcell (c, k)) 0)
      ⊢ (|={Set.univ}=> bigSep Finset.univ fun k : Own ⊕ Unit => iprop(∃ κ : ℕ, cellInv ER (sched m ρ) κ (kcell (c, k))) : sProp 𝕄) := by
    rw [show (Zeros c : sProp 𝕄) = bigSep Finset.univ fun k : Own ⊕ Unit => semVal (kcell (c, k)) 0 from (sum_unit fun k => semVal (kcell (c, k)) 0).symm, ← sep_pair]
    exact (sep_mono fun k _ => (Rounds.body_intro ER (sched m ρ) (kcell (c, k))).trans inv_alloc).trans (bigSep_fupd _ _)
  unfold G
  iintro ⟨Ho, Hu, Hst, Hat, Htok⟩
  ihave Hv := (Entails.of_eq (sems_eq (F := F) c)) $$ [Ho Hu]
  · isplitl [Ho] <;> iassumption
  imod hinv $$ [Hv Hst] with Hinv
  · isplitl [Hv] <;> iassumption
  imodintro
  isplitl [Hinv]; · iexact Hinv
  isplitl [Hat] <;> iassumption

/-! ## The tokens, to those who pay -/

/-- The tokens a device pays with. -/
def purse (c : Dev nD) : sProp 𝕄 :=
  iprop((bigSep (mine c) fun j => dutyTok ER (scell c j) 0 0) ∗ (bigSep (mine c) fun j => dutyTok ER (rcell (tgt c j) (slot c j)) 0 0)
    ∗ bigSep (nears c) fun d => dutyTok ER (bcell d) 0 c)

/-- What stands with all devices in one numbering, found again in another. -/
theorem renumber {A B : Type} [Fintype A] [DecidableEq A] [Fintype B] [DecidableEq B] (T : Dev nD → Finset B) (e : Dev nD × B → Dev nD × A)
    (he : ∀ x y, x.2 ∈ T x.1 → y.2 ∈ T y.1 → e x = e y → x = y) (Φ : Dev nD × A → sProp 𝕄) :
    (bigSep Finset.univ fun c => bigSep Finset.univ fun h => Φ (c, h)) ⊢ bigSep Finset.univ fun d => bigSep (T d) fun j => Φ (e (d, j)) := by
  have hS : bigSep (Finset.univ.filter fun x : Dev nD × B => x.2 ∈ T x.1) (fun x => Φ (e x)) = bigSep Finset.univ fun d => bigSep (T d) fun j => Φ (e (d, j)) := by
    rw [BI.bigSep_filter, bigSep_univ_prod]
    exact bigSep_congr fun d _ => (BI.bigSep_filter ..).symm.trans (by simp only [Finset.filter_mem_eq_inter, Finset.univ_inter])
  rw [← hS, ← bigSep_image_of_injOn (fun x hx y hy => he x y (Finset.mem_filter.mp hx).2 (Finset.mem_filter.mp hy).2) Φ, ← bigSep_univ_prod Φ]
  exact bigSep_subset (Finset.subset_univ _)

/-- The tokens go to the devices that pay with them. -/
theorem deal_tokens : (bigSep Finset.univ fun c : Dev nD => (tokens c : sProp 𝕄)) ⊢ bigSep Finset.univ fun c : Dev nD => purse c := by
  have e : (bigSep Finset.univ fun c : Dev nD => (tokens c : sProp 𝕄))
      = iprop((bigSep Finset.univ fun c : Dev nD => iprop((bigSep Finset.univ fun h => dutyTok ER (rcell c h) 0 0)
          ∗ bigSep Finset.univ fun j => dutyTok ER (scell c j) 0 0))
        ∗ bigSep Finset.univ fun c : Dev nD => bigSep Finset.univ fun d => dutyTok ER (bcell c) 0 d) := by
    rw [← sep_pair]
    refine bigSep_congr fun c _ => ?_
    unfold tokens
    refine (show _ = iprop((bigSep Finset.univ fun k : Own => _) ∗ bigSep Finset.univ fun d : Dev nD => _) from BI.bigSep_univ_sum _).trans ?_
    rw [own_sum]; rfl
  rw [e]
  unfold purse
  rw [sep_pair, sep_pair, sep_pair]
  have hs : (bigSep Finset.univ fun c : Dev nD => bigSep Finset.univ fun j => (dutyTok ER (scell c j) 0 0 : sProp 𝕄))
      ⊢ bigSep Finset.univ fun c : Dev nD => bigSep (mine c) fun j => dutyTok ER (scell c j) 0 0 :=
    sep_mono fun c _ => bigSep_subset (Finset.subset_univ _)
  have hr : (bigSep Finset.univ fun c : Dev nD => bigSep Finset.univ fun h => (dutyTok ER (rcell c h) 0 0 : sProp 𝕄))
      ⊢ bigSep Finset.univ fun c : Dev nD => bigSep (mine c) fun j => dutyTok ER (rcell (tgt c j) (slot c j)) 0 0 :=
    renumber mine (fun x => (tgt x.1 x.2, slot x.1 x.2)) (fun x y hx hy h => by
      rw [show x = _ from (arrives x.1 x.2 (Finset.mem_filter.mp hx).2).2.2.1.symm, show y = _ from (arrives y.1 y.2 (Finset.mem_filter.mp hy).2).2.2.1.symm]
      exact congrArg (fun z : Dev nD × Fin 32 => sender z.1 z.2) h) fun z => dutyTok ER (rcell z.1 z.2) 0 0
  have hb : (bigSep Finset.univ fun c : Dev nD => bigSep Finset.univ fun d => (dutyTok ER (bcell c) 0 d : sProp 𝕄))
      ⊢ bigSep Finset.univ fun c : Dev nD => bigSep (nears c) fun d => dutyTok ER (bcell d) 0 c :=
    renumber nears (fun x => (x.2, x.1)) (fun x y _ _ h => Prod.ext (congrArg Prod.snd h) (congrArg Prod.fst h)) fun z => dutyTok ER (bcell z.1) 0 z.2
  iintro ⟨⟨H1, H2⟩, H3⟩
  isplitl [H2]; · iapply hs; iexact H2
  isplitl [H1]; · iapply hr; iexact H1
  iapply hb; iexact H3

/-! ## What each device starts with -/

/-- What the launch deals a device. -/
def G' (c : Dev nD) : sProp 𝕄 :=
  iprop(Rec m ρ ∗ (bigSep (mine c) fun j => iprop(dutyTok ER (scell c j) 0 0 ∗ dutyTok ER (rcell (tgt c j) (slot c j)) 0 0 ∗ atPos ER (scell c j) 0 ∅ 0))
    ∗ (bigSep (inbox c) fun h => atPos ER (rcell c h) 0 ∅ 0) ∗ (bigSep (nears c) fun d => dutyTok ER (bcell d) 0 c) ∗ atPos ER (bcell c) 0 ∅ 0 ∗ Idle c)

/-- The records, the places of a device's cells and its tokens are what the device starts with. -/
theorem deal_device (c : Dev nD) :
    iprop(Rec m ρ ∗ (bigSep Finset.univ fun k : Own ⊕ Unit => atPos ER (kcell (c, k)) 0 ∅ 0) ∗ purse c) ⊢ G' m ρ c := by
  unfold G' Idle purse
  rw [sum_unit, own_sum, sep_part (Finset.subset_univ (mine c)), sep_part (Finset.subset_univ (inbox c)), sep_pair, sep_pair]
  iintro ⟨#Hrec, ⟨⟨⟨Hi, Hi'⟩, Hm, Hm'⟩, Hb⟩, Hs, Hr, Hn⟩
  isplitr; · iexact Hrec
  isplitl [Hs Hr Hm]
  · isplitl [Hs]; · iexact Hs
    isplitl [Hr]; · iexact Hr
    iexact Hm
  isplitl [Hi]; · iexact Hi
  isplitl [Hn]; · iexact Hn
  isplitl [Hb]; · iexact Hb
  isplitl [Hm']; · iexact Hm'
  iexact Hi'

/-- From all devices' cells, places and tokens to what each device starts with. -/
theorem deal :
    (bigSep Finset.univ fun c : Dev nD => iprop((bigSep Finset.univ fun k : Own ⊕ Unit => iprop(∃ κ : ℕ, cellInv ER (sched m ρ) κ (kcell (c, k))))
        ∗ places c ∗ tokens c) : sProp 𝕄) ⊢ bigSep Finset.univ (G' m ρ) := by
  have hp : (bigSep Finset.univ fun c : Dev nD => (places c : sProp 𝕄))
      = iprop((bigSep Finset.univ fun c : Dev nD => bigSep Finset.univ fun k : Own ⊕ Unit => atPos ER (kcell (c, k)) 0 ∅ 0)
        ∗ bigSep Finset.univ fun ck : Dev nD × (Own ⊕ Unit) => reached ER (kcell ck) 0) := by
    unfold places
    rw [bigSep_univ_prod fun ck : Dev nD × (Own ⊕ Unit) => (reached ER (kcell ck) 0 : sProp 𝕄), ← sep_pair]
    exact bigSep_congr fun c _ => sep_pair
  rw [sep_pair, sep_pair, hp, ← bigSep_univ_prod fun ck : Dev nD × (Own ⊕ Unit) => iprop(∃ κ : ℕ, cellInv ER (sched m ρ) κ (kcell ck))]
  iintro ⟨HI, ⟨Hat, Hr⟩, Htok⟩
  ihave Htok := (deal_tokens (F := F)) $$ Htok
  have hrec : iprop((bigSep Finset.univ fun ck : Dev nD × (Own ⊕ Unit) => iprop(∃ κ : ℕ, cellInv ER (sched m ρ) κ (kcell ck)))
      ∗ bigSep Finset.univ fun ck : Dev nD × (Own ⊕ Unit) => reached ER (kcell ck) 0) ⊢ Rec m ρ := by unfold Rec; rw [sep_pair]
  ihave #Hrec := hrec $$ [HI Hr]
  · isplitl [HI]
    · iexact HI
    · iexact Hr
  iapply (sep_with (P := Rec m ρ) fun c _ => deal_device m ρ c)
  isplitr; · iexact Hrec
  rw [sep_pair]
  isplitl [Hat]
  · iexact Hat
  · iexact Htok

/-- The whole allocation, after the launch's counters are handed in. -/
theorem glob :
    (bigSep Finset.univ fun c => iprop(Pipeline.ownSems0 (Ix := Unit) (Name := ℕ) (U := UU) (Lvl := ℕ) (Val := Elt F) (τ := τ) osem c
        ∗ unscopedSems0 c ∗ G m ρ c) : sProp 𝕄)
      ⊢ |={Set.univ}=> bigSep Finset.univ (G' m ρ) :=
  ((sep_mono fun c _ => alloc_device m ρ c).trans (bigSep_fupd _ _)).trans (BI.fupd_mono (deal m ρ))

/-! ## The credits of the launch -/

/-- What a device owes an arrival of another. -/
theorem owed_recv (d c : Dev nD) (h : Fin 32) :
    O₀ d (rcell c h) () = ∑ j ∈ mine d, if tgt d j = c ∧ slot d j = h then credit (isHalf j) else 0 := by
  have h1 : oweTells (nears d) (rcell c h) () = 0 := by
    by_contra hn
    obtain ⟨e, _, he⟩ := oweTells_pos (Nat.pos_of_ne_zero hn)
    exact absurd (congrArg Prod.snd he) dma_ne_reg
  unfold O₀
  rw [Pi.add_apply, Finsupp.add_apply, h1, Nat.add_zero]
  unfold oweSends
  rw [Finset.sum_apply, Finsupp.finset_sum_apply]
  refine Finset.sum_congr rfl fun j _ => ?_
  rw [tallyAt_apply]
  refine if_congr ⟨fun hh => ?_, fun hh => ?_⟩ rfl rfl
  · have := kcell_inj (a₁ := (c, .inl (.inl h))) (a₂ := (tgt d j, .inl (.inl (slot d j)))) hh.1
    rw [Prod.mk.injEq, Sum.inl.injEq, Sum.inl.injEq] at this
    exact ⟨this.1.symm, this.2.symm⟩
  · rw [hh.1, hh.2]; exact ⟨rfl, rfl⟩

/-- What a device owes the barrier of another. -/
theorem owed_bar (d c : Dev nD) : O₀ d (bcell c) () = if c ∈ nears d then 1 else 0 := by
  have h1 : oweSends d (mine d) (bcell c) () = 0 := by
    by_contra hn
    obtain ⟨e, _, he⟩ := oweSends_pos (Nat.pos_of_ne_zero hn)
    exact absurd (congrArg Prod.snd he) dma_ne_reg.symm
  unfold O₀
  rw [Pi.add_apply, Finsupp.add_apply, h1, Nat.zero_add]
  unfold oweTells
  rw [Finset.sum_apply, Finsupp.finset_sum_apply, ← Finset.sum_ite_eq' (nears d) c fun _ => 1]
  refine Finset.sum_congr rfl fun e _ => ?_
  rw [tallyAt_apply]
  exact if_congr ⟨fun hh => (dev_of hh.1).symm, fun hh => by rw [hh]; exact ⟨rfl, rfl⟩⟩ rfl rfl

/-- All devices together owe an arrival its size, -/
theorem launch_recv (c : Dev nD) (h : Fin 32) (hh : gets c h) :
    tallyOn (rcell c h) (launchCredit (Pipeline.owing O₀) 0 (rcell c h)) = (tallyAt (rcell c h) () (credit (halfR c h)) : CellTallies nD τ sig Unit) := by
  obtain ⟨hs, ht, hl⟩ := departs c h hh
  unfold tallyAt; refine congrArg _ (Finsupp.ext fun u => ?_); cases u
  rw [Pipeline.launchCredit_owing, Finsupp.single_eq_same, Finset.sum_congr rfl fun d _ => owed_recv d c h]
  have only : ∀ d, ∀ j ∈ mine d, tgt d j = c ∧ slot d j = h → (d, j) = sender c h := fun d j hj e => by
    rw [← (arrives d j (Finset.mem_filter.mp hj).2).2.2.1, e.1, e.2]
  rw [Finset.sum_eq_single (sender c h).1 (fun d _ hd => Finset.sum_eq_zero fun j hj => if_neg fun e => hd (congrArg Prod.fst (only d j hj e)))
    (fun hn => absurd (Finset.mem_univ _) hn),
    Finset.sum_eq_single (sender c h).2 (fun j hj hd => if_neg fun e => hd (congrArg Prod.snd (only _ j hj e)))
    (fun hn => absurd (Finset.mem_filter.mpr ⟨Finset.mem_univ _, hs⟩ : (sender c h).2 ∈ mine (sender c h).1) hn), if_pos ⟨ht, hl⟩, ← (arrives _ _ hs).2.1, ht, hl]

/-- and a barrier a unit for each of the five devices near. -/
theorem launch_bar (c : Dev nD) :
    tallyOn (bcell c) (launchCredit (Pipeline.owing O₀) 0 (bcell c)) = (tallyAt (bcell c) () 5 : CellTallies nD τ sig Unit) := by
  unfold tallyAt; refine congrArg _ (Finsupp.ext fun u => ?_); cases u
  rw [Pipeline.launchCredit_owing, Finsupp.single_eq_same, Finset.sum_congr rfl fun d _ => (owed_bar d c).trans (if_congr (nears_symm d c) rfl rfl),
    ← Finset.sum_filter, Finset.sum_const, Finset.filter_mem_eq_inter, Finset.univ_inter, near_card]; rfl

/-- The credits a device is dealt. -/
theorem creds (c : Dev nD) : (Pipeline.launchCred O₀ c : sProp 𝕄)
    ⊢ iprop(cred (tallyAt (bcell c) () 5) ∗ bigSep (inbox c) fun h => cred (tallyAt (rcell c h) () (credit (halfR c h)))) := by
  unfold Pipeline.launchCred
  rw [sep_erase (Finset.mem_univ bsem), launch_bar]
  have hsub : (inbox c).image (fun h => (SemLoc.dma (rsem h) : SemLoc sig)) ⊆ Finset.univ.erase bsem := fun s hs => by
    obtain ⟨h, _, rfl⟩ := Finset.mem_image.mp hs
    exact Finset.mem_erase.mpr ⟨dma_ne_reg, Finset.mem_univ _⟩
  have hr : (bigSep (Finset.univ.erase bsem) fun sm : SemLoc sig =>
      (cred (tallyOn ((c.tc : Thread nD τ), sm) (launchCredit (Pipeline.owing O₀) 0 ((c.tc : Thread nD τ), sm))) : sProp 𝕄))
      ⊢ bigSep (inbox c) fun h => cred (tallyAt (rcell c h) () (credit (halfR c h))) := by
    refine (show _ ⊢ _ from bigSep_subset hsub).trans ?_
    rw [bigSep_image_of_injOn (f := fun h : Fin 32 => (SemLoc.dma (rsem h) : SemLoc sig)) fun a _ b _ h =>
      Sum.inl.inj (osem_inj (a₁ := .inl a) (a₂ := .inl b) h)]
    exact sep_mono fun h hh => Entails.of_eq (congrArg cred (launch_recv c h (Finset.mem_filter.mp hh).2))
  iintro ⟨H1, H2⟩
  isplitl [H1]; · iexact H1
  iapply hr; iexact H2

end Cert.KernelIdeal.AG

end
-- ==== Proof.KernelIdeal.Launch.lean ====
module

public import proofs.«01_k».proof.Proof.Clock
public import proofs.«01_k».proof.Proof.KernelIdeal.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

/-!
# The launch

The body is one grid point of a pipeline with three windows; from its proof follows the run of the whole program.
-/

namespace Cert.KernelIdeal.AG

open Cert.KernelIdeal Cert.KernelIdeal.Gen AllGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

/-! # The run of the whole program

The body obligation of the pipeline from the body's run, and the run of all sixteen devices from the launch. -/

/-! ## The gathered buffer at launch -/

/-- The gathered buffer is the device's own chunk and the half slots the near devices fill. -/
theorem hand_out (c : Dev nD) (f : S32x64x2048.Idx → Elt F .f32) :
    comm (F := F) c Finset.univ fullShare f
      ⊢ iprop((∃ f, comm (F := F) c (reg false (lo c)) fullShare f) ∗ bigSep (nears c) fun d => iprop(∃ f, comm (F := F) c (handed d c) fullShare f)) := by
  have hn : ∀ {d}, d ∈ nears c → near c d := fun hd => (Finset.mem_filter.mp hd).2
  have hu : Finset.univ \ reg false (lo c) = (nears c).biUnion fun d => handed d c := by
    have hc : (nears c).biUnion (fun d => handed d c) ∪ reg false (lo c) = Finset.univ := handed_cover c
    have hd : Disjoint ((nears c).biUnion fun d => handed d c) (reg false (lo c)) :=
      (Finset.disjoint_biUnion_left _ _ _).mpr fun d hd => handed_own c d (hn hd)
    rw [← hc, Finset.union_sdiff_right, Finset.sdiff_eq_self_of_disjoint hd]
  rw [comm_split (Finset.subset_univ (reg false (lo c))), hu,
    comm_groups _ _ fun d hd e he hne => handed_disj c d e (hn hd) (hn he) hne]
  iintro ⟨H1, H2⟩
  isplitl [H1]; · iexists f; iexact H1
  iapply (sep_mono fun d _ => by iintro H; iexists f; iexact H : bigSep (nears c) (fun d => comm (F := F) c (handed d c) fullShare f) ⊢ _)
  iexact H2

/-- All half slots are the whole buffer. -/
theorem comm_whole (c : Dev nD) (f : S32x64x2048.Idx → Elt F .f32) :
    comm (F := F) c Finset.univ fullShare f
      = (((c : Thread nD τ).loc cc0_scratch0) ↦{fullShare} (f : Buf (Elt F) ((c : Thread nD τ).loc cc0_scratch0)) : sProp 𝕄) := by
  unfold comm; rw [slotSet_univ]

/-! ## The pipeline's data -/

/-- What a device's body starts from, the gathered buffer apart. -/
def Start (c : Dev nD) : sProp 𝕄 :=
  iprop(levAts L lv ∗ cred (tallyAt (bcell c) () 5) ∗ (bigSep (inbox c) fun h => cred (tallyAt (rcell c h) () (credit (halfR c h)))) ∗ G' m ρ c)
/-- Before the body. -/
def Φ₀ (c : Dev nD) : sProp 𝕄 := iprop(Start m ρ c ∗ ∃ f, comm (F := F) c Finset.univ fullShare f)
/-- After the body: all counters at zero, the gathered buffer whole. -/
def Φ₁ (c : Dev nD) : sProp 𝕄 := iprop(Zeros c ∗ ∃ f, comm (F := F) c Finset.univ fullShare f)

/-- What the pipeline holds on a device: the arrays, what the body leaves in the windows, what the device owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The grid has one point. -/
theorem one_point : cfg0.N = 1 := by decide
/-- The one grid point. -/
def pt : Fin cfg0.N := ⟨0, by rw [one_point]; decide⟩
/-- Every grid point is that one. -/
theorem pt_only (t : Fin cfg0.N) : t = pt := by
  obtain ⟨t, ht⟩ := t; have := one_point; exact Fin.ext (by simp only [pt]; omega)

/-- Something for every window is something for each of the three. -/
theorem windows (Φ : Fin cfg0.W → sProp 𝕄) : bigSep Finset.univ Φ = iprop(Φ (0 : Fin 3) ∗ Φ (1 : Fin 3) ∗ Φ (2 : Fin 3)) := bigSep_W0 Φ

/-- Owning an array is holding all its elements at full share. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The body as the pipeline calls it. -/
abbrev body : Prog (TpuEff nD τ sig (Elt F) Λ₀ .tc) PUnit :=
  cc0_body xM (Memref.isWhole_whole _) wM (Memref.isWhole_whole _) oM (Memref.isWhole_whole _) rM (Memref.isWhole_whole _)
    cc0_scratch1 cc0_scratch2 cc0_scratch3 cc0_scratch4 cc0_scratch5 cc0_scratch6

def bodyPre (c : Dev nD) : sProp 𝕄 :=
  iprop(Φ₀ m ρ c ∗ (dats m ρ 0 c).owesAt () pt.castSucc
    ∗ (∃ d, stg c cc0_stg0_0 ((dats m ρ 0 c).before (0 : Fin 3) pt d))
    ∗ (∃ d, stg c cc0_stg1_0 ((dats m ρ 0 c).before (1 : Fin 3) pt d))
    ∗ (∃ d, stg c cc0_stg2_0 ((dats m ρ 0 c).before (2 : Fin 3) pt d)))
def bodyPost (c : Dev nD) : sProp 𝕄 :=
  iprop(Φ₁ c ∗ (dats m ρ 0 c).owesAt () pt.succ ∗ stg c cc0_stg0_0 (xstg m ρ c) ∗ stg c cc0_stg1_0 (wstg m ρ c) ∗ stg c cc0_stg2_0 (outAt m ρ c))

/-- What the pipeline gives is what the body's run starts from. -/
theorem start_body (c : Dev nD) : bodyPre m ρ c ⊢ iprop(Pre m ρ c 0 ∗ Idle c) := by
  unfold bodyPre Φ₀ Start G' Pre Kept Dat.owesAt Pipeline.owesWithin
  rw [tell_start c, sep_pair (S := nears c), show bigSep (inbox c) (coming c) = _ from sep_pair]
  rw [show (dats m ρ 0 c).owed pt.castSucc = oweSends c (mine c) + oweTells (nears c) from rfl]
  iintro ⟨⟨⟨Hlev, Hcb, Hcr, #Hrec, Hm, Hin, Hn, Hb, Hid⟩, ⟨%f, Hf⟩⟩, ⟨%W, -, HO⟩, ⟨%d0, %g0, %hg0, Hx⟩, ⟨%d1, %g1, %hg1, Hw⟩, ⟨%d2, %g2, -, Hout⟩⟩
  have hx : g0 = xstg m ρ c := by rw [hg0]; unfold Dat.before; rw [if_pos (fetch0_0 pt)]; rfl
  have hw : g1 = wstg m ρ c := by rw [hg1]; unfold Dat.before; rw [if_pos (fetch0_1 pt)]; rfl
  subst hx; subst hw
  ihave Hf := (hand_out c f) $$ Hf
  icases Hf with ⟨Hown, Hhand⟩
  isplitr [Hid]
  · isplitl [Hlev Hown Hm Hcr Hin Hout Hx Hw]
    · isplitr; · iexact Hrec
      isplitl [Hlev]; · iexact Hlev
      isplitl [Hown]; · iexact Hown
      isplitl [Hm]; · iexact Hm
      isplitl [Hcr Hin]
      · isplitl [Hcr]; · iexact Hcr
        iexact Hin
      isplitl [Hout]; · iexists g2; iexact Hout
      isplitl [Hx]
      · unfold xAt; iexact Hx
      · unfold wAt; iexact Hw
    isplitl [HO]; · iexists W; iexact HO
    isplitl [Hn Hhand]
    · isplitl [Hn]; · iexact Hn
      iexact Hhand
    isplitl [Hcb]; · iexact Hcb
    iexact Hb
  iexact Hid

/-- What the body's run ends with is what the pipeline takes back. -/
theorem end_body (c : Dev nD) : iprop(St m ρ c 95 ∗ atPos ER (bcell c) 1 ∅ 0 ∗ Idle c) ⊢ |={Set.univ}=> bodyPost m ρ c := by
  iintro H
  imod (finish m ρ c) $$ H with ⟨Hz, Hf, ⟨%W, HO⟩, Hout, Hx, Hw⟩
  imodintro
  unfold bodyPost Φ₁ Dat.owesAt Pipeline.owesWithin Out xAt wAt
  rw [show (dats m ρ 0 c).owed pt.succ = 0 from rfl]
  icases Hout with ⟨%f, %hf, Hout⟩
  isplitl [Hz Hf]
  · isplitl [Hz]; · iexact Hz
    iexists _; iexact Hf
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists f; isplitr
  · ipureintro; exact funext fun i => hf i (Finset.mem_univ _)
  · iexact Hout

set_option maxRecDepth 4000 in
/-- The body does what the pipeline asks of it. -/
theorem body_obligation (c : Dev nD) : BodyObligation (dats (F := F) m ρ 0 c) (defs₀ (F := F)) 𝒱₀ () Set.univ := fun t => by
  rw [pt_only t]
  rw [windows, windows]
  simp only [owns_whole]
  show bodyPre m ρ c ⊢ Runs c body (fun _ => bodyPost m ρ c)
  exact (start_body m ρ c).trans ((body_runs m ρ (R := Idle c) (Q := fun _ => iprop(|={Set.univ}=> bodyPost m ρ c)) (end_body m ρ c)).trans
    (wp_fupd _ _ _ _ _))

/-! ## The launch -/

/-- The kernel's own semaphores are apart from those that stage the windows. -/
theorem own_facts : Pipeline.OwnSemFacts cfg0.spec osem := by decide +kernel
/-- Every window is held at full share. -/
theorem share_eq (c : Dev nD) (w : Fin cfg0.W) : (dats m ρ 0 c).share w = fullShare := by unfold Dat.share; split <;> rfl

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(Start m ρ c ∗ emp) := by
  iintro ⟨-, Hlev, Hcr, -, HG⟩
  ihave Hc := (creds (F := F) c) $$ Hcr
  icases Hc with ⟨H1, H2⟩
  imodintro
  unfold Start
  isplitl
  · isplitl [Hlev]; · iexact Hlev
    isplitl [H1]; · iexact H1
    isplitl [H2]; · iexact H2
    iexact HG
  · iempintro

/-- With the buffer, that is the state before the one grid point. -/
theorem first_intro (c : Dev nD) :
    iprop(Start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [comm_whole]; iexact Hr

/-- The state after it gives back the semaphores at zero and the buffer. -/
theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [← sems_eq]
  iintro ⟨⟨Ho, Hu⟩, ⟨%f, Hf⟩⟩
  isplitl [Hu]; · iexact Hu
  isplitl [Ho]; · iexact Ho
  iexists f; rw [← comm_whole]; iexact Hf

/-- The pipeline may wait for its staging transfers whatever the device owes. -/
theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), .dma ((cfg0.win w).sem s)) () ≤ 0 := by
      have : cls ((cfg0.win w).sem s) = none := by fin_cases w <;> fin_cases s <;> decide
      dsimp only [lv]; rw [this]
    rcases t with ⟨_ | _, ht⟩
    · exact mayWait_of c _ 0 (mine c) (nears c) h0 (fun j _ => Nat.lt_of_lt_of_le Nat.zero_lt_one (rank_pos _ _).le) fun d _ => Nat.zero_lt_one
    · have h := mayWait_of (F := F) c (.dma ((cfg0.win w).sem s)) 0 ∅ ∅ h0 (fun j hj => absurd hj (Finset.notMem_empty j)) fun d hd => absurd hd (Finset.notMem_empty d)
      rw [show (oweSends c ∅ + oweTells ∅ : CellTallies nD τ sig Unit) = 0 from add_zero _] at h
      exact h

/-- The contents of a window's array after the run. -/
def finalA (c : Dev nD) (w : Fin cfg0.W) : Buf (Elt F) ((cfg0.win w).arr.view.loc (c : Thread nD τ)) := (dats m ρ 0 c).arrAt w cfg0.N

/-- Every array of every window is at its contents after the run. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero, every weakly fair execution of the sixteen devices ends, with the arrays
at their computed contents and every counter at zero again. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := Start m ρ) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.AG

end
-- ==== Proof.KernelIdeal.Ends.lean ====
/-
  The arrays after the run: the two arguments as they were, the result as the body left it in its staging buffer.
-/
module

public import proofs.«01_k».proof.Proof.Clock
public import proofs.«01_k».proof.Proof.KernelIdeal.Launch
public import Idealize.ShloMosaic.Lib.Pipeline.Value

@[expose] public section

noncomputable section

namespace Cert.KernelIdeal.AG

open Cert.KernelIdeal Cert.KernelIdeal.Gen AllGather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareTokN shareDrop)

variable {F : FTy → Type} [FloatOps F]

local notation "𝕄" => MT nD τ sig Unit (Elt F) ℕ UU ℕ

variable (m : (ℓ : Loc nD τ sig) → Buf (Elt F) ℓ) (ρ : Dev nD → PrngReg)

/-- The rows of `x` staged on a device are its argument array. -/
theorem xstg_eq (c : Dev nD) : xstg m ρ c = m ((c : Thread nD τ).loc main_arg0) :=
  funext fun i => congrArg (m ((c : Thread nD τ).loc main_arg0)) (Shape.idx_ext₂
    (by show 0 * 128 + 1 * (i 0).val = (i 0).val; omega) (by show 0 * 2048 + 1 * (i 1).val = (i 1).val; omega))

/-- The columns of `w` staged on a device are its argument array. -/
theorem wstg_eq (c : Dev nD) : wstg m ρ c = m ((c : Thread nD τ).loc main_arg1) :=
  funext fun i => congrArg (m ((c : Thread nD τ).loc main_arg1)) (Shape.idx_ext₂
    (by show 0 * 2048 + 1 * (i 0).val = (i 0).val; omega) (by show 0 * 128 + 1 * (i 1).val = (i 1).val; omega))

/-- The first argument ends as it was. -/
theorem final_x (c : Dev nD) : finalA m ρ c (0 : Fin 3) = m ((c : Thread nD τ).loc main_arg0) :=
  (dats (F := F) m ρ 0 c).arrAt_in (0 : Fin 3) rfl _
/-- The second argument ends as it was. -/
theorem final_w (c : Dev nD) : finalA m ρ c (1 : Fin 3) = m ((c : Thread nD τ).loc main_arg1) :=
  (dats (F := F) m ρ 0 c).arrAt_in (1 : Fin 3) rfl _

/-- Where an element of the result's one block lies in the array. -/
theorem emb_out (t : Fin cfg0.N) (i : S2048x128.Idx) : ((cfg0.win (2 : Fin 3)).blk t).view.emb i = i :=
  Shape.idx_ext₂ (by show 0 * 2048 + 1 * (i 0).val = (i 0).val; omega) (by show 0 * 128 + 1 * (i 1).val = (i 1).val; omega)

/-- The result's array ends holding what the body left in the staging buffer. -/
theorem final_out (c : Dev nD) : finalA m ρ c (2 : Fin 3) = outAt m ρ c := by
  refine (dats (F := F) m ρ 0 c).arrAt_eq_of_cover (2 : Fin 3) (outAt m ρ c) (fun t _ => ?_) (fun i => ⟨pt, by decide, ?_⟩)
  · rw [pt_only t]
    funext i
    exact congrArg (outAt m ρ c) (emb_out pt i).symm
  · rw [← emb_out pt i]; exact View.emb_mem_set _ _

/-- The run: the arguments unchanged, the result as computed, every counter zero. -/
theorem run_ends : θ_run defs (onTc (τ := τ) (main (F := F))) (s₀ m ρ) (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h =>
    ⟨fun c => ⟨(h.1 c (2 : Fin 3)).trans (final_out m ρ c), (h.1 c (0 : Fin 3)).trans (final_x m ρ c), (h.1 c (1 : Fin 3)).trans (final_w m ρ c)⟩, h.2⟩)
    (run_main m ρ)

end Cert.KernelIdeal.AG
-- ==== Proof.KernelIdeal.Value.lean ====
/-
  The values over the reals. The arrays after the run are read off the pipeline's account of its windows; an element of
  the result is the activation of one row of the gathered `x` against one column of the device's `w`, whichever of the
  two block heights it was computed at; and the host's formula on one device is the same activation of the same sum.
-/
module

public import proofs.«01_k».proof.Proof.KernelIdeal.Ends
public import proofs.«01_k».proof.Proof.Gen.ReferenceIdeal.Run
public import Idealize.ShloMosaic.Lib.MatmulPlain
public import Idealize.ShloMosaic.Lib.Pipeline.Value
public import Idealize.ShloMosaic.Lib.Layout

@[expose] public section

noncomputable section

namespace Cert.KernelIdeal.AG

open Cert.KernelIdeal Cert.KernelIdeal.Gen AllGather
open Idealize.ShloMosaic Idealize.ShloMosaic.TcCoe Idealize.ShloMosaic.ValueIdx
open Idealize.SL.Sem
open scoped BigOperators

/-! ## The activation -/

section Act
variable {F : FTy → Type} [FloatOps F]

/-- The activation as the kernel computes it: half the argument times one plus the hyperbolic tangent of its cubic. -/
def act (y : F .f32) : F .f32 :=
  FloatOps.mulf (FloatOps.mulf (Scalar.ofBits .f32 0x3F000000#32) y)
    (FloatOps.addf (Scalar.ofBits .f32 0x3F800000#32)
      (FloatOps.tanh (FloatOps.mulf (Scalar.ofBits .f32 0x3F4C422A#32)
        (FloatOps.addf y (FloatOps.mulf (FloatOps.mulf (FloatOps.mulf (Scalar.ofBits .f32 0x3D372713#32) y) y) y)))))

/-- The activation as the host computes it: the cube is formed before its coefficient is applied. -/
def hostAct (y : F .f32) : F .f32 :=
  FloatOps.mulf (FloatOps.mulf (Scalar.ofBits .f32 0x3F000000#32) y)
    (FloatOps.addf (Scalar.ofBits .f32 0x3F800000#32)
      (FloatOps.hostUnary .tanh (FloatOps.mulf (Scalar.ofBits .f32 0x3F4C422A#32)
        (FloatOps.addf y (FloatOps.mulf (Scalar.ofBits .f32 0x3D372713#32) (FloatOps.mulf (FloatOps.mulf y y) y))))))

/-- A chunk's rows of the result are the activation of its product. -/
theorem rows128_act (v : Vec F S2x64x2048 .f32) (w : Vec F S2048x128 .f32) (j : S128x128.Idx) :
    rows128 v w j = act (FloatOps.matmul (DotDims.plain 128 2048 128) none (shapeCast S128x2048 v shapeCasts_S2x64x2048_S128x2048)
      (shapeCast S2048x128 w shapeCasts_S2048x128_S2048x128) (constant S128x128 .f32 0x00000000#32) j) := rfl

/-- A half slot's rows of the result are the activation of its product. -/
theorem rows64_act (v : Vec F S1x64x2048 .f32) (w : Vec F S2048x128 .f32) (j : S64x128.Idx) :
    rows64 v w j = act (FloatOps.matmul (DotDims.plain 64 2048 128) none (shapeCast S64x2048 v shapeCasts_S1x64x2048_S64x2048)
      (shapeCast S2048x128 w shapeCasts_S2048x128_S2048x128) (constant S64x128 .f32 0x00000000#32) j) := rfl
end Act

/-- Over the reals the two orders of the cube agree. -/
theorem hostAct_eq (y : Ideal .f32) : hostAct y = act y := by
  unfold hostAct act
  simp only [Ideal.mulf_def, Ideal.addf_def, Ideal.tanh_def, Ideal.hostUnary_tanh_def, mul_assoc]

/-! ## One element of the result -/

/-- A product at one element is the sum along the row and the column, onto what was there. -/
theorem product {M N : ℕ} (l : FVec Ideal ⟨2, ![M, 2048]⟩ .f32) (r : FVec Ideal ⟨2, ![2048, N]⟩ .f32) (acc : FVec Ideal ⟨2, ![M, N]⟩ .f32)
    (hacc : ∀ j, acc j = 0) (j : (⟨2, ![M, N]⟩ : Shape).Idx) :
    FloatOps.matmul (DotDims.plain M 2048 N) none l r acc j = ∑ k : Fin 2048, l (ix2 (j 0) k) * r (ix2 k (j 1)) := by
  have hj : j = ix2 (show Fin M from j 0) (show Fin N from j 1) := Shape.idx_ext₂ rfl rfl
  refine (congrArg _ hj).trans ((Ideal.matmul_plain_apply none l r acc _ _).trans ?_)
  rw [hacc, zero_add]

/-- The zero the kernel's products start from. -/
theorem zero_at {s : Shape} (j : s.Idx) : (constant s .f32 0x00000000#32 : FVec Ideal s .f32) j = 0 := Ideal.ofBits_zero_f32

variable (m : (ℓ : Loc nD τ sig) → Buf (Elt Ideal) ℓ) (ρ : Dev nD → PrngReg)

/-- A device's rows of `x`. -/
abbrev xs (c : Dev nD) : S128x2048.Idx → Ideal .f32 := m ((c : Thread nD τ).loc main_arg0)
/-- A device's columns of `w`. -/
abbrev ws (c : Dev nD) : S2048x128.Idx → Ideal .f32 := m ((c : Thread nD τ).loc main_arg1)

/-- The row of its owner's `x` an element of the gathered buffer lies in. -/
def rowIn (i : S32x64x2048.Idx) : Fin 128 :=
  ⟨((i 0).val % 2) * 64 + (i 1).val, by have : (i 1).val < 64 := (i 1).isLt; omega⟩

/-- The gathered buffer holds its owner's rows. -/
theorem gath_at (i : S32x64x2048.Idx) : gath m ρ i = xs m (devOf i) (ix2 (rowIn i) (i 2)) := by
  unfold gath k0_pay1
  simp only [shapeCast_self]
  rw [xstg_eq]
  refine shapeCast_apply _ _ _ _ ?_
  rw [Shape.rowMajor_val_two, Shape.rowMajor_val_three]
  rfl

/-- One element of the result on a device: the activation of a row of `x` against a column of the device's `w`. -/
theorem outAt_at (c : Dev nD) (i : S2048x128.Idx) :
    outAt m ρ c i = act (∑ k : Fin 2048, xs m (ownerOf i) (ix2 ⟨(i 0).val % 128, Nat.mod_lt _ (by decide)⟩ k) * ws m c (ix2 k (i 1))) := by
  have hi : (i 0).val < 2048 := (i 0).isLt
  unfold outAt
  rw [wstg_eq]
  split
  · rw [rows64_act, product _ _ _ zero_at]
    refine congrArg act (Finset.sum_congr rfl fun k _ => ?_)
    rw [shapeCast_self, shapeCast_apply (k := (ix3 0 ((inBlock 64 i) 0) k : S1x64x2048.Idx))]
    · unfold halfOf
      rw [gath_at]
      refine congrArg₂ (· * ·) (congrArg₂ (xs m) (Fin.ext ?_) (Shape.idx_ext₂ ?_ ?_)) rfl
      · show ((i 0).val / 64 + 1 * 0) / 2 = (i 0).val / 128
        omega
      · show (((i 0).val / 64 + 1 * 0) % 2) * 64 + (0 + 1 * ((i 0).val % 64)) = (i 0).val % 128
        omega
      · show 0 + 1 * k.val = k.val
        omega
    · rw [Shape.rowMajor_val_two, Shape.rowMajor_val_three]
      show (0 * 64 + (i 0).val % 64) * 2048 + k.val = (i 0).val % 64 * 2048 + k.val
      omega
  · rw [rows128_act, product _ _ _ zero_at]
    refine congrArg act (Finset.sum_congr rfl fun k _ => ?_)
    rw [shapeCast_self, shapeCast_apply (k := (ix3 ⟨(i 0).val % 128 / 64, by omega⟩ ⟨(i 0).val % 64, by omega⟩ k : S2x64x2048.Idx))]
    · unfold chunkOf
      rw [gath_at]
      refine congrArg₂ (· * ·) (congrArg₂ (xs m) (Fin.ext ?_) (Shape.idx_ext₂ ?_ ?_)) rfl
      · show (2 * ((i 0).val / 128) + 1 * ((i 0).val % 128 / 64)) / 2 = (i 0).val / 128
        omega
      · show ((2 * ((i 0).val / 128) + 1 * ((i 0).val % 128 / 64)) % 2) * 64 + (0 + 1 * ((i 0).val % 64)) = (i 0).val % 128
        omega
      · show 0 + 1 * k.val = k.val
        omega
    · rw [Shape.rowMajor_val_two, Shape.rowMajor_val_three]
      show ((i 0).val % 128 / 64 * 64 + (i 0).val % 64) * 2048 + k.val = (i 0).val % 128 * 2048 + k.val
      omega

/-! ## The host's formula -/

/-- The product and activation of the whole arrays, as one device computes them. -/
def whole (X W : FVec Ideal ⟨2, ![2048, 2048]⟩ .f32) : FVec Ideal ⟨2, ![2048, 2048]⟩ .f32 := fun i =>
  hostAct (FloatOps.dotGeneral (DotDims.plain 2048 2048 2048) none .single X W i)

/-- One element of it: the same activation of the same sum. -/
theorem whole_at (X W : FVec Ideal ⟨2, ![2048, 2048]⟩ .f32) (i : (⟨2, ![2048, 2048]⟩ : Shape).Idx) :
    whole X W i = act (∑ k : Fin 2048, X (ix2 (i 0) k) * W (ix2 k (i 1))) :=
  (hostAct_eq _).trans (congrArg act (product X W (fun _ => 0) (fun _ => rfl) i))

/-- The result on a device is its columns of the whole product and activation. -/
theorem outAt_block (X W : FVec Ideal ⟨2, ![2048, 2048]⟩ .f32)
    (hx : ∀ c : Dev nD, m ((c : Thread nD τ).loc main_arg0) = Layout.block ⟨2, ![128, 2048]⟩ ⟨2, ![2048, 2048]⟩ 0 16 c X)
    (hw : ∀ c : Dev nD, m ((c : Thread nD τ).loc main_arg1) = Layout.block ⟨2, ![2048, 128]⟩ ⟨2, ![2048, 2048]⟩ 1 16 c W) (c : Dev nD) :
    outAt m ρ c = Layout.block ⟨2, ![2048, 128]⟩ ⟨2, ![2048, 2048]⟩ 1 16 c (whole X W) := by
  funext i
  rw [outAt_at]
  refine Eq.trans ?_ (whole_at X W _).symm
  refine congrArg act (Finset.sum_congr rfl fun k _ => congrArg₂ (· * ·) ?_ ?_)
  · refine (congrFun (hx (ownerOf i)) _).trans (congrArg X (Shape.idx_ext₂ ?_ rfl))
    show (i 0).val / 128 * 128 + (i 0).val % 128 = (i 0).val
    omega
  · exact (congrFun (hw c) _).trans (congrArg W (Shape.idx_ext₂ rfl rfl))

/-- The reference's run: its result is the whole product and activation of its arguments. -/
theorem reference_run (m' : (ℓ : Loc Cert.ReferenceIdeal.nD Cert.ReferenceIdeal.τ Cert.ReferenceIdeal.sig) → Buf (Elt Ideal) ℓ)
    (ρ' : Dev Cert.ReferenceIdeal.nD → PrngReg) :
    θ_run Cert.ReferenceIdeal.defs (onTc (τ := Cert.ReferenceIdeal.τ) (Cert.ReferenceIdeal.main (F := Ideal))) ⟨m', fun _ => 0, ρ'⟩ (fun r =>
      ∀ c : Dev Cert.ReferenceIdeal.nD,
        r.2.mem ((c.tc : Thread Cert.ReferenceIdeal.nD Cert.ReferenceIdeal.τ).loc Cert.ReferenceIdeal.main_v13)
            = whole (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run Cert.ReferenceIdeal.defs _ _).mono (fun _ h c => ⟨(h c).1.trans (funext fun _ => rfl), (h c).2⟩)
    (Cert.ReferenceIdeal.Value.run m' ρ')

end Cert.KernelIdeal.AG
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Ends
public import proofs.«01_k».proof.Proof.KernelIdeal.Ends
public import proofs.«01_k».proof.Proof.KernelIdeal.Value

@[expose] public section

noncomputable section

namespace Cert.Proof

open Idealize.ShloMosaic Idealize.SL.Sem

/-- The kernel as printed runs to a quiescent end with its arguments unchanged. -/
theorem frame_kernel : Cert.quiescent_Kernel (hKernel := Cert.Kernel.Gen.facts) := fun m ρ _ =>
  (θ_run _ _ _).mono (fun _ h => ⟨fun c => (h.1 c).2, h.2⟩) (Cert.Kernel.AG.run_ends m ρ)

/-- The kernel over the reals does too. -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdeal.AG.run_ends m ρ)

/-- The reference does too; it has no semaphore. -/
theorem frame_reference : Cert.quiescent_ReferenceIdeal (hReferenceIdeal := Cert.ReferenceIdeal.Gen.facts) := fun m ρ _ =>
  (θ_run _ _ _).mono (fun _ h => ⟨fun c => (h c).2, funext fun ⟨_, sm⟩ => by
    cases sm with
    | reg i => exact i.elim0
    | dma i => exact i.elim0⟩) (Cert.KernelIdeal.AG.reference_run m ρ)

/-- Over the reals every device ends with its columns of what the reference ends with. -/
theorem values : Cert.algebraic_KernelIdeal_ReferenceIdeal (hKernelIdeal := Cert.KernelIdeal.Gen.facts)
    (hReferenceIdeal := Cert.ReferenceIdeal.Gen.facts) := fun m ρ m' ρ' _ hargs =>
  ⟨Cert.KernelIdeal.AG.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c =>
      ⟨(h.1 c).1.trans (Cert.KernelIdeal.AG.outAt_block m ρ _ _ (fun d => (hargs d).1) (fun d => (hargs d).2) c), (h.1 c).2⟩)
      (Cert.KernelIdeal.AG.run_ends m ρ),
    (θ_run _ _ _).mono (fun _ h => h 0) (Cert.KernelIdeal.AG.reference_run m' ρ')⟩

theorem claim : Cert.Claim := ⟨Cert.Kernel.Gen.facts, Cert.KernelIdeal.Gen.facts, Cert.ReferenceIdeal.Gen.facts,
  frame_kernel, frame_ideal, frame_reference, trivial, values⟩

end Cert.Proof

end
